-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_and_sinks [hPre_finite_qk_and_sinks : Cert.Pre_finite_qk_and_sinks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_and_sinks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_and_sinks [hPre_finite_qk_and_sinks : Cert.Pre_finite_qk_and_sinks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_and_sinks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_finite_u_and_gate_columns [hPre_finite_u_and_gate_columns : Cert.Pre_finite_u_and_gate_columns.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_finite_u_and_gate_columns.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_finite_u_and_gate_columns [hPre_finite_u_and_gate_columns : Cert.Pre_finite_u_and_gate_columns.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_finite_u_and_gate_columns.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_act_weights_and_gate [hPre_finite_act_weights_and_gate : Cert.Pre_finite_act_weights_and_gate.Facts] (m : (ℓ : Loc Cert.DownIdeal.nD Cert.DownIdeal.τ Cert.DownIdeal.sig) → Buf (Elt Ideal) ℓ) : Prop :=
  ∀ c : Dev Cert.DownIdeal.nD,
    (Cert.Pre_finite_act_weights_and_gate.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_act_weights_and_gate [hPre_finite_act_weights_and_gate : Cert.Pre_finite_act_weights_and_gate.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_act_weights_and_gate.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_HgrnQ (m : (ℓ : Loc Cert.HgrnQ.nD Cert.HgrnQ.τ Cert.HgrnQ.sig) → Buf (Elt Bits) ℓ) : Prop :=
  True

def Pre_HgrnQIdeal (m : (ℓ : Loc Cert.HgrnQIdeal.nD Cert.HgrnQIdeal.τ Cert.HgrnQIdeal.sig) → Buf (Elt Ideal) ℓ) : Prop :=
  True

def Pre_HgrnQIdeal_finite_u_and_q_columns [hPre_finite_u_and_q_columns : Cert.Pre_finite_u_and_q_columns.Facts] (m : (ℓ : Loc Cert.HgrnQIdeal.nD Cert.HgrnQIdeal.τ Cert.HgrnQIdeal.sig) → Buf (Elt Ideal) ℓ) : Prop :=
  ∀ c : Dev Cert.HgrnQIdeal.nD,
    (Cert.Pre_finite_u_and_q_columns.fn (F := Ideal) (m ((c.tc : Thread Cert.HgrnQIdeal.nD Cert.HgrnQIdeal.τ).loc Cert.HgrnQIdeal.main_arg0)) (m ((c.tc : Thread Cert.HgrnQIdeal.nD Cert.HgrnQIdeal.τ).loc Cert.HgrnQIdeal.main_arg1))) = (fun _ => 1#1)

def Pre_HgrnQRefIdeal (m : (ℓ : Loc Cert.HgrnQRefIdeal.nD Cert.HgrnQRefIdeal.τ Cert.HgrnQRefIdeal.sig) → Buf (Elt Ideal) ℓ) : Prop :=
  True

def Pre_HgrnQRefIdeal_finite_u_and_q_columns [hPre_finite_u_and_q_columns : Cert.Pre_finite_u_and_q_columns.Facts] (m : (ℓ : Loc Cert.HgrnQRefIdeal.nD Cert.HgrnQRefIdeal.τ Cert.HgrnQRefIdeal.sig) → Buf (Elt Ideal) ℓ) : Prop :=
  ∀ c : Dev Cert.HgrnQRefIdeal.nD,
    (Cert.Pre_finite_u_and_q_columns.fn (F := Ideal) (m ((c.tc : Thread Cert.HgrnQRefIdeal.nD Cert.HgrnQRefIdeal.τ).loc Cert.HgrnQRefIdeal.main_arg0)) (m ((c.tc : Thread Cert.HgrnQRefIdeal.nD Cert.HgrnQRefIdeal.τ).loc Cert.HgrnQRefIdeal.main_arg1))) = (fun _ => 1#1)

def Pre_HgrnF (m : (ℓ : Loc Cert.HgrnF.nD Cert.HgrnF.τ Cert.HgrnF.sig) → Buf (Elt Bits) ℓ) : Prop :=
  True

def Pre_HgrnFIdeal (m : (ℓ : Loc Cert.HgrnFIdeal.nD Cert.HgrnFIdeal.τ Cert.HgrnFIdeal.sig) → Buf (Elt Ideal) ℓ) : Prop :=
  True

def Pre_HgrnFRefIdeal (m : (ℓ : Loc Cert.HgrnFRefIdeal.nD Cert.HgrnFRefIdeal.τ Cert.HgrnFRefIdeal.sig) → Buf (Elt Ideal) ℓ) : Prop :=
  True

def Pre_HgrnI (m : (ℓ : Loc Cert.HgrnI.nD Cert.HgrnI.τ Cert.HgrnI.sig) → Buf (Elt Bits) ℓ) : Prop :=
  True

def Pre_HgrnIIdeal (m : (ℓ : Loc Cert.HgrnIIdeal.nD Cert.HgrnIIdeal.τ Cert.HgrnIIdeal.sig) → Buf (Elt Ideal) ℓ) : Prop :=
  True

def Pre_HgrnIRefIdeal (m : (ℓ : Loc Cert.HgrnIRefIdeal.nD Cert.HgrnIRefIdeal.τ Cert.HgrnIRefIdeal.sig) → Buf (Elt Ideal) ℓ) : Prop :=
  True

def Pre_HgrnG (m : (ℓ : Loc Cert.HgrnG.nD Cert.HgrnG.τ Cert.HgrnG.sig) → Buf (Elt Bits) ℓ) : Prop :=
  True

def Pre_HgrnGIdeal (m : (ℓ : Loc Cert.HgrnGIdeal.nD Cert.HgrnGIdeal.τ Cert.HgrnGIdeal.sig) → Buf (Elt Ideal) ℓ) : Prop :=
  True

def Pre_HgrnGRefIdeal (m : (ℓ : Loc Cert.HgrnGRefIdeal.nD Cert.HgrnGRefIdeal.τ Cert.HgrnGRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qk_and_sinks [hKernelIdeal : Cert.KernelIdeal.Facts] [hPre_finite_qk_and_sinks : Cert.Pre_finite_qk_and_sinks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_and_sinks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qk_and_sinks [hReferenceIdeal : Cert.ReferenceIdeal.Facts] [hPre_finite_qk_and_sinks : Cert.Pre_finite_qk_and_sinks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_and_sinks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpIdeal_pre_finite_u_and_gate_columns [hGateUpIdeal : Cert.GateUpIdeal.Facts] [hPre_finite_u_and_gate_columns : Cert.Pre_finite_u_and_gate_columns.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_finite_u_and_gate_columns m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUpRefIdeal_pre_finite_u_and_gate_columns [hGateUpRefIdeal : Cert.GateUpRefIdeal.Facts] [hPre_finite_u_and_gate_columns : Cert.Pre_finite_u_and_gate_columns.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_finite_u_and_gate_columns m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_act_weights_and_gate [hDownIdeal : Cert.DownIdeal.Facts] [hPre_finite_act_weights_and_gate : Cert.Pre_finite_act_weights_and_gate.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_act_weights_and_gate m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite_act_weights_and_gate [hDownRefIdeal : Cert.DownRefIdeal.Facts] [hPre_finite_act_weights_and_gate : Cert.Pre_finite_act_weights_and_gate.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_act_weights_and_gate m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_HgrnQ [hHgrnQ : Cert.HgrnQ.Facts] : Prop :=
  ∀ (m : (ℓ : Loc Cert.HgrnQ.nD Cert.HgrnQ.τ Cert.HgrnQ.sig) → Buf (Elt Bits) ℓ) (g : Dev Cert.HgrnQ.nD → PrngReg), Pre_HgrnQ m →
    θ_run (Cert.HgrnQ.defs (F := Bits)) (onTc (τ := Cert.HgrnQ.τ) (Cert.HgrnQ.main (F := Bits))) ⟨m, fun _ => 0, g⟩ (fun r => (∀ c : Dev Cert.HgrnQ.nD,
      r.2.mem ((c.tc : Thread Cert.HgrnQ.nD Cert.HgrnQ.τ).loc Cert.HgrnQ.main_arg0) = m ((c.tc : Thread Cert.HgrnQ.nD Cert.HgrnQ.τ).loc Cert.HgrnQ.main_arg0)
      ∧ r.2.mem ((c.tc : Thread Cert.HgrnQ.nD Cert.HgrnQ.τ).loc Cert.HgrnQ.main_arg1) = m ((c.tc : Thread Cert.HgrnQ.nD Cert.HgrnQ.τ).loc Cert.HgrnQ.main_arg1))
      ∧ r.2.sem = fun _ => 0)

def quiescent_HgrnQIdeal [hHgrnQIdeal : Cert.HgrnQIdeal.Facts] : Prop :=
  ∀ (m : (ℓ : Loc Cert.HgrnQIdeal.nD Cert.HgrnQIdeal.τ Cert.HgrnQIdeal.sig) → Buf (Elt Ideal) ℓ) (g : Dev Cert.HgrnQIdeal.nD → PrngReg), Pre_HgrnQIdeal m →
    θ_run (Cert.HgrnQIdeal.defs (F := Ideal)) (onTc (τ := Cert.HgrnQIdeal.τ) (Cert.HgrnQIdeal.main (F := Ideal))) ⟨m, fun _ => 0, g⟩ (fun r => (∀ c : Dev Cert.HgrnQIdeal.nD,
      r.2.mem ((c.tc : Thread Cert.HgrnQIdeal.nD Cert.HgrnQIdeal.τ).loc Cert.HgrnQIdeal.main_arg0) = m ((c.tc : Thread Cert.HgrnQIdeal.nD Cert.HgrnQIdeal.τ).loc Cert.HgrnQIdeal.main_arg0)
      ∧ r.2.mem ((c.tc : Thread Cert.HgrnQIdeal.nD Cert.HgrnQIdeal.τ).loc Cert.HgrnQIdeal.main_arg1) = m ((c.tc : Thread Cert.HgrnQIdeal.nD Cert.HgrnQIdeal.τ).loc Cert.HgrnQIdeal.main_arg1))
      ∧ r.2.sem = fun _ => 0)

def quiescent_HgrnQIdeal_pre_finite_u_and_q_columns [hHgrnQIdeal : Cert.HgrnQIdeal.Facts] [hPre_finite_u_and_q_columns : Cert.Pre_finite_u_and_q_columns.Facts] : Prop :=
  ∀ (m : (ℓ : Loc Cert.HgrnQIdeal.nD Cert.HgrnQIdeal.τ Cert.HgrnQIdeal.sig) → Buf (Elt Ideal) ℓ) (g : Dev Cert.HgrnQIdeal.nD → PrngReg), Pre_HgrnQIdeal_finite_u_and_q_columns m →
    θ_run (Cert.HgrnQIdeal.defs (F := Ideal)) (onTc (τ := Cert.HgrnQIdeal.τ) (Cert.HgrnQIdeal.main (F := Ideal))) ⟨m, fun _ => 0, g⟩ (fun r => (∀ c : Dev Cert.HgrnQIdeal.nD,
      r.2.mem ((c.tc : Thread Cert.HgrnQIdeal.nD Cert.HgrnQIdeal.τ).loc Cert.HgrnQIdeal.main_arg0) = m ((c.tc : Thread Cert.HgrnQIdeal.nD Cert.HgrnQIdeal.τ).loc Cert.HgrnQIdeal.main_arg0)
      ∧ r.2.mem ((c.tc : Thread Cert.HgrnQIdeal.nD Cert.HgrnQIdeal.τ).loc Cert.HgrnQIdeal.main_arg1) = m ((c.tc : Thread Cert.HgrnQIdeal.nD Cert.HgrnQIdeal.τ).loc Cert.HgrnQIdeal.main_arg1))
      ∧ r.2.sem = fun _ => 0)

def quiescent_HgrnQRefIdeal [hHgrnQRefIdeal : Cert.HgrnQRefIdeal.Facts] : Prop :=
  ∀ (m : (ℓ : Loc Cert.HgrnQRefIdeal.nD Cert.HgrnQRefIdeal.τ Cert.HgrnQRefIdeal.sig) → Buf (Elt Ideal) ℓ) (g : Dev Cert.HgrnQRefIdeal.nD → PrngReg), Pre_HgrnQRefIdeal m →
    θ_run (Cert.HgrnQRefIdeal.defs (F := Ideal)) (onTc (τ := Cert.HgrnQRefIdeal.τ) (Cert.HgrnQRefIdeal.main (F := Ideal))) ⟨m, fun _ => 0, g⟩ (fun r => (∀ c : Dev Cert.HgrnQRefIdeal.nD,
      r.2.mem ((c.tc : Thread Cert.HgrnQRefIdeal.nD Cert.HgrnQRefIdeal.τ).loc Cert.HgrnQRefIdeal.main_arg0) = m ((c.tc : Thread Cert.HgrnQRefIdeal.nD Cert.HgrnQRefIdeal.τ).loc Cert.HgrnQRefIdeal.main_arg0)
      ∧ r.2.mem ((c.tc : Thread Cert.HgrnQRefIdeal.nD Cert.HgrnQRefIdeal.τ).loc Cert.HgrnQRefIdeal.main_arg1) = m ((c.tc : Thread Cert.HgrnQRefIdeal.nD Cert.HgrnQRefIdeal.τ).loc Cert.HgrnQRefIdeal.main_arg1))
      ∧ r.2.sem = fun _ => 0)

def quiescent_HgrnQRefIdeal_pre_finite_u_and_q_columns [hHgrnQRefIdeal : Cert.HgrnQRefIdeal.Facts] [hPre_finite_u_and_q_columns : Cert.Pre_finite_u_and_q_columns.Facts] : Prop :=
  ∀ (m : (ℓ : Loc Cert.HgrnQRefIdeal.nD Cert.HgrnQRefIdeal.τ Cert.HgrnQRefIdeal.sig) → Buf (Elt Ideal) ℓ) (g : Dev Cert.HgrnQRefIdeal.nD → PrngReg), Pre_HgrnQRefIdeal_finite_u_and_q_columns m →
    θ_run (Cert.HgrnQRefIdeal.defs (F := Ideal)) (onTc (τ := Cert.HgrnQRefIdeal.τ) (Cert.HgrnQRefIdeal.main (F := Ideal))) ⟨m, fun _ => 0, g⟩ (fun r => (∀ c : Dev Cert.HgrnQRefIdeal.nD,
      r.2.mem ((c.tc : Thread Cert.HgrnQRefIdeal.nD Cert.HgrnQRefIdeal.τ).loc Cert.HgrnQRefIdeal.main_arg0) = m ((c.tc : Thread Cert.HgrnQRefIdeal.nD Cert.HgrnQRefIdeal.τ).loc Cert.HgrnQRefIdeal.main_arg0)
      ∧ r.2.mem ((c.tc : Thread Cert.HgrnQRefIdeal.nD Cert.HgrnQRefIdeal.τ).loc Cert.HgrnQRefIdeal.main_arg1) = m ((c.tc : Thread Cert.HgrnQRefIdeal.nD Cert.HgrnQRefIdeal.τ).loc Cert.HgrnQRefIdeal.main_arg1))
      ∧ r.2.sem = fun _ => 0)

def quiescent_HgrnF [hHgrnF : Cert.HgrnF.Facts] : Prop :=
  ∀ (m : (ℓ : Loc Cert.HgrnF.nD Cert.HgrnF.τ Cert.HgrnF.sig) → Buf (Elt Bits) ℓ) (g : Dev Cert.HgrnF.nD → PrngReg), Pre_HgrnF m →
    θ_run (Cert.HgrnF.defs (F := Bits)) (onTc (τ := Cert.HgrnF.τ) (Cert.HgrnF.main (F := Bits))) ⟨m, fun _ => 0, g⟩ (fun r => (∀ c : Dev Cert.HgrnF.nD,
      r.2.mem ((c.tc : Thread Cert.HgrnF.nD Cert.HgrnF.τ).loc Cert.HgrnF.main_arg0) = m ((c.tc : Thread Cert.HgrnF.nD Cert.HgrnF.τ).loc Cert.HgrnF.main_arg0)
      ∧ r.2.mem ((c.tc : Thread Cert.HgrnF.nD Cert.HgrnF.τ).loc Cert.HgrnF.main_arg1) = m ((c.tc : Thread Cert.HgrnF.nD Cert.HgrnF.τ).loc Cert.HgrnF.main_arg1))
      ∧ r.2.sem = fun _ => 0)

def quiescent_HgrnFIdeal [hHgrnFIdeal : Cert.HgrnFIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1))
      ∧ r.2.sem = fun _ => 0)

def quiescent_HgrnFRefIdeal [hHgrnFRefIdeal : Cert.HgrnFRefIdeal.Facts] : Prop :=
  ∀ (m : (ℓ : Loc Cert.HgrnFRefIdeal.nD Cert.HgrnFRefIdeal.τ Cert.HgrnFRefIdeal.sig) → Buf (Elt Ideal) ℓ) (g : Dev Cert.HgrnFRefIdeal.nD → PrngReg), Pre_HgrnFRefIdeal m →
    θ_run (Cert.HgrnFRefIdeal.defs (F := Ideal)) (onTc (τ := Cert.HgrnFRefIdeal.τ) (Cert.HgrnFRefIdeal.main (F := Ideal))) ⟨m, fun _ => 0, g⟩ (fun r => (∀ c : Dev Cert.HgrnFRefIdeal.nD,
      r.2.mem ((c.tc : Thread Cert.HgrnFRefIdeal.nD Cert.HgrnFRefIdeal.τ).loc Cert.HgrnFRefIdeal.main_arg0) = m ((c.tc : Thread Cert.HgrnFRefIdeal.nD Cert.HgrnFRefIdeal.τ).loc Cert.HgrnFRefIdeal.main_arg0)
      ∧ r.2.mem ((c.tc : Thread Cert.HgrnFRefIdeal.nD Cert.HgrnFRefIdeal.τ).loc Cert.HgrnFRefIdeal.main_arg1) = m ((c.tc : Thread Cert.HgrnFRefIdeal.nD Cert.HgrnFRefIdeal.τ).loc Cert.HgrnFRefIdeal.main_arg1))
      ∧ r.2.sem = fun _ => 0)

def quiescent_HgrnI [hHgrnI : Cert.HgrnI.Facts] : Prop :=
  ∀ (m : (ℓ : Loc Cert.HgrnI.nD Cert.HgrnI.τ Cert.HgrnI.sig) → Buf (Elt Bits) ℓ) (g : Dev Cert.HgrnI.nD → PrngReg), Pre_HgrnI m →
    θ_run (Cert.HgrnI.defs (F := Bits)) (onTc (τ := Cert.HgrnI.τ) (Cert.HgrnI.main (F := Bits))) ⟨m, fun _ => 0, g⟩ (fun r => (∀ c : Dev Cert.HgrnI.nD,
      r.2.mem ((c.tc : Thread Cert.HgrnI.nD Cert.HgrnI.τ).loc Cert.HgrnI.main_arg0) = m ((c.tc : Thread Cert.HgrnI.nD Cert.HgrnI.τ).loc Cert.HgrnI.main_arg0)
      ∧ r.2.mem ((c.tc : Thread Cert.HgrnI.nD Cert.HgrnI.τ).loc Cert.HgrnI.main_arg1) = m ((c.tc : Thread Cert.HgrnI.nD Cert.HgrnI.τ).loc Cert.HgrnI.main_arg1))
      ∧ r.2.sem = fun _ => 0)

def quiescent_HgrnIIdeal [hHgrnIIdeal : Cert.HgrnIIdeal.Facts] : Prop :=
  ∀ (m : (ℓ : Loc Cert.HgrnIIdeal.nD Cert.HgrnIIdeal.τ Cert.HgrnIIdeal.sig) → Buf (Elt Ideal) ℓ) (g : Dev Cert.HgrnIIdeal.nD → PrngReg), Pre_HgrnIIdeal m →
    θ_run (Cert.HgrnIIdeal.defs (F := Ideal)) (onTc (τ := Cert.HgrnIIdeal.τ) (Cert.HgrnIIdeal.main (F := Ideal))) ⟨m, fun _ => 0, g⟩ (fun r => (∀ c : Dev Cert.HgrnIIdeal.nD,
      r.2.mem ((c.tc : Thread Cert.HgrnIIdeal.nD Cert.HgrnIIdeal.τ).loc Cert.HgrnIIdeal.main_arg0) = m ((c.tc : Thread Cert.HgrnIIdeal.nD Cert.HgrnIIdeal.τ).loc Cert.HgrnIIdeal.main_arg0)
      ∧ r.2.mem ((c.tc : Thread Cert.HgrnIIdeal.nD Cert.HgrnIIdeal.τ).loc Cert.HgrnIIdeal.main_arg1) = m ((c.tc : Thread Cert.HgrnIIdeal.nD Cert.HgrnIIdeal.τ).loc Cert.HgrnIIdeal.main_arg1))
      ∧ r.2.sem = fun _ => 0)

def quiescent_HgrnIRefIdeal [hHgrnIRefIdeal : Cert.HgrnIRefIdeal.Facts] : Prop :=
  ∀ (m : (ℓ : Loc Cert.HgrnIRefIdeal.nD Cert.HgrnIRefIdeal.τ Cert.HgrnIRefIdeal.sig) → Buf (Elt Ideal) ℓ) (g : Dev Cert.HgrnIRefIdeal.nD → PrngReg), Pre_HgrnIRefIdeal m →
    θ_run (Cert.HgrnIRefIdeal.defs (F := Ideal)) (onTc (τ := Cert.HgrnIRefIdeal.τ) (Cert.HgrnIRefIdeal.main (F := Ideal))) ⟨m, fun _ => 0, g⟩ (fun r => (∀ c : Dev Cert.HgrnIRefIdeal.nD,
      r.2.mem ((c.tc : Thread Cert.HgrnIRefIdeal.nD Cert.HgrnIRefIdeal.τ).loc Cert.HgrnIRefIdeal.main_arg0) = m ((c.tc : Thread Cert.HgrnIRefIdeal.nD Cert.HgrnIRefIdeal.τ).loc Cert.HgrnIRefIdeal.main_arg0)
      ∧ r.2.mem ((c.tc : Thread Cert.HgrnIRefIdeal.nD Cert.HgrnIRefIdeal.τ).loc Cert.HgrnIRefIdeal.main_arg1) = m ((c.tc : Thread Cert.HgrnIRefIdeal.nD Cert.HgrnIRefIdeal.τ).loc Cert.HgrnIRefIdeal.main_arg1))
      ∧ r.2.sem = fun _ => 0)

def quiescent_HgrnG [hHgrnG : Cert.HgrnG.Facts] : Prop :=
  ∀ (m : (ℓ : Loc Cert.HgrnG.nD Cert.HgrnG.τ Cert.HgrnG.sig) → Buf (Elt Bits) ℓ) (g : Dev Cert.HgrnG.nD → PrngReg), Pre_HgrnG m →
    θ_run (Cert.HgrnG.defs (F := Bits)) (onTc (τ := Cert.HgrnG.τ) (Cert.HgrnG.main (F := Bits))) ⟨m, fun _ => 0, g⟩ (fun r => (∀ c : Dev Cert.HgrnG.nD,
      r.2.mem ((c.tc : Thread Cert.HgrnG.nD Cert.HgrnG.τ).loc Cert.HgrnG.main_arg0) = m ((c.tc : Thread Cert.HgrnG.nD Cert.HgrnG.τ).loc Cert.HgrnG.main_arg0)
      ∧ r.2.mem ((c.tc : Thread Cert.HgrnG.nD Cert.HgrnG.τ).loc Cert.HgrnG.main_arg1) = m ((c.tc : Thread Cert.HgrnG.nD Cert.HgrnG.τ).loc Cert.HgrnG.main_arg1))
      ∧ r.2.sem = fun _ => 0)

def quiescent_HgrnGIdeal [hHgrnGIdeal : Cert.HgrnGIdeal.Facts] : Prop :=
  ∀ (m : (ℓ : Loc Cert.HgrnGIdeal.nD Cert.HgrnGIdeal.τ Cert.HgrnGIdeal.sig) → Buf (Elt Ideal) ℓ) (g : Dev Cert.HgrnGIdeal.nD → PrngReg), Pre_HgrnGIdeal m →
    θ_run (Cert.HgrnGIdeal.defs (F := Ideal)) (onTc (τ := Cert.HgrnGIdeal.τ) (Cert.HgrnGIdeal.main (F := Ideal))) ⟨m, fun _ => 0, g⟩ (fun r => (∀ c : Dev Cert.HgrnGIdeal.nD,
      r.2.mem ((c.tc : Thread Cert.HgrnGIdeal.nD Cert.HgrnGIdeal.τ).loc Cert.HgrnGIdeal.main_arg0) = m ((c.tc : Thread Cert.HgrnGIdeal.nD Cert.HgrnGIdeal.τ).loc Cert.HgrnGIdeal.main_arg0)
      ∧ r.2.mem ((c.tc : Thread Cert.HgrnGIdeal.nD Cert.HgrnGIdeal.τ).loc Cert.HgrnGIdeal.main_arg1) = m ((c.tc : Thread Cert.HgrnGIdeal.nD Cert.HgrnGIdeal.τ).loc Cert.HgrnGIdeal.main_arg1))
      ∧ r.2.sem = fun _ => 0)

def quiescent_HgrnGRefIdeal [hHgrnGRefIdeal : Cert.HgrnGRefIdeal.Facts] : Prop :=
  ∀ (m : (ℓ : Loc Cert.HgrnGRefIdeal.nD Cert.HgrnGRefIdeal.τ Cert.HgrnGRefIdeal.sig) → Buf (Elt Ideal) ℓ) (g : Dev Cert.HgrnGRefIdeal.nD → PrngReg), Pre_HgrnGRefIdeal m →
    θ_run (Cert.HgrnGRefIdeal.defs (F := Ideal)) (onTc (τ := Cert.HgrnGRefIdeal.τ) (Cert.HgrnGRefIdeal.main (F := Ideal))) ⟨m, fun _ => 0, g⟩ (fun r => (∀ c : Dev Cert.HgrnGRefIdeal.nD,
      r.2.mem ((c.tc : Thread Cert.HgrnGRefIdeal.nD Cert.HgrnGRefIdeal.τ).loc Cert.HgrnGRefIdeal.main_arg0) = m ((c.tc : Thread Cert.HgrnGRefIdeal.nD Cert.HgrnGRefIdeal.τ).loc Cert.HgrnGRefIdeal.main_arg0)
      ∧ r.2.mem ((c.tc : Thread Cert.HgrnGRefIdeal.nD Cert.HgrnGRefIdeal.τ).loc Cert.HgrnGRefIdeal.main_arg1) = m ((c.tc : Thread Cert.HgrnGRefIdeal.nD Cert.HgrnGRefIdeal.τ).loc Cert.HgrnGRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def preserves_Kernel_KernelIdeal : Prop :=
  True

def algebraic_KernelIdeal_ReferenceIdeal_pre_finite_qk_and_sinks [hKernelIdeal : Cert.KernelIdeal.Facts] [hReferenceIdeal : Cert.ReferenceIdeal.Facts] [hPre_finite_qk_and_sinks : Cert.Pre_finite_qk_and_sinks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_and_sinks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_GateUp_GateUpIdeal : Prop :=
  True

def algebraic_GateUpIdeal_GateUpRefIdeal_pre_finite_u_and_gate_columns [hGateUpIdeal : Cert.GateUpIdeal.Facts] [hGateUpRefIdeal : Cert.GateUpRefIdeal.Facts] [hPre_finite_u_and_gate_columns : Cert.Pre_finite_u_and_gate_columns.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_finite_u_and_gate_columns m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v7) = v0 c
          ∧ r.2.mem ((c.tc : Thread Cert.GateUpRefIdeal.nD Cert.GateUpRefIdeal.τ).loc Cert.GateUpRefIdeal.main_v10) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal_pre_finite_act_weights_and_gate [hDownIdeal : Cert.DownIdeal.Facts] [hDownRefIdeal : Cert.DownRefIdeal.Facts] [hPre_finite_act_weights_and_gate : Cert.Pre_finite_act_weights_and_gate.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_act_weights_and_gate m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v14) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v13) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_HgrnQ_HgrnQIdeal : Prop :=
  True

def algebraic_HgrnQIdeal_HgrnQRefIdeal_pre_finite_u_and_q_columns [hHgrnQIdeal : Cert.HgrnQIdeal.Facts] [hHgrnQRefIdeal : Cert.HgrnQRefIdeal.Facts] [hPre_finite_u_and_q_columns : Cert.Pre_finite_u_and_q_columns.Facts] : Prop :=
  ∀ (m : (ℓ : Loc Cert.HgrnQIdeal.nD Cert.HgrnQIdeal.τ Cert.HgrnQIdeal.sig) → Buf (Elt Ideal) ℓ) (g : Dev Cert.HgrnQIdeal.nD → PrngReg)
    (m' : (ℓ : Loc Cert.HgrnQRefIdeal.nD Cert.HgrnQRefIdeal.τ Cert.HgrnQRefIdeal.sig) → Buf (Elt Ideal) ℓ) (g' : Dev Cert.HgrnQRefIdeal.nD → PrngReg), Pre_HgrnQIdeal_finite_u_and_q_columns m →
    (∀ c : Dev Cert.HgrnQIdeal.nD,
      m' ((c.tc : Thread Cert.HgrnQRefIdeal.nD Cert.HgrnQRefIdeal.τ).loc Cert.HgrnQRefIdeal.main_arg0) = m ((c.tc : Thread Cert.HgrnQIdeal.nD Cert.HgrnQIdeal.τ).loc Cert.HgrnQIdeal.main_arg0)
      ∧ m' ((c.tc : Thread Cert.HgrnQRefIdeal.nD Cert.HgrnQRefIdeal.τ).loc Cert.HgrnQRefIdeal.main_arg1) = m ((c.tc : Thread Cert.HgrnQIdeal.nD Cert.HgrnQIdeal.τ).loc Cert.HgrnQIdeal.main_arg1)) →
    ∃ (v0 : (c : Dev Cert.HgrnQIdeal.nD) → Buf (Elt Ideal) ((c.tc : Thread Cert.HgrnQIdeal.nD Cert.HgrnQIdeal.τ).loc Cert.HgrnQIdeal.main_v0)),
      θ_run (Cert.HgrnQIdeal.defs (F := Ideal)) (onTc (τ := Cert.HgrnQIdeal.τ) (Cert.HgrnQIdeal.main (F := Ideal))) ⟨m, fun _ => 0, g⟩ (fun r => ∀ c : Dev Cert.HgrnQIdeal.nD,
          r.2.mem ((c.tc : Thread Cert.HgrnQIdeal.nD Cert.HgrnQIdeal.τ).loc Cert.HgrnQIdeal.main_v0) = v0 c
          ∧ r.2.mem ((c.tc : Thread Cert.HgrnQIdeal.nD Cert.HgrnQIdeal.τ).loc Cert.HgrnQIdeal.main_arg0) = m ((c.tc : Thread Cert.HgrnQIdeal.nD Cert.HgrnQIdeal.τ).loc Cert.HgrnQIdeal.main_arg0)
          ∧ r.2.mem ((c.tc : Thread Cert.HgrnQIdeal.nD Cert.HgrnQIdeal.τ).loc Cert.HgrnQIdeal.main_arg1) = m ((c.tc : Thread Cert.HgrnQIdeal.nD Cert.HgrnQIdeal.τ).loc Cert.HgrnQIdeal.main_arg1))
      ∧ θ_run (Cert.HgrnQRefIdeal.defs (F := Ideal)) (onTc (τ := Cert.HgrnQRefIdeal.τ) (Cert.HgrnQRefIdeal.main (F := Ideal))) ⟨m', fun _ => 0, g'⟩ (fun r => ∀ c : Dev Cert.HgrnQRefIdeal.nD,
          r.2.mem ((c.tc : Thread Cert.HgrnQRefIdeal.nD Cert.HgrnQRefIdeal.τ).loc Cert.HgrnQRefIdeal.main_v8) = v0 c
          ∧ r.2.mem ((c.tc : Thread Cert.HgrnQRefIdeal.nD Cert.HgrnQRefIdeal.τ).loc Cert.HgrnQRefIdeal.main_arg0) = m' ((c.tc : Thread Cert.HgrnQRefIdeal.nD Cert.HgrnQRefIdeal.τ).loc Cert.HgrnQRefIdeal.main_arg0)
          ∧ r.2.mem ((c.tc : Thread Cert.HgrnQRefIdeal.nD Cert.HgrnQRefIdeal.τ).loc Cert.HgrnQRefIdeal.main_arg1) = m' ((c.tc : Thread Cert.HgrnQRefIdeal.nD Cert.HgrnQRefIdeal.τ).loc Cert.HgrnQRefIdeal.main_arg1))

def preserves_HgrnF_HgrnFIdeal : Prop :=
  True

def algebraic_HgrnFIdeal_HgrnFRefIdeal [hHgrnFIdeal : Cert.HgrnFIdeal.Facts] [hHgrnFRefIdeal : Cert.HgrnFRefIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg)
    (m' : (ℓ : Loc Cert.HgrnFRefIdeal.nD Cert.HgrnFRefIdeal.τ Cert.HgrnFRefIdeal.sig) → Buf (Elt Ideal) ℓ) (g' : Dev Cert.HgrnFRefIdeal.nD → PrngReg), Pre_HgrnFIdeal m →
    (∀ c : Dev Cert.HgrnFIdeal.nD,
      m' ((c.tc : Thread Cert.HgrnFRefIdeal.nD Cert.HgrnFRefIdeal.τ).loc Cert.HgrnFRefIdeal.main_arg0) = m ((c.tc : Thread Cert.HgrnFIdeal.nD Cert.HgrnFIdeal.τ).loc Cert.HgrnFIdeal.main_arg0)
      ∧ m' ((c.tc : Thread Cert.HgrnFRefIdeal.nD Cert.HgrnFRefIdeal.τ).loc Cert.HgrnFRefIdeal.main_arg1) = m ((c.tc : Thread Cert.HgrnFIdeal.nD Cert.HgrnFIdeal.τ).loc Cert.HgrnFIdeal.main_arg1)) →
    ∃ (v0 : (c : Dev Cert.HgrnFIdeal.nD) → Buf (Elt Ideal) ((c.tc : Thread Cert.HgrnFIdeal.nD Cert.HgrnFIdeal.τ).loc Cert.HgrnFIdeal.main_v0)),
      θ_run (Cert.HgrnFIdeal.defs (F := Ideal)) (onTc (τ := Cert.HgrnFIdeal.τ) (Cert.HgrnFIdeal.main (F := Ideal))) ⟨m, fun _ => 0, g⟩ (fun r => ∀ c : Dev Cert.HgrnFIdeal.nD,
          r.2.mem ((c.tc : Thread Cert.HgrnFIdeal.nD Cert.HgrnFIdeal.τ).loc Cert.HgrnFIdeal.main_v0) = v0 c
          ∧ r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
          ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1))
      ∧ θ_run (Cert.HgrnFRefIdeal.defs (F := Ideal)) (onTc (τ := Cert.HgrnFRefIdeal.τ) (Cert.HgrnFRefIdeal.main (F := Ideal))) ⟨m', fun _ => 0, g'⟩ (fun r => ∀ c : Dev Cert.HgrnFRefIdeal.nD,
          r.2.mem ((c.tc : Thread Cert.HgrnFRefIdeal.nD Cert.HgrnFRefIdeal.τ).loc Cert.HgrnFRefIdeal.main_v4) = v0 c
          ∧ r.2.mem ((c.tc : Thread Cert.HgrnFRefIdeal.nD Cert.HgrnFRefIdeal.τ).loc Cert.HgrnFRefIdeal.main_arg0) = m' ((c.tc : Thread Cert.HgrnFRefIdeal.nD Cert.HgrnFRefIdeal.τ).loc Cert.HgrnFRefIdeal.main_arg0)
          ∧ r.2.mem ((c.tc : Thread Cert.HgrnFRefIdeal.nD Cert.HgrnFRefIdeal.τ).loc Cert.HgrnFRefIdeal.main_arg1) = m' ((c.tc : Thread Cert.HgrnFRefIdeal.nD Cert.HgrnFRefIdeal.τ).loc Cert.HgrnFRefIdeal.main_arg1))

def preserves_HgrnI_HgrnIIdeal : Prop :=
  True

def algebraic_HgrnIIdeal_HgrnIRefIdeal [hHgrnIIdeal : Cert.HgrnIIdeal.Facts] [hHgrnIRefIdeal : Cert.HgrnIRefIdeal.Facts] : Prop :=
  ∀ (m : (ℓ : Loc Cert.HgrnIIdeal.nD Cert.HgrnIIdeal.τ Cert.HgrnIIdeal.sig) → Buf (Elt Ideal) ℓ) (g : Dev Cert.HgrnIIdeal.nD → PrngReg)
    (m' : (ℓ : Loc Cert.HgrnIRefIdeal.nD Cert.HgrnIRefIdeal.τ Cert.HgrnIRefIdeal.sig) → Buf (Elt Ideal) ℓ) (g' : Dev Cert.HgrnIRefIdeal.nD → PrngReg), Pre_HgrnIIdeal m →
    (∀ c : Dev Cert.HgrnIIdeal.nD,
      m' ((c.tc : Thread Cert.HgrnIRefIdeal.nD Cert.HgrnIRefIdeal.τ).loc Cert.HgrnIRefIdeal.main_arg0) = m ((c.tc : Thread Cert.HgrnIIdeal.nD Cert.HgrnIIdeal.τ).loc Cert.HgrnIIdeal.main_arg0)
      ∧ m' ((c.tc : Thread Cert.HgrnIRefIdeal.nD Cert.HgrnIRefIdeal.τ).loc Cert.HgrnIRefIdeal.main_arg1) = m ((c.tc : Thread Cert.HgrnIIdeal.nD Cert.HgrnIIdeal.τ).loc Cert.HgrnIIdeal.main_arg1)) →
    ∃ (v0 : (c : Dev Cert.HgrnIIdeal.nD) → Buf (Elt Ideal) ((c.tc : Thread Cert.HgrnIIdeal.nD Cert.HgrnIIdeal.τ).loc Cert.HgrnIIdeal.main_v0)),
      θ_run (Cert.HgrnIIdeal.defs (F := Ideal)) (onTc (τ := Cert.HgrnIIdeal.τ) (Cert.HgrnIIdeal.main (F := Ideal))) ⟨m, fun _ => 0, g⟩ (fun r => ∀ c : Dev Cert.HgrnIIdeal.nD,
          r.2.mem ((c.tc : Thread Cert.HgrnIIdeal.nD Cert.HgrnIIdeal.τ).loc Cert.HgrnIIdeal.main_v0) = v0 c
          ∧ r.2.mem ((c.tc : Thread Cert.HgrnIIdeal.nD Cert.HgrnIIdeal.τ).loc Cert.HgrnIIdeal.main_arg0) = m ((c.tc : Thread Cert.HgrnIIdeal.nD Cert.HgrnIIdeal.τ).loc Cert.HgrnIIdeal.main_arg0)
          ∧ r.2.mem ((c.tc : Thread Cert.HgrnIIdeal.nD Cert.HgrnIIdeal.τ).loc Cert.HgrnIIdeal.main_arg1) = m ((c.tc : Thread Cert.HgrnIIdeal.nD Cert.HgrnIIdeal.τ).loc Cert.HgrnIIdeal.main_arg1))
      ∧ θ_run (Cert.HgrnIRefIdeal.defs (F := Ideal)) (onTc (τ := Cert.HgrnIRefIdeal.τ) (Cert.HgrnIRefIdeal.main (F := Ideal))) ⟨m', fun _ => 0, g'⟩ (fun r => ∀ c : Dev Cert.HgrnIRefIdeal.nD,
          r.2.mem ((c.tc : Thread Cert.HgrnIRefIdeal.nD Cert.HgrnIRefIdeal.τ).loc Cert.HgrnIRefIdeal.main_v7) = v0 c
          ∧ r.2.mem ((c.tc : Thread Cert.HgrnIRefIdeal.nD Cert.HgrnIRefIdeal.τ).loc Cert.HgrnIRefIdeal.main_arg0) = m' ((c.tc : Thread Cert.HgrnIRefIdeal.nD Cert.HgrnIRefIdeal.τ).loc Cert.HgrnIRefIdeal.main_arg0)
          ∧ r.2.mem ((c.tc : Thread Cert.HgrnIRefIdeal.nD Cert.HgrnIRefIdeal.τ).loc Cert.HgrnIRefIdeal.main_arg1) = m' ((c.tc : Thread Cert.HgrnIRefIdeal.nD Cert.HgrnIRefIdeal.τ).loc Cert.HgrnIRefIdeal.main_arg1))

def preserves_HgrnG_HgrnGIdeal : Prop :=
  True

def algebraic_HgrnGIdeal_HgrnGRefIdeal [hHgrnGIdeal : Cert.HgrnGIdeal.Facts] [hHgrnGRefIdeal : Cert.HgrnGRefIdeal.Facts] : Prop :=
  ∀ (m : (ℓ : Loc Cert.HgrnGIdeal.nD Cert.HgrnGIdeal.τ Cert.HgrnGIdeal.sig) → Buf (Elt Ideal) ℓ) (g : Dev Cert.HgrnGIdeal.nD → PrngReg)
    (m' : (ℓ : Loc Cert.HgrnGRefIdeal.nD Cert.HgrnGRefIdeal.τ Cert.HgrnGRefIdeal.sig) → Buf (Elt Ideal) ℓ) (g' : Dev Cert.HgrnGRefIdeal.nD → PrngReg), Pre_HgrnGIdeal m →
    (∀ c : Dev Cert.HgrnGIdeal.nD,
      m' ((c.tc : Thread Cert.HgrnGRefIdeal.nD Cert.HgrnGRefIdeal.τ).loc Cert.HgrnGRefIdeal.main_arg0) = m ((c.tc : Thread Cert.HgrnGIdeal.nD Cert.HgrnGIdeal.τ).loc Cert.HgrnGIdeal.main_arg0)
      ∧ m' ((c.tc : Thread Cert.HgrnGRefIdeal.nD Cert.HgrnGRefIdeal.τ).loc Cert.HgrnGRefIdeal.main_arg1) = m ((c.tc : Thread Cert.HgrnGIdeal.nD Cert.HgrnGIdeal.τ).loc Cert.HgrnGIdeal.main_arg1)) →
    ∃ (v0 : (c : Dev Cert.HgrnGIdeal.nD) → Buf (Elt Ideal) ((c.tc : Thread Cert.HgrnGIdeal.nD Cert.HgrnGIdeal.τ).loc Cert.HgrnGIdeal.main_v0)),
      θ_run (Cert.HgrnGIdeal.defs (F := Ideal)) (onTc (τ := Cert.HgrnGIdeal.τ) (Cert.HgrnGIdeal.main (F := Ideal))) ⟨m, fun _ => 0, g⟩ (fun r => ∀ c : Dev Cert.HgrnGIdeal.nD,
          r.2.mem ((c.tc : Thread Cert.HgrnGIdeal.nD Cert.HgrnGIdeal.τ).loc Cert.HgrnGIdeal.main_v0) = v0 c
          ∧ r.2.mem ((c.tc : Thread Cert.HgrnGIdeal.nD Cert.HgrnGIdeal.τ).loc Cert.HgrnGIdeal.main_arg0) = m ((c.tc : Thread Cert.HgrnGIdeal.nD Cert.HgrnGIdeal.τ).loc Cert.HgrnGIdeal.main_arg0)
          ∧ r.2.mem ((c.tc : Thread Cert.HgrnGIdeal.nD Cert.HgrnGIdeal.τ).loc Cert.HgrnGIdeal.main_arg1) = m ((c.tc : Thread Cert.HgrnGIdeal.nD Cert.HgrnGIdeal.τ).loc Cert.HgrnGIdeal.main_arg1))
      ∧ θ_run (Cert.HgrnGRefIdeal.defs (F := Ideal)) (onTc (τ := Cert.HgrnGRefIdeal.τ) (Cert.HgrnGRefIdeal.main (F := Ideal))) ⟨m', fun _ => 0, g'⟩ (fun r => ∀ c : Dev Cert.HgrnGRefIdeal.nD,
          r.2.mem ((c.tc : Thread Cert.HgrnGRefIdeal.nD Cert.HgrnGRefIdeal.τ).loc Cert.HgrnGRefIdeal.main_v7) = v0 c
          ∧ r.2.mem ((c.tc : Thread Cert.HgrnGRefIdeal.nD Cert.HgrnGRefIdeal.τ).loc Cert.HgrnGRefIdeal.main_arg0) = m' ((c.tc : Thread Cert.HgrnGRefIdeal.nD Cert.HgrnGRefIdeal.τ).loc Cert.HgrnGRefIdeal.main_arg0)
          ∧ r.2.mem ((c.tc : Thread Cert.HgrnGRefIdeal.nD Cert.HgrnGRefIdeal.τ).loc Cert.HgrnGRefIdeal.main_arg1) = m' ((c.tc : Thread Cert.HgrnGRefIdeal.nD Cert.HgrnGRefIdeal.τ).loc Cert.HgrnGRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v12)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v39) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hHgrnQ : Cert.HgrnQ.Facts) (hHgrnQIdeal : Cert.HgrnQIdeal.Facts) (hHgrnQRefIdeal : Cert.HgrnQRefIdeal.Facts) (hHgrnF : Cert.HgrnF.Facts) (hHgrnFIdeal : Cert.HgrnFIdeal.Facts) (hHgrnFRefIdeal : Cert.HgrnFRefIdeal.Facts) (hHgrnI : Cert.HgrnI.Facts) (hHgrnIIdeal : Cert.HgrnIIdeal.Facts) (hHgrnIRefIdeal : Cert.HgrnIRefIdeal.Facts) (hHgrnG : Cert.HgrnG.Facts) (hHgrnGIdeal : Cert.HgrnGIdeal.Facts) (hHgrnGRefIdeal : Cert.HgrnGRefIdeal.Facts) (hQkv : Cert.Qkv.Facts) (hQkvIdeal : Cert.QkvIdeal.Facts) (hQkvRefIdeal : Cert.QkvRefIdeal.Facts) (hPre_finite_qk_and_sinks : Cert.Pre_finite_qk_and_sinks.Facts) (hPre_finite_u_and_gate_columns : Cert.Pre_finite_u_and_gate_columns.Facts) (hPre_finite_act_weights_and_gate : Cert.Pre_finite_act_weights_and_gate.Facts) (hPre_finite_u_and_q_columns : Cert.Pre_finite_u_and_q_columns.Facts),
    quiescent_Kernel (hKernel := hKernel)
    ∧ quiescent_KernelIdeal (hKernelIdeal := hKernelIdeal)
    ∧ quiescent_KernelIdeal_pre_finite_qk_and_sinks (hKernelIdeal := hKernelIdeal) (hPre_finite_qk_and_sinks := hPre_finite_qk_and_sinks)
    ∧ quiescent_ReferenceIdeal (hReferenceIdeal := hReferenceIdeal)
    ∧ quiescent_ReferenceIdeal_pre_finite_qk_and_sinks (hReferenceIdeal := hReferenceIdeal) (hPre_finite_qk_and_sinks := hPre_finite_qk_and_sinks)
    ∧ quiescent_GateUp (hGateUp := hGateUp)
    ∧ quiescent_GateUpIdeal (hGateUpIdeal := hGateUpIdeal)
    ∧ quiescent_GateUpIdeal_pre_finite_u_and_gate_columns (hGateUpIdeal := hGateUpIdeal) (hPre_finite_u_and_gate_columns := hPre_finite_u_and_gate_columns)
    ∧ quiescent_GateUpRefIdeal (hGateUpRefIdeal := hGateUpRefIdeal)
    ∧ quiescent_GateUpRefIdeal_pre_finite_u_and_gate_columns (hGateUpRefIdeal := hGateUpRefIdeal) (hPre_finite_u_and_gate_columns := hPre_finite_u_and_gate_columns)
    ∧ quiescent_Down (hDown := hDown)
    ∧ quiescent_DownIdeal (hDownIdeal := hDownIdeal)
    ∧ quiescent_DownIdeal_pre_finite_act_weights_and_gate (hDownIdeal := hDownIdeal) (hPre_finite_act_weights_and_gate := hPre_finite_act_weights_and_gate)
    ∧ quiescent_DownRefIdeal (hDownRefIdeal := hDownRefIdeal)
    ∧ quiescent_DownRefIdeal_pre_finite_act_weights_and_gate (hDownRefIdeal := hDownRefIdeal) (hPre_finite_act_weights_and_gate := hPre_finite_act_weights_and_gate)
    ∧ quiescent_Out (hOut := hOut)
    ∧ quiescent_OutIdeal (hOutIdeal := hOutIdeal)
    ∧ quiescent_OutRefIdeal (hOutRefIdeal := hOutRefIdeal)
    ∧ quiescent_HgrnQ (hHgrnQ := hHgrnQ)
    ∧ quiescent_HgrnQIdeal (hHgrnQIdeal := hHgrnQIdeal)
    ∧ quiescent_HgrnQIdeal_pre_finite_u_and_q_columns (hHgrnQIdeal := hHgrnQIdeal) (hPre_finite_u_and_q_columns := hPre_finite_u_and_q_columns)
    ∧ quiescent_HgrnQRefIdeal (hHgrnQRefIdeal := hHgrnQRefIdeal)
    ∧ quiescent_HgrnQRefIdeal_pre_finite_u_and_q_columns (hHgrnQRefIdeal := hHgrnQRefIdeal) (hPre_finite_u_and_q_columns := hPre_finite_u_and_q_columns)
    ∧ quiescent_HgrnF (hHgrnF := hHgrnF)
    ∧ quiescent_HgrnFIdeal (hHgrnFIdeal := hHgrnFIdeal)
    ∧ quiescent_HgrnFRefIdeal (hHgrnFRefIdeal := hHgrnFRefIdeal)
    ∧ quiescent_HgrnI (hHgrnI := hHgrnI)
    ∧ quiescent_HgrnIIdeal (hHgrnIIdeal := hHgrnIIdeal)
    ∧ quiescent_HgrnIRefIdeal (hHgrnIRefIdeal := hHgrnIRefIdeal)
    ∧ quiescent_HgrnG (hHgrnG := hHgrnG)
    ∧ quiescent_HgrnGIdeal (hHgrnGIdeal := hHgrnGIdeal)
    ∧ quiescent_HgrnGRefIdeal (hHgrnGRefIdeal := hHgrnGRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite_qk_and_sinks (hKernelIdeal := hKernelIdeal) (hReferenceIdeal := hReferenceIdeal) (hPre_finite_qk_and_sinks := hPre_finite_qk_and_sinks)
    ∧ preserves_GateUp_GateUpIdeal
    ∧ algebraic_GateUpIdeal_GateUpRefIdeal_pre_finite_u_and_gate_columns (hGateUpIdeal := hGateUpIdeal) (hGateUpRefIdeal := hGateUpRefIdeal) (hPre_finite_u_and_gate_columns := hPre_finite_u_and_gate_columns)
    ∧ preserves_Down_DownIdeal
    ∧ algebraic_DownIdeal_DownRefIdeal_pre_finite_act_weights_and_gate (hDownIdeal := hDownIdeal) (hDownRefIdeal := hDownRefIdeal) (hPre_finite_act_weights_and_gate := hPre_finite_act_weights_and_gate)
    ∧ preserves_Out_OutIdeal
    ∧ algebraic_OutIdeal_OutRefIdeal (hOutIdeal := hOutIdeal) (hOutRefIdeal := hOutRefIdeal)
    ∧ preserves_HgrnQ_HgrnQIdeal
    ∧ algebraic_HgrnQIdeal_HgrnQRefIdeal_pre_finite_u_and_q_columns (hHgrnQIdeal := hHgrnQIdeal) (hHgrnQRefIdeal := hHgrnQRefIdeal) (hPre_finite_u_and_q_columns := hPre_finite_u_and_q_columns)
    ∧ preserves_HgrnF_HgrnFIdeal
    ∧ algebraic_HgrnFIdeal_HgrnFRefIdeal (hHgrnFIdeal := hHgrnFIdeal) (hHgrnFRefIdeal := hHgrnFRefIdeal)
    ∧ preserves_HgrnI_HgrnIIdeal
    ∧ algebraic_HgrnIIdeal_HgrnIRefIdeal (hHgrnIIdeal := hHgrnIIdeal) (hHgrnIRefIdeal := hHgrnIRefIdeal)
    ∧ preserves_HgrnG_HgrnGIdeal
    ∧ algebraic_HgrnGIdeal_HgrnGRefIdeal (hHgrnGIdeal := hHgrnGIdeal) (hHgrnGRefIdeal := hHgrnGRefIdeal)
    ∧ preserves_Qkv_QkvIdeal
    ∧ algebraic_QkvIdeal_QkvRefIdeal (hQkvIdeal := hQkvIdeal) (hQkvRefIdeal := hQkvRefIdeal)
-- ==== Pre_finite_act_weights_and_gate.lean ====
abbrev S16384x8192 : Shape := ⟨2, ![16384, 8192]⟩
abbrev S8192x4096 : Shape := ⟨2, ![8192, 4096]⟩
abbrev S16384x4096 : Shape := ⟨2, ![16384, 4096]⟩
abbrev S8x36864 : Shape := ⟨2, ![8, 36864]⟩
abbrev S_ : Shape := ⟨0, ![]⟩
abbrev S2x4096 : Shape := ⟨2, ![2, 4096]⟩

class Facts : Prop where
  bitsLt_bf16_f32 : FTy.bits .bf16 < FTy.bits .f32
  bcast_S_S16384x8192 : S_.BroadcastsInDim S16384x8192 (![] : Fin 0 → Fin S16384x8192.rank)
  bcast_S_S8192x4096 : S_.BroadcastsInDim S8192x4096 (![] : Fin 0 → Fin S8192x4096.rank)
  slices_S8x36864_S2x4096_0_32768 : S8x36864.Slices ![0, 32768] S2x4096
  bcast_S_S2x4096 : S_.BroadcastsInDim S2x4096 (![] : Fin 0 → Fin S2x4096.rank)
  reducesTo_S16384x8192_S_d0_1 : S16384x8192.ReducesTo [0, 1] S_
  h_S_ : 0 < S_.numel
  reducesTo_S8192x4096_S_d0_1 : S8192x4096.ReducesTo [0, 1] S_
  reducesTo_S2x4096_S_d0_1 : S2x4096.ReducesTo [0, 1] S_

variable [Facts]

def fn {F : FTy → Type} [FloatOps F] (main_arg0 : FVec F S16384x8192 .bf16) (main_arg1 : FVec F S8192x4096 .bf16) (main_arg2 : FVec F S16384x4096 .f32) (main_arg3 : FVec F S8x36864 .f32) : IVec S_ 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  let main_v4 : FVec F S8192x4096 .f32 := (extf .f32 · bitsLt_bf16_f32) main_arg1
  let main_v5 : FVec F S8192x4096 .f32 := Host.absf main_v4
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  let main_v8 : FVec F S2x4096 .f32 := (extractStridedSlice S2x4096 ![0, 32768] · slices_S8x36864_S2x4096_0_32768) main_arg3
  let main_v9 : FVec F S2x4096 .f32 := Host.absf main_v8
  let main_cst_1 : FVec F S_ .f32 := constant S_ .f32 0x7F800000#32
  let main_v10 : FVec F S2x4096 .f32 := broadcastInDim S2x4096 ![] bcast_S_S2x4096 main_cst_1
  let main_v11 : IVec S2x4096 1 := cmpf .olt main_v9 main_v10
  let main_c : IVec S_ 1 := constantI S_ 1 1#1
  let main_v12 : IVec S_ 1 := (fun x v => Host.reduce IntOp.andi x v reducesTo_S16384x8192_S_d0_1 h_S_) main_v3 main_c
  let main_c_2 : IVec S_ 1 := constantI S_ 1 1#1
  let main_v13 : IVec S_ 1 := (fun x v => Host.reduce IntOp.andi x v reducesTo_S8192x4096_S_d0_1 h_S_) main_v7 main_c_2
  let main_v14 : IVec S_ 1 := andi main_v12 main_v13
  let main_c_3 : IVec S_ 1 := constantI S_ 1 1#1
  let main_v15 : IVec S_ 1 := (fun x v => Host.reduce IntOp.andi x v reducesTo_S2x4096_S_d0_1 h_S_) main_v11 main_c_3
  let main_v16 : IVec S_ 1 := andi main_v14 main_v15
  main_v16
-- ==== Pre_finite_qk_and_sinks.lean ====
abbrev S16384x6144 : Shape := ⟨2, ![16384, 6144]⟩
abbrev S32 : Shape := ⟨1, ![32]⟩
abbrev S16384x5120 : Shape := ⟨2, ![16384, 5120]⟩
abbrev S_ : Shape := ⟨0, ![]⟩

class Facts : Prop where
  slices_S16384x6144_S16384x5120_0_0 : S16384x6144.Slices ![0, 0] S16384x5120
  bitsLt_bf16_f32 : FTy.bits .bf16 < FTy.bits .f32
  bcast_S_S16384x5120 : S_.BroadcastsInDim S16384x5120 (![] : Fin 0 → Fin S16384x5120.rank)
  reducesTo_S16384x5120_S_d0_1 : S16384x5120.ReducesTo [0, 1] S_
  h_S_ : 0 < S_.numel
  bcast_S_S32 : S_.BroadcastsInDim S32 (![] : Fin 0 → Fin S32.rank)

variable [Facts]

def fn {F : FTy → Type} [FloatOps F] (main_arg0 : FVec F S16384x6144 .bf16) (main_arg1 : FVec F S32 .f32) : IVec S32 1 :=
  let main_v0 : FVec F S16384x5120 .bf16 := (extractStridedSlice S16384x5120 ![0, 0] · slices_S16384x6144_S16384x5120_0_0) main_arg0
  let main_v1 : FVec F S16384x5120 .f32 := (extf .f32 · bitsLt_bf16_f32) main_v0
  let main_v2 : FVec F S16384x5120 .f32 := Host.absf main_v1
  let main_cst : FVec F S_ .f32 := constant S_ .f32 0x7F800000#32
  let main_v3 : FVec F S16384x5120 .f32 := broadcastInDim S16384x5120 ![] bcast_S_S16384x5120 main_cst
  let main_v4 : IVec S16384x5120 1 := cmpf .olt main_v2 main_v3
  let main_c : IVec S_ 1 := constantI S_ 1 1#1
  let main_v5 : IVec S_ 1 := (fun x v => Host.reduce IntOp.andi x v reducesTo_S16384x5120_S_d0_1 h_S_) main_v4 main_c
  let main_cst_0 : FVec F S_ .f32 := constant S_ .f32 0x7F800000#32
  let main_v6 : FVec F S32 .f32 := broadcastInDim S32 ![] bcast_S_S32 main_cst_0
  let main_v7 : IVec S32 1 := cmpf .olt main_arg1 main_v6
  let main_v8 : IVec S32 1 := broadcastInDim S32 ![] bcast_S_S32 main_v5
  let main_v9 : IVec S32 1 := andi main_v8 main_v7
  main_v9
-- ==== Pre_finite_u_and_gate_columns.lean ====
abbrev S16384x4096 : Shape := ⟨2, ![16384, 4096]⟩
abbrev S4096x16384 : Shape := ⟨2, ![4096, 16384]⟩
abbrev S2x8192x4096 : Shape := ⟨3, ![2, 8192, 4096]⟩
abbrev S_ : Shape := ⟨0, ![]⟩
abbrev S4096x8192 : Shape := ⟨2, ![4096, 8192]⟩

class Facts : Prop where
  bitsLt_bf16_f32 : FTy.bits .bf16 < FTy.bits .f32
  bcast_S_S16384x4096 : S_.BroadcastsInDim S16384x4096 (![] : Fin 0 → Fin S16384x4096.rank)
  slices_S4096x16384_S4096x8192_0_0 : S4096x16384.Slices ![0, 0] S4096x8192
  bcast_S_S4096x8192 : S_.BroadcastsInDim S4096x8192 (![] : Fin 0 → Fin S4096x8192.rank)
  reducesTo_S16384x4096_S_d0_1 : S16384x4096.ReducesTo [0, 1] S_
  h_S_ : 0 < S_.numel
  reducesTo_S4096x8192_S_d0_1 : S4096x8192.ReducesTo [0, 1] S_

variable [Facts]

def fn {F : FTy → Type} [FloatOps F] (main_arg0 : FVec F S16384x4096 .bf16) (main_arg1 : FVec F S4096x16384 .bf16) (main_arg2 : FVec F S2x8192x4096 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S4096x8192 .bf16 := (extractStridedSlice S4096x8192 ![0, 0] · slices_S4096x16384_S4096x8192_0_0) main_arg1
  let main_v5 : FVec F S4096x8192 .f32 := (extf .f32 · bitsLt_bf16_f32) main_v4
  let main_v6 : FVec F S4096x8192 .f32 := Host.absf main_v5
  let main_cst_0 : FVec F S_ .f32 := constant S_ .f32 0x7F800000#32
  let main_v7 : FVec F S4096x8192 .f32 := broadcastInDim S4096x8192 ![] bcast_S_S4096x8192 main_cst_0
  let main_v8 : IVec S4096x8192 1 := cmpf .olt main_v6 main_v7
  let main_c : IVec S_ 1 := constantI S_ 1 1#1
  let main_v9 : IVec S_ 1 := (fun x v => Host.reduce IntOp.andi x v reducesTo_S16384x4096_S_d0_1 h_S_) main_v3 main_c
  let main_c_1 : IVec S_ 1 := constantI S_ 1 1#1
  let main_v10 : IVec S_ 1 := (fun x v => Host.reduce IntOp.andi x v reducesTo_S4096x8192_S_d0_1 h_S_) main_v8 main_c_1
  let main_v11 : IVec S_ 1 := andi main_v9 main_v10
  main_v11
-- ==== Pre_finite_u_and_q_columns.lean ====
abbrev S16384x4096 : Shape := ⟨2, ![16384, 4096]⟩
abbrev S4096x16384 : Shape := ⟨2, ![4096, 16384]⟩
abbrev S_ : Shape := ⟨0, ![]⟩
abbrev S4096x4096 : Shape := ⟨2, ![4096, 4096]⟩

class Facts : Prop where
  bitsLt_bf16_f32 : FTy.bits .bf16 < FTy.bits .f32
  bcast_S_S16384x4096 : S_.BroadcastsInDim S16384x4096 (![] : Fin 0 → Fin S16384x4096.rank)
  slices_S4096x16384_S4096x4096_0_0 : S4096x16384.Slices ![0, 0] S4096x4096
  bcast_S_S4096x4096 : S_.BroadcastsInDim S4096x4096 (![] : Fin 0 → Fin S4096x4096.rank)
  reducesTo_S16384x4096_S_d0_1 : S16384x4096.ReducesTo [0, 1] S_
  h_S_ : 0 < S_.numel
  reducesTo_S4096x4096_S_d0_1 : S4096x4096.ReducesTo [0, 1] S_

variable [Facts]

def fn {F : FTy → Type} [FloatOps F] (main_arg0 : FVec F S16384x4096 .bf16) (main_arg1 : FVec F S4096x16384 .bf16) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S4096x4096 .bf16 := (extractStridedSlice S4096x4096 ![0, 0] · slices_S4096x16384_S4096x4096_0_0) main_arg1
  let main_v5 : FVec F S4096x4096 .f32 := (extf .f32 · bitsLt_bf16_f32) main_v4
  let main_v6 : FVec F S4096x4096 .f32 := Host.absf main_v5
  let main_cst_0 : FVec F S_ .f32 := constant S_ .f32 0x7F800000#32
  let main_v7 : FVec F S4096x4096 .f32 := broadcastInDim S4096x4096 ![] bcast_S_S4096x4096 main_cst_0
  let main_v8 : IVec S4096x4096 1 := cmpf .olt main_v6 main_v7
  let main_c : IVec S_ 1 := constantI S_ 1 1#1
  let main_v9 : IVec S_ 1 := (fun x v => Host.reduce IntOp.andi x v reducesTo_S16384x4096_S_d0_1 h_S_) main_v3 main_c
  let main_c_1 : IVec S_ 1 := constantI S_ 1 1#1
  let main_v10 : IVec S_ 1 := (fun x v => Host.reduce IntOp.andi x v reducesTo_S4096x4096_S_d0_1 h_S_) main_v8 main_c_1
  let main_v11 : IVec S_ 1 := andi main_v9 main_v10
  main_v11
-- ==== Kernel.lean ====
abbrev S16384x6144 : Shape := ⟨2, ![16384, 6144]⟩
abbrev S32 : Shape := ⟨1, ![32]⟩
abbrev S256x128 : Shape := ⟨2, ![256, 128]⟩
abbrev S128x256 : Shape := ⟨2, ![128, 256]⟩
abbrev S_ : Shape := ⟨0, ![]⟩
abbrev S32x128x128 : Shape := ⟨3, ![32, 128, 128]⟩
abbrev S32x1 : Shape := ⟨2, ![32, 1]⟩
abbrev S32x128 : Shape := ⟨2, ![32, 128]⟩
abbrev S1 : Shape := ⟨1, ![1]⟩
abbrev S8x512x128 : Shape := ⟨3, ![8, 512, 128]⟩
abbrev S16384x4096 : Shape := ⟨2, ![16384, 4096]⟩
abbrev S128x4096 : Shape := ⟨2, ![128, 4096]⟩
abbrev S128x1024 : Shape := ⟨2, ![128, 1024]⟩
abbrev S16x128 : Shape := ⟨2, ![16, 128]⟩
abbrev S128x128 : Shape := ⟨2, ![128, 128]⟩
abbrev S112x128 : Shape := ⟨2, ![112, 128]⟩
abbrev S256x256 : Shape := ⟨2, ![256, 256]⟩
abbrev S512x128 : Shape := ⟨2, ![512, 128]⟩
abbrev S1x512x128 : Shape := ⟨3, ![1, 512, 128]⟩
abbrev S512x256 : Shape := ⟨2, ![512, 256]⟩
abbrev S512 : Shape := ⟨1, ![512]⟩
abbrev S512x1 : Shape := ⟨2, ![512, 1]⟩

abbrev nBuf : Space → Nat
  | .hbm => 45
  | .vmem => 17
  | .smem => 1
  | _ => 0

abbrev bufTy : (tb : Table) → Fin (tcTables nBuf tb) → BufTy
  | .hbm, ⟨0, _⟩ => ⟨S16384x6144, .bf16⟩
  | .hbm, ⟨1, _⟩ => ⟨S32, .f32⟩
  | .hbm, ⟨2, _⟩ => ⟨S256x128, .bf16⟩
  | .hbm, ⟨3, _⟩ => ⟨S128x256, .f32⟩
  | .hbm, ⟨4, _⟩ => ⟨S128x256, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .bf16⟩
  | .hbm, ⟨20, _⟩ => ⟨S32x128x128, .bf16⟩
  | .hbm, ⟨21, _⟩ => ⟨S32, .bf16⟩
  | .hbm, ⟨22, _⟩ => ⟨S32, .f32⟩
  | .hbm, ⟨23, _⟩ => ⟨S32, .f32⟩
  | .hbm, ⟨24, _⟩ => ⟨S32, .bf16⟩
  | .hbm, ⟨25, _⟩ => ⟨S32, .f32⟩
  | .hbm, ⟨26, _⟩ => ⟨S32, .f32⟩
  | .hbm, ⟨27, _⟩ => ⟨S32, .bf16⟩
  | .hbm, ⟨28, _⟩ => ⟨S32x1, .bf16⟩
  | .hbm, ⟨29, _⟩ => ⟨S32x128, .bf16⟩
  | .hbm, ⟨30, _⟩ => ⟨S_, .i32⟩
  | .hbm, ⟨31, _⟩ => ⟨S1, .i32⟩
  | .hbm, ⟨32, _⟩ => ⟨S32x128x128, .bf16⟩
  | .hbm, ⟨33, _⟩ => ⟨S32x1, .bf16⟩
  | .hbm, ⟨34, _⟩ => ⟨S32x128, .bf16⟩
  | .hbm, ⟨35, _⟩ => ⟨S_, .i32⟩
  | .hbm, ⟨36, _⟩ => ⟨S1, .i32⟩
  | .hbm, ⟨37, _⟩ => ⟨S32x128x128, .bf16⟩
  | .hbm, ⟨38, _⟩ => ⟨S32x1, .bf16⟩
  | .hbm, ⟨39, _⟩ => ⟨S32x128, .bf16⟩
  | .hbm, ⟨40, _⟩ => ⟨S_, .i32⟩
  | .hbm, ⟨41, _⟩ => ⟨S1, .i32⟩
  | .hbm, ⟨42, _⟩ => ⟨S32x128x128, .bf16⟩
  | .hbm, ⟨43, _⟩ => ⟨S8x512x128, .bf16⟩
  | .hbm, ⟨44, _⟩ => ⟨S16384x4096, .bf16⟩
  | .local _ .vmem, ⟨0, _⟩ => ⟨S8x512x128, .bf16⟩
  | .local _ .vmem, ⟨1, _⟩ => ⟨S256x128, .bf16⟩
  | .local _ .vmem, ⟨2, _⟩ => ⟨S128x256, .f32⟩
  | .local _ .vmem, ⟨3, _⟩ => ⟨S128x256, .f32⟩
  | .local _ .vmem, ⟨4, _⟩ => ⟨S128x4096, .bf16⟩
  | .local _ .vmem, ⟨5, _⟩ => ⟨S128x4096, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x4096, .bf16⟩
  | .local _ .vmem, ⟨15, _⟩ => ⟨S128x4096, .bf16⟩
  | .local _ .vmem, ⟨16, _⟩ => ⟨S128x256, .f32⟩
  | .local _ .smem, ⟨0, _⟩ => ⟨S32, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_cst_3 : Ref sig .tc := ⟨.hbm, 9, rfl⟩
abbrev main_v3 : Ref sig .tc := ⟨.hbm, 10, rfl⟩
abbrev main_v4 : Ref sig .tc := ⟨.hbm, 11, rfl⟩
abbrev main_cst_4 : Ref sig .tc := ⟨.hbm, 12, rfl⟩
abbrev main_v5 : Ref sig .tc := ⟨.hbm, 13, rfl⟩
abbrev main_v6 : Ref sig .tc := ⟨.hbm, 14, rfl⟩
abbrev main_cst_5 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_6 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 64], ![false, false]⟩

def k0_mult1 : BitVec 32 :=
  let c0_i32_8 : BitVec 32 := 0#32
  let c128_i32 : BitVec 32 := 128#32
  let v15 : BitVec 32 := Scalar.muli c0_i32_8 c128_i32
  v15
def k0_off1 (c0_i32_8 : BitVec 32) : Fin 2 → Nat :=
  let c0_9 : Index := 0#32
  let c128_i32 : BitVec 32 := 128#32
  let v15 : BitVec 32 := Scalar.muli c0_i32_8 c128_i32
  let v16 : BitVec 32 := v15
  let v17 : Index := Scalar.indexCast v16
  ![0, v17.toNat]
def k0_mult2 : BitVec 32 :=
  let c0_i32_8 : BitVec 32 := 0#32
  let c4_i32 : BitVec 32 := 4#32
  let v37 : BitVec 32 := Scalar.muli c0_i32_8 c4_i32
  let c0_i32_13 : BitVec 32 := 0#32
  let v38 : BitVec 32 := Scalar.addi v37 c0_i32_13
  let c128_i32_14 : BitVec 32 := 128#32
  let v39 : BitVec 32 := Scalar.muli v38 c128_i32_14
  v39
def k0_mult3 : BitVec 32 :=
  let c0_i32_8 : BitVec 32 := 0#32
  let c4_i32_15 : BitVec 32 := 4#32
  let v41 : BitVec 32 := Scalar.muli c0_i32_8 c4_i32_15
  let c1_i32 : BitVec 32 := 1#32
  let v42 : BitVec 32 := Scalar.addi v41 c1_i32
  let c128_i32_16 : BitVec 32 := 128#32
  let v43 : BitVec 32 := Scalar.muli v42 c128_i32_16
  v43
def k0_mult4 : BitVec 32 :=
  let c0_i32_8 : BitVec 32 := 0#32
  let c4_i32_17 : BitVec 32 := 4#32
  let v45 : BitVec 32 := Scalar.muli c0_i32_8 c4_i32_17
  let c2_i32 : BitVec 32 := 2#32
  let v46 : BitVec 32 := Scalar.addi v45 c2_i32
  let c128_i32_18 : BitVec 32 := 128#32
  let v47 : BitVec 32 := Scalar.muli v46 c128_i32_18
  v47
def k0_mult5 : BitVec 32 :=
  let c0_i32_8 : BitVec 32 := 0#32
  let c4_i32_19 : BitVec 32 := 4#32
  let v49 : BitVec 32 := Scalar.muli c0_i32_8 c4_i32_19
  let c3_i32 : BitVec 32 := 3#32
  let v50 : BitVec 32 := Scalar.addi v49 c3_i32
  let c128_i32_20 : BitVec 32 := 128#32
  let v51 : BitVec 32 := Scalar.muli v50 c128_i32_20
  v51
def k0_off2 (c0_i32_8 : BitVec 32) (c0_i32_13 : BitVec 32) : Fin 2 → Nat :=
  let c0_21 : Index := 0#32
  let c4_i32 : BitVec 32 := 4#32
  let v37 : BitVec 32 := Scalar.muli c0_i32_8 c4_i32
  let v38 : BitVec 32 := Scalar.addi v37 c0_i32_13
  let c128_i32_14 : BitVec 32 := 128#32
  let v39 : BitVec 32 := Scalar.muli v38 c128_i32_14
  let v40 : BitVec 32 := v39
  let v53 : Index := Scalar.indexCast v40
  ![0, v53.toNat]
def k0_off3 (c0_i32_8 : BitVec 32) (c0_i32_31 : BitVec 32) : Fin 1 → Nat :=
  let c4_i32_30 : BitVec 32 := 4#32
  let v69 : BitVec 32 := Scalar.muli c0_i32_8 c4_i32_30
  let v70 : BitVec 32 := Scalar.addi v69 c0_i32_31
  let v71 : Index := Scalar.indexCast v70
  ![v71.toNat]
def k0_mult6 : BitVec 32 :=
  let c1_i32_44 : BitVec 32 := 1#32
  let c128_i32_45 : BitVec 32 := 128#32
  let v127 : BitVec 32 := Scalar.muli c1_i32_44 c128_i32_45
  v127
def k0_mult7 : BitVec 32 :=
  let c1_i32_44 : BitVec 32 := 1#32
  let c4_i32_50 : BitVec 32 := 4#32
  let v149 : BitVec 32 := Scalar.muli c1_i32_44 c4_i32_50
  let c0_i32_51 : BitVec 32 := 0#32
  let v150 : BitVec 32 := Scalar.addi v149 c0_i32_51
  let c128_i32_52 : BitVec 32 := 128#32
  let v151 : BitVec 32 := Scalar.muli v150 c128_i32_52
  v151
def k0_mult8 : BitVec 32 :=
  let c1_i32_44 : BitVec 32 := 1#32
  let c4_i32_53 : BitVec 32 := 4#32
  let v153 : BitVec 32 := Scalar.muli c1_i32_44 c4_i32_53
  let c1_i32_54 : BitVec 32 := 1#32
  let v154 : BitVec 32 := Scalar.addi v153 c1_i32_54
  let c128_i32_55 : BitVec 32 := 128#32
  let v155 : BitVec 32 := Scalar.muli v154 c128_i32_55
  v155
def k0_mult9 : BitVec 32 :=
  let c1_i32_44 : BitVec 32 := 1#32
  let c4_i32_56 : BitVec 32 := 4#32
  let v157 : BitVec 32 := Scalar.muli c1_i32_44 c4_i32_56
  let c2_i32_57 : BitVec 32 := 2#32
  let v158 : BitVec 32 := Scalar.addi v157 c2_i32_57
  let c128_i32_58 : BitVec 32 := 128#32
  let v159 : BitVec 32 := Scalar.muli v158 c128_i32_58
  v159
def k0_mult10 : BitVec 32 :=
  let c1_i32_44 : BitVec 32 := 1#32
  let c4_i32_59 : BitVec 32 := 4#32
  let v161 : BitVec 32 := Scalar.muli c1_i32_44 c4_i32_59
  let c3_i32_60 : BitVec 32 := 3#32
  let v162 : BitVec 32 := Scalar.addi v161 c3_i32_60
  let c128_i32_61 : BitVec 32 := 128#32
  let v163 : BitVec 32 := Scalar.muli v162 c128_i32_61
  v163
def k0_mult11 : BitVec 32 :=
  let c2_i32_85 : BitVec 32 := 2#32
  let c128_i32_86 : BitVec 32 := 128#32
  let v239 : BitVec 32 := Scalar.muli c2_i32_85 c128_i32_86
  v239
def k0_mult12 : BitVec 32 :=
  let c2_i32_85 : BitVec 32 := 2#32
  let c4_i32_91 : BitVec 32 := 4#32
  let v261 : BitVec 32 := Scalar.muli c2_i32_85 c4_i32_91
  let c0_i32_92 : BitVec 32 := 0#32
  let v262 : BitVec 32 := Scalar.addi v261 c0_i32_92
  let c128_i32_93 : BitVec 32 := 128#32
  let v263 : BitVec 32 := Scalar.muli v262 c128_i32_93
  v263
def k0_mult13 : BitVec 32 :=
  let c2_i32_85 : BitVec 32 := 2#32
  let c4_i32_94 : BitVec 32 := 4#32
  let v265 : BitVec 32 := Scalar.muli c2_i32_85 c4_i32_94
  let c1_i32_95 : BitVec 32 := 1#32
  let v266 : BitVec 32 := Scalar.addi v265 c1_i32_95
  let c128_i32_96 : BitVec 32 := 128#32
  let v267 : BitVec 32 := Scalar.muli v266 c128_i32_96
  v267
def k0_mult14 : BitVec 32 :=
  let c2_i32_85 : BitVec 32 := 2#32
  let c4_i32_97 : BitVec 32 := 4#32
  let v269 : BitVec 32 := Scalar.muli c2_i32_85 c4_i32_97
  let c2_i32_98 : BitVec 32 := 2#32
  let v270 : BitVec 32 := Scalar.addi v269 c2_i32_98
  let c128_i32_99 : BitVec 32 := 128#32
  let v271 : BitVec 32 := Scalar.muli v270 c128_i32_99
  v271
def k0_mult15 : BitVec 32 :=
  let c2_i32_85 : BitVec 32 := 2#32
  let c4_i32_100 : BitVec 32 := 4#32
  let v273 : BitVec 32 := Scalar.muli c2_i32_85 c4_i32_100
  let c3_i32_101 : BitVec 32 := 3#32
  let v274 : BitVec 32 := Scalar.addi v273 c3_i32_101
  let c128_i32_102 : BitVec 32 := 128#32
  let v275 : BitVec 32 := Scalar.muli v274 c128_i32_102
  v275
def k0_mult16 : BitVec 32 :=
  let c3_i32_126 : BitVec 32 := 3#32
  let c128_i32_127 : BitVec 32 := 128#32
  let v351 : BitVec 32 := Scalar.muli c3_i32_126 c128_i32_127
  v351
def k0_mult17 : BitVec 32 :=
  let c3_i32_126 : BitVec 32 := 3#32
  let c4_i32_132 : BitVec 32 := 4#32
  let v373 : BitVec 32 := Scalar.muli c3_i32_126 c4_i32_132
  let c0_i32_133 : BitVec 32 := 0#32
  let v374 : BitVec 32 := Scalar.addi v373 c0_i32_133
  let c128_i32_134 : BitVec 32 := 128#32
  let v375 : BitVec 32 := Scalar.muli v374 c128_i32_134
  v375
def k0_mult18 : BitVec 32 :=
  let c3_i32_126 : BitVec 32 := 3#32
  let c4_i32_135 : BitVec 32 := 4#32
  let v377 : BitVec 32 := Scalar.muli c3_i32_126 c4_i32_135
  let c1_i32_136 : BitVec 32 := 1#32
  let v378 : BitVec 32 := Scalar.addi v377 c1_i32_136
  let c128_i32_137 : BitVec 32 := 128#32
  let v379 : BitVec 32 := Scalar.muli v378 c128_i32_137
  v379
def k0_mult19 : BitVec 32 :=
  let c3_i32_126 : BitVec 32 := 3#32
  let c4_i32_138 : BitVec 32 := 4#32
  let v381 : BitVec 32 := Scalar.muli c3_i32_126 c4_i32_138
  let c2_i32_139 : BitVec 32 := 2#32
  let v382 : BitVec 32 := Scalar.addi v381 c2_i32_139
  let c128_i32_140 : BitVec 32 := 128#32
  let v383 : BitVec 32 := Scalar.muli v382 c128_i32_140
  v383
def k0_mult20 : BitVec 32 :=
  let c3_i32_126 : BitVec 32 := 3#32
  let c4_i32_141 : BitVec 32 := 4#32
  let v385 : BitVec 32 := Scalar.muli c3_i32_126 c4_i32_141
  let c3_i32_142 : BitVec 32 := 3#32
  let v386 : BitVec 32 := Scalar.addi v385 c3_i32_142
  let c128_i32_143 : BitVec 32 := 128#32
  let v387 : BitVec 32 := Scalar.muli v386 c128_i32_143
  v387
def k0_mult21 : BitVec 32 :=
  let c4_i32_167 : BitVec 32 := 4#32
  let c128_i32_168 : BitVec 32 := 128#32
  let v463 : BitVec 32 := Scalar.muli c4_i32_167 c128_i32_168
  v463
def k0_mult22 : BitVec 32 :=
  let c4_i32_167 : BitVec 32 := 4#32
  let c4_i32_173 : BitVec 32 := 4#32
  let v485 : BitVec 32 := Scalar.muli c4_i32_167 c4_i32_173
  let c0_i32_174 : BitVec 32 := 0#32
  let v486 : BitVec 32 := Scalar.addi v485 c0_i32_174
  let c128_i32_175 : BitVec 32 := 128#32
  let v487 : BitVec 32 := Scalar.muli v486 c128_i32_175
  v487
def k0_mult23 : BitVec 32 :=
  let c4_i32_167 : BitVec 32 := 4#32
  let c4_i32_176 : BitVec 32 := 4#32
  let v489 : BitVec 32 := Scalar.muli c4_i32_167 c4_i32_176
  let c1_i32_177 : BitVec 32 := 1#32
  let v490 : BitVec 32 := Scalar.addi v489 c1_i32_177
  let c128_i32_178 : BitVec 32 := 128#32
  let v491 : BitVec 32 := Scalar.muli v490 c128_i32_178
  v491
def k0_mult24 : BitVec 32 :=
  let c4_i32_167 : BitVec 32 := 4#32
  let c4_i32_179 : BitVec 32 := 4#32
  let v493 : BitVec 32 := Scalar.muli c4_i32_167 c4_i32_179
  let c2_i32_180 : BitVec 32 := 2#32
  let v494 : BitVec 32 := Scalar.addi v493 c2_i32_180
  let c128_i32_181 : BitVec 32 := 128#32
  let v495 : BitVec 32 := Scalar.muli v494 c128_i32_181
  v495
def k0_mult25 : BitVec 32 :=
  let c4_i32_167 : BitVec 32 := 4#32
  let c4_i32_182 : BitVec 32 := 4#32
  let v497 : BitVec 32 := Scalar.muli c4_i32_167 c4_i32_182
  let c3_i32_183 : BitVec 32 := 3#32
  let v498 : BitVec 32 := Scalar.addi v497 c3_i32_183
  let c128_i32_184 : BitVec 32 := 128#32
  let v499 : BitVec 32 := Scalar.muli v498 c128_i32_184
  v499
def k0_mult26 : BitVec 32 :=
  let c5_i32 : BitVec 32 := 5#32
  let c128_i32_208 : BitVec 32 := 128#32
  let v575 : BitVec 32 := Scalar.muli c5_i32 c128_i32_208
  v575
def k0_mult27 : BitVec 32 :=
  let c5_i32 : BitVec 32 := 5#32
  let c4_i32_213 : BitVec 32 := 4#32
  let v597 : BitVec 32 := Scalar.muli c5_i32 c4_i32_213
  let c0_i32_214 : BitVec 32 := 0#32
  let v598 : BitVec 32 := Scalar.addi v597 c0_i32_214
  let c128_i32_215 : BitVec 32 := 128#32
  let v599 : BitVec 32 := Scalar.muli v598 c128_i32_215
  v599
def k0_mult28 : BitVec 32 :=
  let c5_i32 : BitVec 32 := 5#32
  let c4_i32_216 : BitVec 32 := 4#32
  let v601 : BitVec 32 := Scalar.muli c5_i32 c4_i32_216
  let c1_i32_217 : BitVec 32 := 1#32
  let v602 : BitVec 32 := Scalar.addi v601 c1_i32_217
  let c128_i32_218 : BitVec 32 := 128#32
  let v603 : BitVec 32 := Scalar.muli v602 c128_i32_218
  v603
def k0_mult29 : BitVec 32 :=
  let c5_i32 : BitVec 32 := 5#32
  let c4_i32_219 : BitVec 32 := 4#32
  let v605 : BitVec 32 := Scalar.muli c5_i32 c4_i32_219
  let c2_i32_220 : BitVec 32 := 2#32
  let v606 : BitVec 32 := Scalar.addi v605 c2_i32_220
  let c128_i32_221 : BitVec 32 := 128#32
  let v607 : BitVec 32 := Scalar.muli v606 c128_i32_221
  v607
def k0_mult30 : BitVec 32 :=
  let c5_i32 : BitVec 32 := 5#32
  let c4_i32_222 : BitVec 32 := 4#32
  let v609 : BitVec 32 := Scalar.muli c5_i32 c4_i32_222
  let c3_i32_223 : BitVec 32 := 3#32
  let v610 : BitVec 32 := Scalar.addi v609 c3_i32_223
  let c128_i32_224 : BitVec 32 := 128#32
  let v611 : BitVec 32 := Scalar.muli v610 c128_i32_224
  v611
def k0_mult31 : BitVec 32 :=
  let c6_i32 : BitVec 32 := 6#32
  let c128_i32_248 : BitVec 32 := 128#32
  let v687 : BitVec 32 := Scalar.muli c6_i32 c128_i32_248
  v687
def k0_mult32 : BitVec 32 :=
  let c6_i32 : BitVec 32 := 6#32
  let c4_i32_253 : BitVec 32 := 4#32
  let v709 : BitVec 32 := Scalar.muli c6_i32 c4_i32_253
  let c0_i32_254 : BitVec 32 := 0#32
  let v710 : BitVec 32 := Scalar.addi v709 c0_i32_254
  let c128_i32_255 : BitVec 32 := 128#32
  let v711 : BitVec 32 := Scalar.muli v710 c128_i32_255
  v711
def k0_mult33 : BitVec 32 :=
  let c6_i32 : BitVec 32 := 6#32
  let c4_i32_256 : BitVec 32 := 4#32
  let v713 : BitVec 32 := Scalar.muli c6_i32 c4_i32_256
  let c1_i32_257 : BitVec 32 := 1#32
  let v714 : BitVec 32 := Scalar.addi v713 c1_i32_257
  let c128_i32_258 : BitVec 32 := 128#32
  let v715 : BitVec 32 := Scalar.muli v714 c128_i32_258
  v715
def k0_mult34 : BitVec 32 :=
  let c6_i32 : BitVec 32 := 6#32
  let c4_i32_259 : BitVec 32 := 4#32
  let v717 : BitVec 32 := Scalar.muli c6_i32 c4_i32_259
  let c2_i32_260 : BitVec 32 := 2#32
  let v718 : BitVec 32 := Scalar.addi v717 c2_i32_260
  let c128_i32_261 : BitVec 32 := 128#32
  let v719 : BitVec 32 := Scalar.muli v718 c128_i32_261
  v719
def k0_mult35 : BitVec 32 :=
  let c6_i32 : BitVec 32 := 6#32
  let c4_i32_262 : BitVec 32 := 4#32
  let v721 : BitVec 32 := Scalar.muli c6_i32 c4_i32_262
  let c3_i32_263 : BitVec 32 := 3#32
  let v722 : BitVec 32 := Scalar.addi v721 c3_i32_263
  let c128_i32_264 : BitVec 32 := 128#32
  let v723 : BitVec 32 := Scalar.muli v722 c128_i32_264
  v723
def k0_mult36 : BitVec 32 :=
  let c7_i32 : BitVec 32 := 7#32
  let c128_i32_288 : BitVec 32 := 128#32
  let v799 : BitVec 32 := Scalar.muli c7_i32 c128_i32_288
  v799
def k0_mult37 : BitVec 32 :=
  let c7_i32 : BitVec 32 := 7#32
  let c4_i32_293 : BitVec 32 := 4#32
  let v821 : BitVec 32 := Scalar.muli c7_i32 c4_i32_293
  let c0_i32_294 : BitVec 32 := 0#32
  let v822 : BitVec 32 := Scalar.addi v821 c0_i32_294
  let c128_i32_295 : BitVec 32 := 128#32
  let v823 : BitVec 32 := Scalar.muli v822 c128_i32_295
  v823
def k0_mult38 : BitVec 32 :=
  let c7_i32 : BitVec 32 := 7#32
  let c4_i32_296 : BitVec 32 := 4#32
  let v825 : BitVec 32 := Scalar.muli c7_i32 c4_i32_296
  let c1_i32_297 : BitVec 32 := 1#32
  let v826 : BitVec 32 := Scalar.addi v825 c1_i32_297
  let c128_i32_298 : BitVec 32 := 128#32
  let v827 : BitVec 32 := Scalar.muli v826 c128_i32_298
  v827
def k0_mult39 : BitVec 32 :=
  let c7_i32 : BitVec 32 := 7#32
  let c4_i32_299 : BitVec 32 := 4#32
  let v829 : BitVec 32 := Scalar.muli c7_i32 c4_i32_299
  let c2_i32_300 : BitVec 32 := 2#32
  let v830 : BitVec 32 := Scalar.addi v829 c2_i32_300
  let c128_i32_301 : BitVec 32 := 128#32
  let v831 : BitVec 32 := Scalar.muli v830 c128_i32_301
  v831
def k0_mult40 : BitVec 32 :=
  let c7_i32 : BitVec 32 := 7#32
  let c4_i32_302 : BitVec 32 := 4#32
  let v833 : BitVec 32 := Scalar.muli c7_i32 c4_i32_302
  let c3_i32_303 : BitVec 32 := 3#32
  let v834 : BitVec 32 := Scalar.addi v833 c3_i32_303
  let c128_i32_304 : BitVec 32 := 128#32
  let v835 : BitVec 32 := Scalar.muli v834 c128_i32_304
  v835
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x6144 : Shape := ⟨2, ![16384, 6144]⟩
abbrev S32 : Shape := ⟨1, ![32]⟩
abbrev S2x8192x6144 : Shape := ⟨3, ![2, 8192, 6144]⟩
abbrev S2x8192x4096 : Shape := ⟨3, ![2, 8192, 4096]⟩
abbrev S2x8192x1024 : Shape := ⟨3, ![2, 8192, 1024]⟩
abbrev S2x64x128x8x4x128 : Shape := ⟨6, ![2, 64, 128, 8, 4, 128]⟩
abbrev S2x64x128x8x128 : Shape := ⟨5, ![2, 64, 128, 8, 128]⟩
abbrev S_ : Shape := ⟨0, ![]⟩
abbrev S2x65x128x8x128 : Shape := ⟨5, ![2, 65, 128, 8, 128]⟩
abbrev S2x64x256x8x128 : Shape := ⟨5, ![2, 64, 256, 8, 128]⟩
abbrev S2x64x8x256x128x4 : Shape := ⟨6, ![2, 64, 8, 256, 128, 4]⟩
abbrev S2x64x8x4x128x256 : Shape := ⟨6, ![2, 64, 8, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x4 : Shape := ⟨2, ![8, 4]⟩
abbrev S8x4x1x1 : Shape := ⟨4, ![8, 4, 1, 1]⟩
abbrev S1x1x128x256 : Shape := ⟨4, ![1, 1, 128, 256]⟩
abbrev S8x4x128x256 : Shape := ⟨4, ![8, 4, 128, 256]⟩
abbrev S1x64x1x1x128x256 : Shape := ⟨6, ![1, 64, 1, 1, 128, 256]⟩
abbrev S1x1x8x4x128x256 : Shape := ⟨6, ![1, 1, 8, 4, 128, 256]⟩
abbrev S2x64x8x4x128 : Shape := ⟨5, ![2, 64, 8, 4, 128]⟩
abbrev S2x64x8x4x128x1 : Shape := ⟨6, ![2, 64, 8, 4, 128, 1]⟩
abbrev S1x1x8x4x1x1 : Shape := ⟨6, ![1, 1, 8, 4, 1, 1]⟩
abbrev S2x64x8x128x4x128 : Shape := ⟨6, ![2, 64, 8, 128, 4, 128]⟩
abbrev S16384x4096 : Shape := ⟨2, ![16384, 4096]⟩

abbrev nBuf : Space → Nat
  | .hbm => 111
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S32, .f32⟩
  | .hbm, ⟨2, _⟩ => ⟨S16384x6144, .f32⟩
  | .hbm, ⟨3, _⟩ => ⟨S2x8192x6144, .f32⟩
  | .hbm, ⟨4, _⟩ => ⟨S2x8192x4096, .f32⟩
  | .hbm, ⟨5, _⟩ => ⟨S2x8192x1024, .f32⟩
  | .hbm, ⟨6, _⟩ => ⟨S2x8192x1024, .f32⟩
  | .hbm, ⟨7, _⟩ => ⟨S2x64x128x8x4x128, .f32⟩
  | .hbm, ⟨8, _⟩ => ⟨S2x64x128x8x128, .f32⟩
  | .hbm, ⟨9, _⟩ => ⟨S_, .i32⟩
  | .hbm, ⟨10, _⟩ => ⟨S_, .f32⟩
  | .hbm, ⟨11, _⟩ => ⟨S2x65x128x8x128, .f32⟩
  | .hbm, ⟨12, _⟩ => ⟨S2x64x128x8x128, .f32⟩
  | .hbm, ⟨13, _⟩ => ⟨S2x64x256x8x128, .f32⟩
  | .hbm, ⟨14, _⟩ => ⟨S2x64x128x8x128, .f32⟩
  | .hbm, ⟨15, _⟩ => ⟨S_, .i32⟩
  | .hbm, ⟨16, _⟩ => ⟨S_, .f32⟩
  | .hbm, ⟨17, _⟩ => ⟨S2x65x128x8x128, .f32⟩
  | .hbm, ⟨18, _⟩ => ⟨S2x64x128x8x128, .f32⟩
  | .hbm, ⟨19, _⟩ => ⟨S2x64x256x8x128, .f32⟩
  | .hbm, ⟨20, _⟩ => ⟨S2x64x8x256x128x4, .f32⟩
  | .hbm, ⟨21, _⟩ => ⟨S2x64x8x4x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S64, .i32⟩
  | .hbm, ⟨33, _⟩ => ⟨S64x1x1, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S64x1x1, .i32⟩
  | .hbm, ⟨43, _⟩ => ⟨S64x1x1, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x1x256, .i1⟩
  | .hbm, ⟨48, _⟩ => ⟨S64x1x256, .i1⟩
  | .hbm, ⟨49, _⟩ => ⟨S64x1x256, .i1⟩
  | .hbm, ⟨50, _⟩ => ⟨S64x1x256, .i1⟩
  | .hbm, ⟨51, _⟩ => ⟨S1x128x256, .i1⟩
  | .hbm, ⟨52, _⟩ => ⟨S64x128x256, .i1⟩
  | .hbm, ⟨53, _⟩ => ⟨S64x128x256, .i1⟩
  | .hbm, ⟨54, _⟩ => ⟨S64x128x256, .i1⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S8x4, .f32⟩
  | .hbm, ⟨70, _⟩ => ⟨S8x4x1x1, .f32⟩
  | .hbm, ⟨71, _⟩ => ⟨S8x4x1x1, .f32⟩
  | .hbm, ⟨72, _⟩ => ⟨S128x256, .f32⟩
  | .hbm, ⟨73, _⟩ => ⟨S1x1x128x256, .f32⟩
  | .hbm, ⟨74, _⟩ => ⟨S8x4x128x256, .f32⟩
  | .hbm, ⟨75, _⟩ => ⟨S8x4x128x256, .f32⟩
  | .hbm, ⟨76, _⟩ => ⟨S8x4x128x256, .f32⟩
  | .hbm, ⟨77, _⟩ => ⟨S1x64x1x1x128x256, .i1⟩
  | .hbm, ⟨78, _⟩ => ⟨S1x1x8x4x128x256, .f32⟩
  | .hbm, ⟨79, _⟩ => ⟨S2x64x8x4x128x256, .f32⟩
  | .hbm, ⟨80, _⟩ => ⟨S2x64x8x4x128x256, .f32⟩
  | .hbm, ⟨81, _⟩ => ⟨S_, .f32⟩
  | .hbm, ⟨82, _⟩ => ⟨S_, .f32⟩
  | .hbm, ⟨83, _⟩ => ⟨S2x64x8x4x128x256, .i1⟩
  | .hbm, ⟨84, _⟩ => ⟨S2x64x8x4x128x256, .f32⟩
  | .hbm, ⟨85, _⟩ => ⟨S2x64x8x4x128x256, .f32⟩
  | .hbm, ⟨86, _⟩ => ⟨S8x4, .f32⟩
  | .hbm, ⟨87, _⟩ => ⟨S8x4x1x1, .f32⟩
  | .hbm, ⟨88, _⟩ => ⟨S_, .f32⟩
  | .hbm, ⟨89, _⟩ => ⟨S2x64x8x4x128, .f32⟩
  | .hbm, ⟨90, _⟩ => ⟨S2x64x8x4x128x1, .f32⟩
  | .hbm, ⟨91, _⟩ => ⟨S1x1x8x4x1x1, .f32⟩
  | .hbm, ⟨92, _⟩ => ⟨S2x64x8x4x128x1, .f32⟩
  | .hbm, ⟨93, _⟩ => ⟨S2x64x8x4x128x1, .f32⟩
  | .hbm, ⟨94, _⟩ => ⟨S2x64x8x4x128x256, .f32⟩
  | .hbm, ⟨95, _⟩ => ⟨S2x64x8x4x128x256, .f32⟩
  | .hbm, ⟨96, _⟩ => ⟨S2x64x8x4x128x256, .f32⟩
  | .hbm, ⟨97, _⟩ => ⟨S_, .f32⟩
  | .hbm, ⟨98, _⟩ => ⟨S2x64x8x4x128, .f32⟩
  | .hbm, ⟨99, _⟩ => ⟨S2x64x8x4x128x1, .f32⟩
  | .hbm, ⟨100, _⟩ => ⟨S1x1x8x4x1x1, .f32⟩
  | .hbm, ⟨101, _⟩ => ⟨S2x64x8x4x128x1, .f32⟩
  | .hbm, ⟨102, _⟩ => ⟨S2x64x8x4x128x1, .f32⟩
  | .hbm, ⟨103, _⟩ => ⟨S2x64x8x4x128x1, .f32⟩
  | .hbm, ⟨104, _⟩ => ⟨S2x64x8x4x128x1, .f32⟩
  | .hbm, ⟨105, _⟩ => ⟨S2x64x8x4x128x256, .f32⟩
  | .hbm, ⟨106, _⟩ => ⟨S2x64x8x4x128x256, .f32⟩
  | .hbm, ⟨107, _⟩ => ⟨S2x64x8x128x4x128, .f32⟩
  | .hbm, ⟨108, _⟩ => ⟨S2x64x128x8x4x128, .f32⟩
  | .hbm, ⟨109, _⟩ => ⟨S16384x4096, .f32⟩
  | .hbm, ⟨110, _⟩ => ⟨S16384x4096, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== GateUp.lean ====
abbrev S16384x4096 : Shape := ⟨2, ![16384, 4096]⟩
abbrev S4096x16384 : Shape := ⟨2, ![4096, 16384]⟩
abbrev S2x8192x4096 : Shape := ⟨3, ![2, 8192, 4096]⟩
abbrev S16384x8192 : Shape := ⟨2, ![16384, 8192]⟩
abbrev S8192x4096 : Shape := ⟨2, ![8192, 4096]⟩
abbrev S1024x4096 : Shape := ⟨2, ![1024, 4096]⟩
abbrev S4096x512 : Shape := ⟨2, ![4096, 512]⟩
abbrev S1x32x4096 : Shape := ⟨3, ![1, 32, 4096]⟩
abbrev S1024x512 : Shape := ⟨2, ![1024, 512]⟩
abbrev S32x4096 : Shape := ⟨2, ![32, 4096]⟩

abbrev nBuf : Space → Nat
  | .hbm => 5
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S2x8192x4096, .f32⟩
  | .hbm, ⟨3, _⟩ => ⟨S16384x8192, .bf16⟩
  | .hbm, ⟨4, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x32x4096, .f32⟩
  | .local _ .vmem, ⟨7, _⟩ => ⟨S1x32x4096, .f32⟩
  | .local _ .vmem, ⟨8, _⟩ => ⟨S1024x512, .bf16⟩
  | .local _ .vmem, ⟨9, _⟩ => ⟨S1024x512, .bf16⟩
  | .local _ .vmem, ⟨10, _⟩ => ⟨S32x4096, .bf16⟩
  | .local _ .vmem, ⟨11, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c16_i32 : BitVec 32 := 16#32
  let v1 : BitVec 32 := Scalar.addi arg1 c16_i32
  let c0_i32_0 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c1_i32_0 : BitVec 32 := 1#32
  let c0_i32 : BitVec 32 := 0#32
  let c0_i32_1 : BitVec 32 := 0#32
  ![c1_i32_0.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GateUpRefIdeal.lean ====
abbrev S16384x4096 : Shape := ⟨2, ![16384, 4096]⟩
abbrev S4096x16384 : Shape := ⟨2, ![4096, 16384]⟩
abbrev S2x8192x4096 : Shape := ⟨3, ![2, 8192, 4096]⟩
abbrev S16384x16384 : Shape := ⟨2, ![16384, 16384]⟩
abbrev S16384x8192 : Shape := ⟨2, ![16384, 8192]⟩
abbrev S_ : Shape := ⟨0, ![]⟩
abbrev S1x8192x4096 : Shape := ⟨3, ![1, 8192, 4096]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S2x8192x4096, .f32⟩
  | .hbm, ⟨3, _⟩ => ⟨S16384x4096, .f32⟩
  | .hbm, ⟨4, _⟩ => ⟨S4096x16384, .f32⟩
  | .hbm, ⟨5, _⟩ => ⟨S16384x16384, .f32⟩
  | .hbm, ⟨6, _⟩ => ⟨S16384x8192, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S16384x8192, .bf16⟩
  | .hbm, ⟨19, _⟩ => ⟨S1x8192x4096, .f32⟩
  | .hbm, ⟨20, _⟩ => ⟨S8192x4096, .f32⟩
  | .hbm, ⟨21, _⟩ => ⟨S8192x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Down.lean ====
abbrev S16384x8192 : Shape := ⟨2, ![16384, 8192]⟩
abbrev S8192x4096 : Shape := ⟨2, ![8192, 4096]⟩
abbrev S16384x4096 : Shape := ⟨2, ![16384, 4096]⟩
abbrev S8x36864 : Shape := ⟨2, ![8, 36864]⟩
abbrev S2x4096 : Shape := ⟨2, ![2, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩
abbrev S2x8192x4096 : Shape := ⟨3, ![2, 8192, 4096]⟩

abbrev nBuf : Space → Nat
  | .hbm => 9
  | .vmem => 20
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S8x36864, .f32⟩
  | .hbm, ⟨4, _⟩ => ⟨S2x4096, .f32⟩
  | .hbm, ⟨5, _⟩ => ⟨S2x1x4096, .f32⟩
  | .hbm, ⟨6, _⟩ => ⟨S16384x4096, .f32⟩
  | .hbm, ⟨7, _⟩ => ⟨S16384x4096, .f32⟩
  | .hbm, ⟨8, _⟩ => ⟨S2x8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x4096, .bf16⟩
  | .local _ .vmem, ⟨11, _⟩ => ⟨S1024x4096, .bf16⟩
  | .local _ .vmem, ⟨12, _⟩ => ⟨S4096x1024, .bf16⟩
  | .local _ .vmem, ⟨13, _⟩ => ⟨S4096x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .f32⟩
  | .local _ .vmem, ⟨19, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![16, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]
-- ==== DownRefIdeal.lean ====
abbrev S16384x8192 : Shape := ⟨2, ![16384, 8192]⟩
abbrev S8192x4096 : Shape := ⟨2, ![8192, 4096]⟩
abbrev S16384x4096 : Shape := ⟨2, ![16384, 4096]⟩
abbrev S8x36864 : Shape := ⟨2, ![8, 36864]⟩
abbrev S2x36864 : Shape := ⟨2, ![2, 36864]⟩
abbrev S2x9x4096 : Shape := ⟨3, ![2, 9, 4096]⟩
abbrev S2x1x4096 : Shape := ⟨3, ![2, 1, 4096]⟩
abbrev S2x4096 : Shape := ⟨2, ![2, 4096]⟩
abbrev S2x8192x4096 : Shape := ⟨3, ![2, 8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .bf16⟩
  | .hbm, ⟨2, _⟩ => ⟨S16384x4096, .f32⟩
  | .hbm, ⟨3, _⟩ => ⟨S8x36864, .f32⟩
  | .hbm, ⟨4, _⟩ => ⟨S2x36864, .f32⟩
  | .hbm, ⟨5, _⟩ => ⟨S2x9x4096, .f32⟩
  | .hbm, ⟨6, _⟩ => ⟨S2x1x4096, .f32⟩
  | .hbm, ⟨7, _⟩ => ⟨S2x4096, .f32⟩
  | .hbm, ⟨8, _⟩ => ⟨S16384x8192, .f32⟩
  | .hbm, ⟨9, _⟩ => ⟨S8192x4096, .f32⟩
  | .hbm, ⟨10, _⟩ => ⟨S16384x4096, .f32⟩
  | .hbm, ⟨11, _⟩ => ⟨S2x8192x4096, .f32⟩
  | .hbm, ⟨12, _⟩ => ⟨S2x8192x4096, .f32⟩
  | .hbm, ⟨13, _⟩ => ⟨S2x1x4096, .f32⟩
  | .hbm, ⟨14, _⟩ => ⟨S_, .f32⟩
  | .hbm, ⟨15, _⟩ => ⟨S2x1x4096, .f32⟩
  | .hbm, ⟨16, _⟩ => ⟨S2x1x4096, .f32⟩
  | .hbm, ⟨17, _⟩ => ⟨S2x8192x4096, .f32⟩
  | .hbm, ⟨18, _⟩ => ⟨S2x8192x4096, .f32⟩
  | .hbm, ⟨19, _⟩ => ⟨S2x8192x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S8x36864 : Shape := ⟨2, ![8, 36864]⟩
abbrev S2x4096 : Shape := ⟨2, ![2, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S8x36864, .f32⟩
  | .hbm, ⟨4, _⟩ => ⟨S2x4096, .f32⟩
  | .hbm, ⟨5, _⟩ => ⟨S2x1x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S16384x4096 : Shape := ⟨2, ![16384, 4096]⟩
abbrev S4096x4096 : Shape := ⟨2, ![4096, 4096]⟩
abbrev S8x36864 : Shape := ⟨2, ![8, 36864]⟩
abbrev S2x36864 : Shape := ⟨2, ![2, 36864]⟩
abbrev S2x9x4096 : Shape := ⟨3, ![2, 9, 4096]⟩
abbrev S2x1x4096 : Shape := ⟨3, ![2, 1, 4096]⟩
abbrev S2x4096 : Shape := ⟨2, ![2, 4096]⟩
abbrev S2x8192x4096 : Shape := ⟨3, ![2, 8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S8x36864, .f32⟩
  | .hbm, ⟨4, _⟩ => ⟨S2x36864, .f32⟩
  | .hbm, ⟨5, _⟩ => ⟨S2x9x4096, .f32⟩
  | .hbm, ⟨6, _⟩ => ⟨S2x1x4096, .f32⟩
  | .hbm, ⟨7, _⟩ => ⟨S2x4096, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S2x8192x4096, .f32⟩
  | .hbm, ⟨12, _⟩ => ⟨S2x8192x4096, .f32⟩
  | .hbm, ⟨13, _⟩ => ⟨S2x1x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== HgrnQ.lean ====
abbrev S16384x4096 : Shape := ⟨2, ![16384, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnQRefIdeal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== HgrnF.lean ====
abbrev S16384x4096 : Shape := ⟨2, ![16384, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c4_i32 : BitVec 32 := 4#32
  let v1 : BitVec 32 := Scalar.addi arg1 c4_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnFRefIdeal.lean ====
abbrev S16384x4096 : Shape := ⟨2, ![16384, 4096]⟩
abbrev S4096x16384 : Shape := ⟨2, ![4096, 16384]⟩
abbrev S16384x16384 : Shape := ⟨2, ![16384, 16384]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== HgrnI.lean ====
abbrev S16384x4096 : Shape := ⟨2, ![16384, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c8_i32 : BitVec 32 := 8#32
  let v1 : BitVec 32 := Scalar.addi arg1 c8_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnIRefIdeal.lean ====
abbrev S16384x4096 : Shape := ⟨2, ![16384, 4096]⟩
abbrev S4096x16384 : Shape := ⟨2, ![4096, 16384]⟩
abbrev S16384x16384 : Shape := ⟨2, ![16384, 16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== HgrnG.lean ====
abbrev S16384x4096 : Shape := ⟨2, ![16384, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c12_i32 : BitVec 32 := 12#32
  let v1 : BitVec 32 := Scalar.addi arg1 c12_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnGRefIdeal.lean ====
abbrev S16384x4096 : Shape := ⟨2, ![16384, 4096]⟩
abbrev S4096x16384 : Shape := ⟨2, ![4096, 16384]⟩
abbrev S16384x16384 : Shape := ⟨2, ![16384, 16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .f32⟩
  | .hbm, ⟨3, _⟩ => ⟨S4096x16384, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Qkv.lean ====
abbrev S16384x4096 : Shape := ⟨2, ![16384, 4096]⟩
abbrev S4096x6144 : Shape := ⟨2, ![4096, 6144]⟩
abbrev S128 : Shape := ⟨1, ![128]⟩
abbrev S_ : Shape := ⟨0, ![]⟩
abbrev S1x128 : Shape := ⟨2, ![1, 128]⟩
abbrev S1x1x128 : Shape := ⟨3, ![1, 1, 128]⟩
abbrev S6x1x128 : Shape := ⟨3, ![6, 1, 128]⟩
abbrev S16384x6144 : Shape := ⟨2, ![16384, 6144]⟩
abbrev S1024x4096 : Shape := ⟨2, ![1024, 4096]⟩
abbrev S4096x1024 : Shape := ⟨2, ![4096, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x1x128, .f32⟩
  | .hbm, ⟨12, _⟩ => ⟨S1x1x128, .f32⟩
  | .hbm, ⟨13, _⟩ => ⟨S1x1x128, .f32⟩
  | .hbm, ⟨14, _⟩ => ⟨S1x1x128, .f32⟩
  | .hbm, ⟨15, _⟩ => ⟨S1x1x128, .f32⟩
  | .hbm, ⟨16, _⟩ => ⟨S1x1x128, .f32⟩
  | .hbm, ⟨17, _⟩ => ⟨S6x1x128, .f32⟩
  | .hbm, ⟨18, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x128, .f32⟩
  | .local _ .vmem, ⟨5, _⟩ => ⟨S1x1x128, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 6, 1], ![false, false, false]⟩

def k0_cond1 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c5_i32_3 : BitVec 32 := 5#32
  let v6 : BitVec 1 := Scalar.cmpi .sge arg1 c5_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvRefIdeal.lean ====
abbrev S16384x4096 : Shape := ⟨2, ![16384, 4096]⟩
abbrev S4096x6144 : Shape := ⟨2, ![4096, 6144]⟩
abbrev S128 : Shape := ⟨1, ![128]⟩
abbrev S16384x6144 : Shape := ⟨2, ![16384, 6144]⟩
abbrev S16384x1024 : Shape := ⟨2, ![16384, 1024]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩
abbrev S1x1x128 : Shape := ⟨3, ![1, 1, 128]⟩
abbrev S16384x8x128 : Shape := ⟨3, ![16384, 8, 128]⟩
abbrev S16384x8 : Shape := ⟨2, ![16384, 8]⟩
abbrev S16384x8x1 : Shape := ⟨3, ![16384, 8, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S128, .f32⟩
  | .hbm, ⟨3, _⟩ => ⟨S128, .f32⟩
  | .hbm, ⟨4, _⟩ => ⟨S16384x4096, .f32⟩
  | .hbm, ⟨5, _⟩ => ⟨S4096x6144, .f32⟩
  | .hbm, ⟨6, _⟩ => ⟨S16384x6144, .f32⟩
  | .hbm, ⟨7, _⟩ => ⟨S16384x4096, .f32⟩
  | .hbm, ⟨8, _⟩ => ⟨S16384x1024, .f32⟩
  | .hbm, ⟨9, _⟩ => ⟨S16384x1024, .f32⟩
  | .hbm, ⟨10, _⟩ => ⟨S16384x32x128, .f32⟩
  | .hbm, ⟨11, _⟩ => ⟨S16384x32x128, .f32⟩
  | .hbm, ⟨12, _⟩ => ⟨S_, .f32⟩
  | .hbm, ⟨13, _⟩ => ⟨S16384x32, .f32⟩
  | .hbm, ⟨14, _⟩ => ⟨S16384x32x1, .f32⟩
  | .hbm, ⟨15, _⟩ => ⟨S_, .f32⟩
  | .hbm, ⟨16, _⟩ => ⟨S16384x32x1, .f32⟩
  | .hbm, ⟨17, _⟩ => ⟨S16384x32x1, .f32⟩
  | .hbm, ⟨18, _⟩ => ⟨S_, .f32⟩
  | .hbm, ⟨19, _⟩ => ⟨S16384x32x1, .f32⟩
  | .hbm, ⟨20, _⟩ => ⟨S16384x32x1, .f32⟩
  | .hbm, ⟨21, _⟩ => ⟨S16384x32x1, .f32⟩
  | .hbm, ⟨22, _⟩ => ⟨S16384x32x128, .f32⟩
  | .hbm, ⟨23, _⟩ => ⟨S16384x32x128, .f32⟩
  | .hbm, ⟨24, _⟩ => ⟨S1x1x128, .f32⟩
  | .hbm, ⟨25, _⟩ => ⟨S16384x32x128, .f32⟩
  | .hbm, ⟨26, _⟩ => ⟨S16384x32x128, .f32⟩
  | .hbm, ⟨27, _⟩ => ⟨S_, .f32⟩
  | .hbm, ⟨28, _⟩ => ⟨S16384x32x128, .f32⟩
  | .hbm, ⟨29, _⟩ => ⟨S16384x32x128, .f32⟩
  | .hbm, ⟨30, _⟩ => ⟨S16384x8x128, .f32⟩
  | .hbm, ⟨31, _⟩ => ⟨S16384x8x128, .f32⟩
  | .hbm, ⟨32, _⟩ => ⟨S_, .f32⟩
  | .hbm, ⟨33, _⟩ => ⟨S16384x8, .f32⟩
  | .hbm, ⟨34, _⟩ => ⟨S16384x8x1, .f32⟩
  | .hbm, ⟨35, _⟩ => ⟨S_, .f32⟩
  | .hbm, ⟨36, _⟩ => ⟨S16384x8x1, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x128, .f32⟩
  | .hbm, ⟨43, _⟩ => ⟨S16384x8x128, .f32⟩
  | .hbm, ⟨44, _⟩ => ⟨S1x1x128, .f32⟩
  | .hbm, ⟨45, _⟩ => ⟨S16384x8x128, .f32⟩
  | .hbm, ⟨46, _⟩ => ⟨S16384x8x128, .f32⟩
  | .hbm, ⟨47, _⟩ => ⟨S16384x4096, .f32⟩
  | .hbm, ⟨48, _⟩ => ⟨S16384x1024, .f32⟩
  | .hbm, ⟨49, _⟩ => ⟨S16384x6144, .f32⟩
  | .hbm, ⟨50, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.AttnRun.lean ====
module

public import proofs.«01_k».proof.Proof.Gen.KernelIdeal.Skeleton
public import proofs.«01_k».proof.Proof.Gen.KernelIdeal.Frame

@[expose] public section

set_option maxRecDepth 16384

noncomputable section

namespace Cert.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The attention kernel's body, run once

The body stores thirty-two tiles of 128 columns into its output block; the run below finds them as a list of pieces.
-/

set_option maxHeartbeats 1600000 in
/-- The body's triple on whole staging buffers: the inputs stay as they are, the output holds the stored tiles
    (`.1`, found by the run), the distance scratch what was stored into it. -/
noncomputable def bodyRun (c : Dev nD) (i : grid0.Coords) (arg2 : Memref sig .tc .smem S32 .f32) (harg2 : arg2.IsWhole) (arg3 : Memref sig .tc .vmem S8x512x128 .bf16) (harg3 : arg3.IsWhole) (arg4 : Memref sig .tc .vmem S256x128 .bf16) (harg4 : arg4.IsWhole) (arg5 : Memref sig .tc .vmem S128x256 .f32) (harg5 : arg5.IsWhole) (arg6 : Memref sig .tc .vmem S128x256 .f32) (harg6 : arg6.IsWhole) (arg7 : Memref sig .tc .vmem S128x4096 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x4096 .bf16) (harg12 : arg12.IsWhole) (arg13 : Memref sig .tc .vmem S128x256 .f32) (harg13 : arg13.IsWhole)
    (x0 : Vec F S32 .f32) (x1 : Vec F S8x512x128 .bf16) (x2 : Vec F S256x128 .bf16) (x3 : Vec F S128x256 .f32) (x4 : Vec F S128x256 .f32) (x5 : Vec F S128x4096 .bf16) (x6 : Vec F S128x1024 .bf16) (x7 : Vec F S128x1024 .bf16) (x8 : Vec F S128x1024 .bf16) (x9 : Vec F S128x1024 .bf16) :
    Σ' (L10 : List (View.Piece (Elt F) S128x4096 .bf16)), { LT0 : List (View.Piece (Elt F) S128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LT0)) -∗ K ⟨⟩))
          ⊢ wp frame (wpE (defs₀ (F := F)) Variants.none c none) E (cc0_swa_attention i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_swa_attention_eq_skeleton]; unfold cc0_swa_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.AttnRun

end
-- ==== Proof.AttnLaunch.lean ====
module

public import proofs.«01_k».proof.Proof.AttnRun
public import Idealize.ShloMosaic.Lib.Claim
public import Idealize.ShloMosaic.Lib.Pipeline.Value

@[expose] public section

set_option maxRecDepth 16384

noncomputable section

namespace Cert.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The attention kernel's launch

The tiles the body stores cover its output block, so what a grid point writes back is stated by the tiles alone; the
pipeline's run then names the output array block by block.
-/

variable (m : (ℓ : Loc nD τ sig) → Buf (Elt F) ℓ) (ρ : Dev nD → PrngReg)

/-- The stored tiles cover the output block. -/
theorem tiles_cover (c : Dev nD) (i : grid0.Coords) (arg2 : Memref sig .tc .smem S32 .f32) (harg2 : arg2.IsWhole) (arg3 : Memref sig .tc .vmem S8x512x128 .bf16) (harg3 : arg3.IsWhole) (arg4 : Memref sig .tc .vmem S256x128 .bf16) (harg4 : arg4.IsWhole) (arg5 : Memref sig .tc .vmem S128x256 .f32) (harg5 : arg5.IsWhole) (arg6 : Memref sig .tc .vmem S128x256 .f32) (harg6 : arg6.IsWhole) (arg7 : Memref sig .tc .vmem S128x4096 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x4096 .bf16) (harg12 : arg12.IsWhole) (arg13 : Memref sig .tc .vmem S128x256 .f32) (harg13 : arg13.IsWhole)
    (x0 : Vec F S32 .f32) (x1 : Vec F S8x512x128 .bf16) (x2 : Vec F S256x128 .bf16) (x3 : Vec F S128x256 .f32) (x4 : Vec F S128x256 .f32) (x5 : Vec F S128x4096 .bf16) (x6 : Vec F S128x1024 .bf16) (x7 : Vec F S128x1024 .bf16) (x8 : Vec F S128x1024 .bf16) (x9 : Vec F S128x1024 .bf16) (y : S128x4096.Idx) :
    ∃ pc ∈ (bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 S128x128.size (by sl_kernel_rfl) y

/-- A staging buffer of the output, through which its contents are read (any would do). -/
abbrev outView : View sig .tc .vmem S128x4096 .bf16 := (Memref.whole cc0_stg10_0 : Memref sig .tc .vmem S128x4096 .bf16).view

/-- What the body leaves in the output's buffer: its tiles read back. -/
def outBlk (c : Dev nD) (i : grid0.Coords) (arg2 : Memref sig .tc .smem S32 .f32) (harg2 : arg2.IsWhole) (arg3 : Memref sig .tc .vmem S8x512x128 .bf16) (harg3 : arg3.IsWhole) (arg4 : Memref sig .tc .vmem S256x128 .bf16) (harg4 : arg4.IsWhole) (arg5 : Memref sig .tc .vmem S128x256 .f32) (harg5 : arg5.IsWhole) (arg6 : Memref sig .tc .vmem S128x256 .f32) (harg6 : arg6.IsWhole) (arg7 : Memref sig .tc .vmem S128x4096 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x4096 .bf16) (harg12 : arg12.IsWhole) (arg13 : Memref sig .tc .vmem S128x256 .f32) (harg13 : arg13.IsWhole)
    (x0 : Vec F S32 .f32) (x1 : Vec F S8x512x128 .bf16) (x2 : Vec F S256x128 .bf16) (x3 : Vec F S128x256 .f32) (x4 : Vec F S128x256 .f32) (x5 : Vec F S128x4096 .bf16) (x6 : Vec F S128x1024 .bf16) (x7 : Vec F S128x1024 .bf16) (x8 : Vec F S128x1024 .bf16) (x9 : Vec F S128x1024 .bf16) : Vec F S128x4096 .bf16 :=
  outView.read (Elt F) (outView.writes (Elt F) outView.junk (bodyRun c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1)

abbrev st0 (t : Fin cfg0.N) : Memref sig .tc .smem S32 .f32 := win0_0.stage (cfg0.slots t 0)
abbrev sw0 (t : Fin cfg0.N) : (st0 t).IsWhole := hstage0_0 ((cfg0.slots t 0).cast nbuf0_0)
abbrev st1 (t : Fin cfg0.N) : Memref sig .tc .vmem S8x512x128 .bf16 := win0_1.stage (cfg0.slots t 1)
abbrev sw1 (t : Fin cfg0.N) : (st1 t).IsWhole := hstage0_1 ((cfg0.slots t 1).cast nbuf0_1)
abbrev st2 (t : Fin cfg0.N) : Memref sig .tc .vmem S256x128 .bf16 := win0_2.stage (cfg0.slots t 2)
abbrev sw2 (t : Fin cfg0.N) : (st2 t).IsWhole := hstage0_2 ((cfg0.slots t 2).cast nbuf0_2)
abbrev st3 (t : Fin cfg0.N) : Memref sig .tc .vmem S128x256 .f32 := win0_3.stage (cfg0.slots t 3)
abbrev sw3 (t : Fin cfg0.N) : (st3 t).IsWhole := hstage0_3 ((cfg0.slots t 3).cast nbuf0_3)
abbrev st4 (t : Fin cfg0.N) : Memref sig .tc .vmem S128x256 .f32 := win0_4.stage (cfg0.slots t 4)
abbrev sw4 (t : Fin cfg0.N) : (st4 t).IsWhole := hstage0_4 ((cfg0.slots t 4).cast nbuf0_4)
abbrev st5 (t : Fin cfg0.N) : Memref sig .tc .vmem S128x4096 .bf16 := win0_5.stage (cfg0.slots t 5)
abbrev sw5 (t : Fin cfg0.N) : (st5 t).IsWhole := hstage0_5 ((cfg0.slots t 5).cast nbuf0_5)
abbrev st6 (t : Fin cfg0.N) : Memref sig .tc .vmem S128x1024 .bf16 := win0_6.stage (cfg0.slots t 6)
abbrev sw6 (t : Fin cfg0.N) : (st6 t).IsWhole := hstage0_6 ((cfg0.slots t 6).cast nbuf0_6)
abbrev st7 (t : Fin cfg0.N) : Memref sig .tc .vmem S128x1024 .bf16 := win0_7.stage (cfg0.slots t 7)
abbrev sw7 (t : Fin cfg0.N) : (st7 t).IsWhole := hstage0_7 ((cfg0.slots t 7).cast nbuf0_7)
abbrev st8 (t : Fin cfg0.N) : Memref sig .tc .vmem S128x1024 .bf16 := win0_8.stage (cfg0.slots t 8)
abbrev sw8 (t : Fin cfg0.N) : (st8 t).IsWhole := hstage0_8 ((cfg0.slots t 8).cast nbuf0_8)
abbrev st9 (t : Fin cfg0.N) : Memref sig .tc .vmem S128x1024 .bf16 := win0_9.stage (cfg0.slots t 9)
abbrev sw9 (t : Fin cfg0.N) : (st9 t).IsWhole := hstage0_9 ((cfg0.slots t 9).cast nbuf0_9)
abbrev st10 (t : Fin cfg0.N) : Memref sig .tc .vmem S128x4096 .bf16 := win0_10.stage (cfg0.slots t 10)
abbrev sw10 (t : Fin cfg0.N) : (st10 t).IsWhole := hstage0_10 ((cfg0.slots t 10).cast nbuf0_10)
/-- The distance scratch. -/
abbrev scr : Memref sig .tc .vmem S128x256 .f32 := Memref.whole cc0_scratch0

/-- The invariant with the scratch as a buffer owned at some contents. -/
theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- What the output's buffer holds after the body at point `t`. -/
def outAt (c : Dev nD) (t : Fin cfg0.N) : Vec F S128x4096 .bf16 :=
  outBlk c (grid0.coords t) (st0 t) (sw0 t) (st1 t) (sw1 t) (st2 t) (sw2 t) (st3 t) (sw3 t) (st4 t) (sw4 t) (st5 t) (sw5 t) (st6 t) (sw6 t) (st7 t) (sw7 t) (st8 t) (sw8 t) (st9 t) (sw9 t) (st10 t) (sw10 t) scr (Memref.isWhole_whole _) (iblk m c 0 t) (iblk m c 1 t) (iblk m c 2 t) (iblk m c 3 t) (iblk m c 4 t) (X0_5 m c t) (iblk m c 6 t) (iblk m c 7 t) (iblk m c 8 t) (iblk m c 9 t)

/-- The pipeline's proof data: the arrays as the region finds them, each input's buffer at its block, the output's at
    `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = X0_5 m c t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = X0_5 m c t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare ((dats m 0 c).before 9 t d)) ∗ (∃ d, owns (c : Thread nD τ) (st10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ owns (c : Thread nD τ) (st6 t) fullShare ((dats m 0 c).after 6 t) ∗ owns (c : Thread nD τ) (st7 t) fullShare ((dats m 0 c).after 7 t) ∗ owns (c : Thread nD τ) (st8 t) fullShare ((dats m 0 c).after 8 t) ∗ owns (c : Thread nD τ) (st9 t) fullShare ((dats m 0 c).after 9 t) ∗ owns (c : Thread nD τ) (st10 t) fullShare ((dats m 0 c).after 10 t))

set_option maxHeartbeats 1600000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, inv_eq]
  unfold outAt
  unfold outBlk
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c (grid0.coords t) _ _ _ _ _ _ _ _ _ _ _ _ _ _ _ _ _ _ _ _ _ _ _ _ (iblk m c 0 t) (iblk m c 1 t) (iblk m c 2 t) (iblk m c 3 t) (iblk m c 4 t) (X0_5 m c t) (iblk m c 6 t) (iblk m c 7 t) (iblk m c 8 t) (iblk m c 9 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, ⟨%e10, H10⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (tiles_cover c _ _ _ _ _ _ _ _ _ _ _ _ _ _ _ _ _ _ _ _ _ _ _ _ _ _ _ _ _ _ _ _ _ _ _)

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The launch: every array of the pipeline at what the proof data say, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run with the output array named, the arguments unchanged. -/
theorem run_out : θ_run defs (onTc (τ := τ) (main (F := F))) ⟨m, fun _ => 0, ρ⟩ fun r => ∀ c : Dev nD,
      r.2.mem ((c : Thread nD τ).loc main_v31) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h.1 c).1 10,
      ((h.1 c).1 9).trans (((dats m 0 c).arrAt_in 9 rfl _).trans ((A_eq m c 9).trans (V_main_arg0 m c))),
      ((h.1 c).2 main_arg1 (Pipeline.mem_restRefs_of main_arg1 (by decide) (by decide))).trans (V_main_arg1 m c)⟩)
    (run_quiescent m ρ)

end Cert.AttnRun

end
-- ==== Proof.AttnHead.lean ====
module

public import proofs.«01_k».proof.Proof.Gen.KernelIdeal.Skeleton
public import Idealize.ShloMosaic.Lib.Pointwise

@[expose] public section

set_option maxRecDepth 16384

noncomputable section

namespace Cert.AttnHead

open Cert.KernelIdeal Cert.KernelIdeal.Gen
open Idealize.ShloMosaic Idealize.ShloMosaic.TcCoe Idealize.SL.Sem

variable {F : FTy → Type} [FloatOps F]

/-- The scores of one key/value head: the four query heads of its group stacked, against the previous and the
    current block's keys, the features beside them. -/
def scores (kf : Vec F S256x128 .bf16) (kp kc q0 q1 q2 q3 : Vec F S128x128 .bf16) (qf : Vec F S1x512x128 .bf16) : FVec F S512x256 .f32 :=
  k0_pay35 kf (k0_pay32 k0_pay7 kp) (k0_pay33 kp) kc q0 q1 q2 q3 qf

/-- The values beside a block of ones. -/
def vals (vp vc : Vec F S128x128 .bf16) : FVec F S256x256 .bf16 := k0_pay34 k0_pay8 (k0_pay31 k0_pay7 vp) vc

/-- The literal of minus infinity. -/
theorem neg_inf : Ideal.ofBits FTy.f32 4286578688#32 = (⊥ : EReal) := by
  simp [Ideal.ofBits, Ideal.ieee]

theorem keep_pos (n : ℕ) (h : n ≠ 0) (hn : n < 16) :
    (FloatOps.sitofp (F := Ideal) FTy.f32 (BitVec.setWidth 32 (IntOp.cmpi CmpIPredicate.ne (BitVec.ofNat 32 n) 0#32)) : EReal) = 1 := by
  interval_cases n <;> first | exact absurd rfl h | (simp [IntOp.cmpi, FloatOps.sitofp])

theorem keep_zero :
    (FloatOps.sitofp (F := Ideal) FTy.f32 (BitVec.setWidth 32 (IntOp.cmpi CmpIPredicate.ne (BitVec.ofNat 32 0) 0#32)) : EReal) = 0 := by
  simp [IntOp.cmpi, FloatOps.sitofp]

/-- The keys (or values) of one key/value head at a block: the previous block's with its first row zeroed, then the
    current block's. -/
def both (p c : Vec Ideal S128x128 .bf16) (j : Fin 256) (e : Fin 128) : EReal :=
  if h : (j : ℕ) < 128 then (if (j : ℕ) = 0 then 0 else p (ix2 ⟨j, h⟩ e)) else c (ix2 ⟨(j : ℕ) - 128, by omega⟩ e)

/-- The logit of one query row against one key column. -/
def logit (kf : Vec Ideal S256x128 .bf16) (kp kc q : Vec Ideal S128x128 .bf16) (f : Fin 128 → EReal)
    (dist : Vec Ideal S128x256 .f32) (s : EReal) (r : Fin 128) (j : Fin 256) : EReal :=
  ((∑ e : Fin 128, q (ix2 r e) * both kp kc j e) + ∑ e : Fin 128, f e * kf (ix2 j e)) - s * dist (ix2 r j)

/-- The weighted mean of the values under unnormalised softmax weights. -/
def soft (l : Fin 256 → EReal) (v : Fin 256 → EReal) : EReal :=
  Ideal.div (∑ j : Fin 256, Ideal.exp (l j - Finset.fold max ⊥ l Finset.univ) * v j)
    (∑ j : Fin 256, Ideal.exp (l j - Finset.fold max ⊥ l Finset.univ) * 1)

theorem both_eq (p c : Vec Ideal S128x128 .bf16) (j : Fin 256) (e : Fin 128) :
    (if h : (j : ℕ) < 128 then
            if h_1 : (j : ℕ) < 16 then
              p (ix2 ⟨j, h⟩ e) *
                (FloatOps.sitofp (F := Ideal) FTy.f32 (BitVec.setWidth 32 (IntOp.cmpi CmpIPredicate.ne (BitVec.ofNat 32 j) 0#32)) : EReal)
            else p (ix2 ⟨16 + ((j : ℕ) - 16), by omega⟩ e)
          else c (ix2 ⟨(j : ℕ) - 128, by omega⟩ e)) = both p c j e := by
  unfold both
  by_cases h : (j : ℕ) < 128
  · rw [dif_pos h, dif_pos h]
    by_cases h1 : (j : ℕ) < 16
    · rw [dif_pos h1]
      by_cases h0 : (j : ℕ) = 0
      · simp only [h0, keep_zero, mul_zero, if_true]
      · rw [if_neg h0, keep_pos _ h0 h1, mul_one]
    · rw [dif_neg h1, if_neg (by omega)]
      have e : (⟨16 + ((j : ℕ) - 16), by omega⟩ : Fin 128) = ⟨j, h⟩ := Fin.ext (by simp; omega)
      rw [e]
  · rw [dif_neg h, dif_neg h]

theorem scores_at0 (kf : Vec Ideal S256x128 .bf16) (kp kc q0 q1 q2 q3 : Vec Ideal S128x128 .bf16) (qf : Vec Ideal S1x512x128 .bf16)
    (r : Fin 128) (j : Fin 256) : scores (F := Ideal) kf kp kc q0 q1 q2 q3 qf (ix2 ⟨0 + r, by omega⟩ j)
      = (∑ e : Fin 128, q0 (ix2 r e) * both kp kc j e) + ∑ e : Fin 128, qf (ix3 0 ⟨0 + r, by omega⟩ e) * kf (ix2 j e) := by
  simp only [← both_eq]
  pointwise [scores, k0_pay35, k0_pay32, k0_pay33, k0_pay7]

theorem scores_at1 (kf : Vec Ideal S256x128 .bf16) (kp kc q0 q1 q2 q3 : Vec Ideal S128x128 .bf16) (qf : Vec Ideal S1x512x128 .bf16)
    (r : Fin 128) (j : Fin 256) : scores (F := Ideal) kf kp kc q0 q1 q2 q3 qf (ix2 ⟨128 + r, by omega⟩ j)
      = (∑ e : Fin 128, q1 (ix2 r e) * both kp kc j e) + ∑ e : Fin 128, qf (ix3 0 ⟨128 + r, by omega⟩ e) * kf (ix2 j e) := by
  simp only [← both_eq]
  pointwise [scores, k0_pay35, k0_pay32, k0_pay33, k0_pay7]

theorem scores_at2 (kf : Vec Ideal S256x128 .bf16) (kp kc q0 q1 q2 q3 : Vec Ideal S128x128 .bf16) (qf : Vec Ideal S1x512x128 .bf16)
    (r : Fin 128) (j : Fin 256) : scores (F := Ideal) kf kp kc q0 q1 q2 q3 qf (ix2 ⟨256 + r, by omega⟩ j)
      = (∑ e : Fin 128, q2 (ix2 r e) * both kp kc j e) + ∑ e : Fin 128, qf (ix3 0 ⟨256 + r, by omega⟩ e) * kf (ix2 j e) := by
  simp only [← both_eq]
  pointwise [scores, k0_pay35, k0_pay32, k0_pay33, k0_pay7]
  have n0 : ¬ (256 + (r : ℕ) < 128) := by omega
  have n1 : ¬ (256 + (r : ℕ) - 128 < 128) := by omega
  have e2 : 256 + (r : ℕ) - 128 - 128 = r := by omega
  simp only [dif_neg n0, dif_neg n1, e2]
  simp only [dif_pos r.isLt]

theorem scores_at3 (kf : Vec Ideal S256x128 .bf16) (kp kc q0 q1 q2 q3 : Vec Ideal S128x128 .bf16) (qf : Vec Ideal S1x512x128 .bf16)
    (r : Fin 128) (j : Fin 256) : scores (F := Ideal) kf kp kc q0 q1 q2 q3 qf (ix2 ⟨384 + r, by omega⟩ j)
      = (∑ e : Fin 128, q3 (ix2 r e) * both kp kc j e) + ∑ e : Fin 128, qf (ix3 0 ⟨384 + r, by omega⟩ e) * kf (ix2 j e) := by
  simp only [← both_eq]
  pointwise [scores, k0_pay35, k0_pay32, k0_pay33, k0_pay7]
  have n0 : ¬ (384 + (r : ℕ) < 128) := by omega
  have n1 : ¬ (384 + (r : ℕ) - 128 < 128) := by omega
  have n2 : ¬ (384 + (r : ℕ) - 128 - 128 < 128) := by omega
  have e3 : 384 + (r : ℕ) - 128 - 128 - 128 = r := by omega
  simp only [dif_neg n0, dif_neg n1, dif_neg n2, e3]

theorem vals_at (vp vc : Vec Ideal S128x128 .bf16) (j : Fin 256) (e : Fin 128) :
    vals (F := Ideal) vp vc (ix2 j ⟨e, by omega⟩) = both vp vc j e := by
  simp only [← both_eq]
  pointwise [vals, k0_pay34, k0_pay31, k0_pay7, k0_pay8]

theorem vals_one (vp vc : Vec Ideal S128x128 .bf16) (j : Fin 256) (e : Fin 128) :
    vals (F := Ideal) vp vc (ix2 j ⟨128 + e, by omega⟩) = 1 := by
  pointwise [vals, k0_pay34, k0_pay31, k0_pay7, k0_pay8]

theorem out_at0 (v : FVec Ideal S256x256 .bf16) (s : FVec Ideal S512x256 .f32) (dist : Vec Ideal S128x256 .f32) (s0 s1 s2 s3 : EReal)
    (r : Fin 128) (d : Fin 128) : k0_pay36 (F := Ideal) v s dist s0 s1 s2 s3 (ix2 ⟨0 + r, by omega⟩ d)
      = Ideal.div
         (∑ j : Fin 256, Ideal.exp ((s (ix2 ⟨0 + r, by omega⟩ j) - s0 * dist (ix2 r j))
            - Finset.fold max ⊥ (fun j : Fin 256 => s (ix2 ⟨0 + r, by omega⟩ j) - s0 * dist (ix2 r j)) Finset.univ) * v (ix2 j ⟨d, by omega⟩))
         (∑ j : Fin 256, Ideal.exp ((s (ix2 ⟨0 + r, by omega⟩ j) - s0 * dist (ix2 r j))
            - Finset.fold max ⊥ (fun j : Fin 256 => s (ix2 ⟨0 + r, by omega⟩ j) - s0 * dist (ix2 r j)) Finset.univ) * v (ix2 j ⟨128 + d, by omega⟩)) := by
  rw [← neg_inf]
  pointwise [k0_pay36]

theorem out_at1 (v : FVec Ideal S256x256 .bf16) (s : FVec Ideal S512x256 .f32) (dist : Vec Ideal S128x256 .f32) (s0 s1 s2 s3 : EReal)
    (r : Fin 128) (d : Fin 128) : k0_pay36 (F := Ideal) v s dist s0 s1 s2 s3 (ix2 ⟨128 + r, by omega⟩ d)
      = Ideal.div
         (∑ j : Fin 256, Ideal.exp ((s (ix2 ⟨128 + r, by omega⟩ j) - s1 * dist (ix2 r j))
            - Finset.fold max ⊥ (fun j : Fin 256 => s (ix2 ⟨128 + r, by omega⟩ j) - s1 * dist (ix2 r j)) Finset.univ) * v (ix2 j ⟨d, by omega⟩))
         (∑ j : Fin 256, Ideal.exp ((s (ix2 ⟨128 + r, by omega⟩ j) - s1 * dist (ix2 r j))
            - Finset.fold max ⊥ (fun j : Fin 256 => s (ix2 ⟨128 + r, by omega⟩ j) - s1 * dist (ix2 r j)) Finset.univ) * v (ix2 j ⟨128 + d, by omega⟩)) := by
  rw [← neg_inf]
  pointwise [k0_pay36]

theorem out_at2 (v : FVec Ideal S256x256 .bf16) (s : FVec Ideal S512x256 .f32) (dist : Vec Ideal S128x256 .f32) (s0 s1 s2 s3 : EReal)
    (r : Fin 128) (d : Fin 128) : k0_pay36 (F := Ideal) v s dist s0 s1 s2 s3 (ix2 ⟨256 + r, by omega⟩ d)
      = Ideal.div
         (∑ j : Fin 256, Ideal.exp ((s (ix2 ⟨256 + r, by omega⟩ j) - s2 * dist (ix2 r j))
            - Finset.fold max ⊥ (fun j : Fin 256 => s (ix2 ⟨256 + r, by omega⟩ j) - s2 * dist (ix2 r j)) Finset.univ) * v (ix2 j ⟨d, by omega⟩))
         (∑ j : Fin 256, Ideal.exp ((s (ix2 ⟨256 + r, by omega⟩ j) - s2 * dist (ix2 r j))
            - Finset.fold max ⊥ (fun j : Fin 256 => s (ix2 ⟨256 + r, by omega⟩ j) - s2 * dist (ix2 r j)) Finset.univ) * v (ix2 j ⟨128 + d, by omega⟩)) := by
  rw [← neg_inf]
  pointwise [k0_pay36]
  have n0 : ¬ (256 + (r : ℕ) < 128) := by omega
  have n1 : ¬ (256 + (r : ℕ) - 128 < 128) := by omega
  have e2 : 256 + (r : ℕ) - 128 - 128 = r := by omega
  simp only [dif_neg n0, dif_neg n1, e2]
  simp only [dif_pos r.isLt]

theorem out_at3 (v : FVec Ideal S256x256 .bf16) (s : FVec Ideal S512x256 .f32) (dist : Vec Ideal S128x256 .f32) (s0 s1 s2 s3 : EReal)
    (r : Fin 128) (d : Fin 128) : k0_pay36 (F := Ideal) v s dist s0 s1 s2 s3 (ix2 ⟨384 + r, by omega⟩ d)
      = Ideal.div
         (∑ j : Fin 256, Ideal.exp ((s (ix2 ⟨384 + r, by omega⟩ j) - s3 * dist (ix2 r j))
            - Finset.fold max ⊥ (fun j : Fin 256 => s (ix2 ⟨384 + r, by omega⟩ j) - s3 * dist (ix2 r j)) Finset.univ) * v (ix2 j ⟨d, by omega⟩))
         (∑ j : Fin 256, Ideal.exp ((s (ix2 ⟨384 + r, by omega⟩ j) - s3 * dist (ix2 r j))
            - Finset.fold max ⊥ (fun j : Fin 256 => s (ix2 ⟨384 + r, by omega⟩ j) - s3 * dist (ix2 r j)) Finset.univ) * v (ix2 j ⟨128 + d, by omega⟩)) := by
  rw [← neg_inf]
  pointwise [k0_pay36]
  have n0 : ¬ (384 + (r : ℕ) < 128) := by omega
  have n1 : ¬ (384 + (r : ℕ) - 128 < 128) := by omega
  have n2 : ¬ (384 + (r : ℕ) - 128 - 128 < 128) := by omega
  have e3 : 384 + (r : ℕ) - 128 - 128 - 128 = r := by omega
  simp only [dif_neg n0, dif_neg n1, dif_neg n2, e3]

/-- Query head 0 of a group: its tile of the output. -/
theorem tile_at0 (kf : Vec Ideal S256x128 .bf16) (kp kc vp vc q0 q1 q2 q3 : Vec Ideal S128x128 .bf16) (qf : Vec Ideal S1x512x128 .bf16)
    (dist : Vec Ideal S128x256 .f32) (s0 s1 s2 s3 : EReal) (r d : Fin 128) :
    k0_pay37 (F := Ideal) (vals vp vc) (scores kf kp kc q0 q1 q2 q3 qf) dist s0 s1 s2 s3 (ix2 r d)
      = soft (logit kf kp kc q0 (fun e => qf (ix3 0 ⟨0 + r, by omega⟩ e)) dist s0 r) (fun j => both vp vc j d) := by
  have h : k0_pay37 (F := Ideal) (vals vp vc) (scores kf kp kc q0 q1 q2 q3 qf) dist s0 s1 s2 s3 (ix2 r d)
      = k0_pay36 (F := Ideal) (vals vp vc) (scores kf kp kc q0 q1 q2 q3 qf) dist s0 s1 s2 s3 (ix2 ⟨0 + r, by omega⟩ d) := by
    generalize vals (F := Ideal) vp vc = v
    generalize scores (F := Ideal) kf kp kc q0 q1 q2 q3 qf = s
    pointwise [k0_pay37]
  rw [h, out_at0]
  simp only [scores_at0, vals_at, vals_one]
  rfl

/-- Query head 1 of a group: its tile of the output. -/
theorem tile_at1 (kf : Vec Ideal S256x128 .bf16) (kp kc vp vc q0 q1 q2 q3 : Vec Ideal S128x128 .bf16) (qf : Vec Ideal S1x512x128 .bf16)
    (dist : Vec Ideal S128x256 .f32) (s0 s1 s2 s3 : EReal) (r d : Fin 128) :
    k0_pay38 (F := Ideal) (k0_pay36 (vals vp vc) (scores kf kp kc q0 q1 q2 q3 qf) dist s0 s1 s2 s3) (ix2 r d)
      = soft (logit kf kp kc q1 (fun e => qf (ix3 0 ⟨128 + r, by omega⟩ e)) dist s1 r) (fun j => both vp vc j d) := by
  have h : k0_pay38 (F := Ideal) (k0_pay36 (vals vp vc) (scores kf kp kc q0 q1 q2 q3 qf) dist s0 s1 s2 s3) (ix2 r d)
      = k0_pay36 (F := Ideal) (vals vp vc) (scores kf kp kc q0 q1 q2 q3 qf) dist s0 s1 s2 s3 (ix2 ⟨128 + r, by omega⟩ d) := by
    generalize vals (F := Ideal) vp vc = v
    generalize scores (F := Ideal) kf kp kc q0 q1 q2 q3 qf = s
    pointwise [k0_pay38]
  rw [h, out_at1]
  simp only [scores_at1, vals_at, vals_one]
  rfl

/-- Query head 2 of a group: its tile of the output. -/
theorem tile_at2 (kf : Vec Ideal S256x128 .bf16) (kp kc vp vc q0 q1 q2 q3 : Vec Ideal S128x128 .bf16) (qf : Vec Ideal S1x512x128 .bf16)
    (dist : Vec Ideal S128x256 .f32) (s0 s1 s2 s3 : EReal) (r d : Fin 128) :
    k0_pay39 (F := Ideal) (k0_pay36 (vals vp vc) (scores kf kp kc q0 q1 q2 q3 qf) dist s0 s1 s2 s3) (ix2 r d)
      = soft (logit kf kp kc q2 (fun e => qf (ix3 0 ⟨256 + r, by omega⟩ e)) dist s2 r) (fun j => both vp vc j d) := by
  have h : k0_pay39 (F := Ideal) (k0_pay36 (vals vp vc) (scores kf kp kc q0 q1 q2 q3 qf) dist s0 s1 s2 s3) (ix2 r d)
      = k0_pay36 (F := Ideal) (vals vp vc) (scores kf kp kc q0 q1 q2 q3 qf) dist s0 s1 s2 s3 (ix2 ⟨256 + r, by omega⟩ d) := by
    generalize vals (F := Ideal) vp vc = v
    generalize scores (F := Ideal) kf kp kc q0 q1 q2 q3 qf = s
    pointwise [k0_pay39]
  rw [h, out_at2]
  simp only [scores_at2, vals_at, vals_one]
  rfl

/-- Query head 3 of a group: its tile of the output. -/
theorem tile_at3 (kf : Vec Ideal S256x128 .bf16) (kp kc vp vc q0 q1 q2 q3 : Vec Ideal S128x128 .bf16) (qf : Vec Ideal S1x512x128 .bf16)
    (dist : Vec Ideal S128x256 .f32) (s0 s1 s2 s3 : EReal) (r d : Fin 128) :
    k0_pay40 (F := Ideal) (k0_pay36 (vals vp vc) (scores kf kp kc q0 q1 q2 q3 qf) dist s0 s1 s2 s3) (ix2 r d)
      = soft (logit kf kp kc q3 (fun e => qf (ix3 0 ⟨384 + r, by omega⟩ e)) dist s3 r) (fun j => both vp vc j d) := by
  have h : k0_pay40 (F := Ideal) (k0_pay36 (vals vp vc) (scores kf kp kc q0 q1 q2 q3 qf) dist s0 s1 s2 s3) (ix2 r d)
      = k0_pay36 (F := Ideal) (vals vp vc) (scores kf kp kc q0 q1 q2 q3 qf) dist s0 s1 s2 s3 (ix2 ⟨384 + r, by omega⟩ d) := by
    generalize vals (F := Ideal) vp vc = v
    generalize scores (F := Ideal) kf kp kc q0 q1 q2 q3 qf = s
    pointwise [k0_pay40]
  rw [h, out_at3]
  simp only [scores_at3, vals_at, vals_one]
  rfl

end Cert.AttnHead

end
-- ==== Proof.AttnTiles.lean ====
module

public import proofs.«01_k».proof.Proof.AttnLaunch
public import proofs.«01_k».proof.Proof.AttnHead
public import Idealize.ShloMosaic.Lib.Pointwise
public import Idealize.ShloMosaic.Lib.Pipeline.ValueKit

@[expose] public section

set_option maxRecDepth 16384

noncomputable section

namespace Cert.AttnRun

open Cert.KernelIdeal Cert.KernelIdeal.Gen Cert.AttnHead
open Idealize.ShloMosaic Idealize.ShloMosaic.TcCoe Idealize.ShloMosaic.Tactic
open Idealize.SL.Sem

/-- The distances the body works with at the `n`-th block of a sequence. -/
def distOf (n : ℕ) (x3 x4 : Vec Ideal S128x256 .f32) : Vec Ideal S128x256 .f32 :=
  if n = 0 then x4 else x3

/-- Key/value head `h`'s columns of a block. -/
def col (x : Vec Ideal S128x1024 .bf16) (h : Fin 8) : Vec Ideal S128x128 .bf16 :=
  fun y => x (ix2 (y 0) ⟨128 * h + y 1, by have := (y 1).isLt; have : S128x128.size 1 = 128 := rfl; omega⟩)

/-- Query head `4 * h + g`'s columns of a block. -/
def qcol (x : Vec Ideal S128x4096 .bf16) (h : Fin 8) (g : Fin 4) : Vec Ideal S128x128 .bf16 :=
  fun y => x (ix2 (y 0) ⟨512 * h + 128 * g + y 1, by have := (y 1).isLt; have : S128x128.size 1 = 128 := rfl; omega⟩)

/-- The output block's element at row `r`, column `512 * h + 128 * g + d`. -/
def tileAt (n : ℕ) (x0 : Vec Ideal S32 .f32) (x1 : Vec Ideal S8x512x128 .bf16) (x2 : Vec Ideal S256x128 .bf16) (x3 : Vec Ideal S128x256 .f32) (x4 : Vec Ideal S128x256 .f32) (x5 : Vec Ideal S128x4096 .bf16) (x6 : Vec Ideal S128x1024 .bf16) (x7 : Vec Ideal S128x1024 .bf16) (x8 : Vec Ideal S128x1024 .bf16) (x9 : Vec Ideal S128x1024 .bf16)
    (h : Fin 8) (g : Fin 4) (r d : Fin 128) : EReal :=
  soft (logit x2 (col x7 h) (col x6 h)
    (qcol x5 h g)
    (fun e => x1 (ix3 h ⟨128 * g + r, by omega⟩ e)) (distOf n x3 x4) (x0 (ix1 ⟨4 * h + g, by omega⟩)) r)
    (fun j => both (col x9 h) (col x8 h) j d)

/-- A tile's element from what its operands read. -/
theorem tile_congr (n : ℕ) (x0 : Vec Ideal S32 .f32) (x1 : Vec Ideal S8x512x128 .bf16) (x2 : Vec Ideal S256x128 .bf16) (x3 : Vec Ideal S128x256 .f32) (x4 : Vec Ideal S128x256 .f32) (x5 : Vec Ideal S128x4096 .bf16) (x6 : Vec Ideal S128x1024 .bf16) (x7 : Vec Ideal S128x1024 .bf16) (x8 : Vec Ideal S128x1024 .bf16) (x9 : Vec Ideal S128x1024 .bf16)
    (h : Fin 8) (g : Fin 4) (r d : Fin 128) (kp kc vp vc q : Vec Ideal S128x128 .bf16) (f : Fin 128 → EReal) (dist : Vec Ideal S128x256 .f32) (s : EReal)
    (hkp : ∀ a b : Fin 128, kp (ix2 a b) = x7 (ix2 a ⟨128 * h + b, by omega⟩)) (hkc : ∀ a b : Fin 128, kc (ix2 a b) = x6 (ix2 a ⟨128 * h + b, by omega⟩))
    (hvp : ∀ a b : Fin 128, vp (ix2 a b) = x9 (ix2 a ⟨128 * h + b, by omega⟩)) (hvc : ∀ a b : Fin 128, vc (ix2 a b) = x8 (ix2 a ⟨128 * h + b, by omega⟩))
    (hq : ∀ a b : Fin 128, q (ix2 a b) = x5 (ix2 a ⟨512 * h + 128 * g + b, by omega⟩))
    (hf : ∀ e : Fin 128, f e = x1 (ix3 h ⟨128 * g + r, by omega⟩ e)) (hs : s = x0 (ix1 ⟨4 * h + g, by omega⟩)) (hd : dist = distOf n x3 x4) :
    soft (logit x2 kp kc q f dist s r) (fun j => both vp vc j d) = tileAt n x0 x1 x2 x3 x4 x5 x6 x7 x8 x9 h g r d := by
  have ekp : kp = col x7 h := funext fun y => by rw [eq_ix2 y]; exact hkp _ _
  have ekc : kc = col x6 h := funext fun y => by rw [eq_ix2 y]; exact hkc _ _
  have evp : vp = col x9 h := funext fun y => by rw [eq_ix2 y]; exact hvp _ _
  have evc : vc = col x8 h := funext fun y => by rw [eq_ix2 y]; exact hvc _ _
  have eq : q = qcol x5 h g := funext fun y => by rw [eq_ix2 y]; exact hq _ _
  have ef : f = fun e => x1 (ix3 h ⟨128 * g + r, by omega⟩ e) := funext hf
  rw [ekp, ekc, evp, evc, eq, ef, hs, hd]; rfl

theorem pay6_eq (i : grid0.Coords) (x3 x4 : Vec Ideal S128x256 .f32) : k0_pay6 (F := Ideal) i x3 x4 = distOf (i 1).val x3 x4 := by
  have hlt : (i 1).val < 64 := (i 1).isLt
  have hw : IntOp.cmpi .sgt (BitVec.ofNat 32 (i 1).val) 0#32 = if (i 1).val = 0 then 0#1 else 1#1 := by
    generalize (i 1).val = n at hlt
    interval_cases n <;> rfl
  funext y
  idx_vars y
  unfold distOf
  pointwise [k0_pay6, hw]
  rw [show Scalar.cmpi CmpIPredicate.sgt (BitVec.ofNat 32 (i 1).val) 0#32 = if (i 1).val = 0 then 0#1 else 1#1 from hw]
  by_cases h : (i 1).val = 0
  · simp only [h, if_true]; rfl
  · simp only [h, if_false]; rfl

set_option maxHeartbeats 4000000 in
theorem outBlk_at (c : Dev nD) (i : grid0.Coords) (arg2 : Memref sig .tc .smem S32 .f32) (harg2 : arg2.IsWhole) (arg3 : Memref sig .tc .vmem S8x512x128 .bf16) (harg3 : arg3.IsWhole) (arg4 : Memref sig .tc .vmem S256x128 .bf16) (harg4 : arg4.IsWhole) (arg5 : Memref sig .tc .vmem S128x256 .f32) (harg5 : arg5.IsWhole) (arg6 : Memref sig .tc .vmem S128x256 .f32) (harg6 : arg6.IsWhole) (arg7 : Memref sig .tc .vmem S128x4096 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x4096 .bf16) (harg12 : arg12.IsWhole) (arg13 : Memref sig .tc .vmem S128x256 .f32) (harg13 : arg13.IsWhole)
    (x0 : Vec Ideal S32 .f32) (x1 : Vec Ideal S8x512x128 .bf16) (x2 : Vec Ideal S256x128 .bf16) (x3 : Vec Ideal S128x256 .f32) (x4 : Vec Ideal S128x256 .f32) (x5 : Vec Ideal S128x4096 .bf16) (x6 : Vec Ideal S128x1024 .bf16) (x7 : Vec Ideal S128x1024 .bf16) (x8 : Vec Ideal S128x1024 .bf16) (x9 : Vec Ideal S128x1024 .bf16) (y : S128x4096.Idx) :
    outBlk c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y
      = tileAt (i 1).val x0 x1 x2 x3 x4 x5 x6 x7 x8 x9 ⟨(y 1).val / 512, by have := (y 1).isLt; have : S128x4096.size 1 = 4096 := rfl; omega⟩ ⟨(y 1).val % 512 / 128, by omega⟩ (y 0) ⟨(y 1).val % 128, by omega⟩ := by
  unfold outBlk
  frame_out
  idx_vars y
  canon_tiles x h
  case piece0 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece1 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece2 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece3 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece4 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece5 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece6 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece7 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece8 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece9 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece10 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece11 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece12 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece13 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece14 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece15 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece16 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece17 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece18 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece19 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece20 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece21 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece22 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece23 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece24 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece25 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece26 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece27 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece28 =>
    idx_vars x
    refine (tile_at3 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece29 =>
    idx_vars x
    refine (tile_at2 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece30 =>
    idx_vars x
    refine (tile_at1 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)
  case piece31 =>
    idx_vars x
    refine (tile_at0 _ _ _ _ _ _ _ _ _ _ _ _ _ _ _ _ _).trans ?_
    obtain rfl : y0 = x0 := Fin.ext h0
    rw [show (⟨(y1 : ℕ) % 128, by omega⟩ : Fin 128) = x1 from Fin.ext (by show (y1 : ℕ) % 128 = _; omega)]
    refine tile_congr (i 1).val _ _ _ _ _ _ _ _ _ _ _ _ _ _ _ _ _ _ _ _ _ _ ?_ ?_ ?_ ?_ ?_ ?_ ?_ (pay6_eq _ _ _)
    all_goals first | (intro a b; pointwise; blk_ext) | (intro e; pointwise; blk_ext) | (pointwise; blk_ext)

end Cert.AttnRun

end
-- ==== Proof.AttnArr.lean ====
module

public import proofs.«01_k».proof.Proof.AttnTiles

@[expose] public section

set_option maxRecDepth 16384

noncomputable section

namespace Cert.AttnRun

open Cert.KernelIdeal Cert.KernelIdeal.Gen Cert.AttnHead
open Idealize.ShloMosaic Idealize.ShloMosaic.TcCoe Idealize.ShloMosaic.Tactic
open Idealize.SL.Sem

variable (m : (ℓ : Loc nD τ sig) → Buf (Elt Ideal) ℓ)

/-- Which blocks the windows are on at a grid point. -/
theorem idx_val : ∀ t : Fin cfg0.N,
    win0_0.index t 0 = 0
    ∧ win0_1.index t 0 = 0 ∧ win0_1.index t 1 = 0 ∧ win0_1.index t 2 = 0
    ∧ win0_2.index t 0 = 0 ∧ win0_2.index t 1 = 0
    ∧ win0_3.index t 0 = 0 ∧ win0_3.index t 1 = 0
    ∧ win0_4.index t 0 = 0 ∧ win0_4.index t 1 = 0
    ∧ win0_5.index t 0 = t.val ∧ win0_5.index t 1 = 0
    ∧ win0_6.index t 0 = t.val ∧ win0_6.index t 1 = 4
    ∧ win0_7.index t 0 = t.val - (if t.val % 64 = 0 then 0 else 1) ∧ win0_7.index t 1 = 4
    ∧ win0_8.index t 0 = t.val ∧ win0_8.index t 1 = 5
    ∧ win0_9.index t 0 = t.val - (if t.val % 64 = 0 then 0 else 1) ∧ win0_9.index t 1 = 5
    ∧ win0_10.index t 0 = t.val ∧ win0_10.index t 1 = 0
    ∧ (grid0.coords t 1).val = t.val % 64 :=
  (by decide +kernel : ∀ t : Fin grid0.N, _)

/-- A block of 128 rows and `w` columns of the projected array, from row `128 * t` and column `c`. -/
def part (X : FVec Ideal S16384x6144 .bf16) (t c w : ℕ) (ht : t < 128) (hc : c + w ≤ 6144) : FVec Ideal ⟨2, ![128, w]⟩ .bf16 :=
  fun y => X (ix2 ⟨128 * t + y 0, by have h := (y 0).isLt; have e : (⟨2, ![128, w]⟩ : Shape).size 0 = 128 := rfl; omega⟩
    ⟨c + y 1, by have h := (y 1).isLt; have e : (⟨2, ![128, w]⟩ : Shape).size 1 = w := rfl; omega⟩)

/-- The output's element at row `128 * t + r` and column `512 * h + 128 * g + d`, from the region's arrays. -/
def gOut (X : FVec Ideal S16384x6144 .bf16) (sl : FVec Ideal S32 .f32) (qf : FVec Ideal S8x512x128 .bf16) (kf : FVec Ideal S256x128 .bf16)
    (dist distf : FVec Ideal S128x256 .f32) (t : ℕ) (ht : t < 128) (h : Fin 8) (g : Fin 4) (r d : Fin 128) : EReal :=
  tileAt (t % 64) sl qf kf dist distf (part X t 0 4096 ht (by omega)) (part X t 4096 1024 ht (by omega))
    (part X (t - (if t % 64 = 0 then 0 else 1)) 4096 1024 (by omega) (by omega)) (part X t 5120 1024 ht (by omega))
    (part X (t - (if t % 64 = 0 then 0 else 1)) 5120 1024 (by omega) (by omega)) h g r d

theorem iblk0_eq (c : Dev nD) (t : Fin cfg0.N) : (iblk m c 0 t : Vec Ideal S32 .f32) = V m c main_v9 := by
  blk_ext! [iblk, idx_val t]
theorem iblk1_eq (c : Dev nD) (t : Fin cfg0.N) : (iblk m c 1 t : Vec Ideal S8x512x128 .bf16) = V m c main_v30 := by
  blk_ext! [iblk, idx_val t]
theorem iblk2_eq (c : Dev nD) (t : Fin cfg0.N) : (iblk m c 2 t : Vec Ideal S256x128 .bf16) = V m c main_cst := by
  blk_ext! [iblk, idx_val t]
theorem iblk3_eq (c : Dev nD) (t : Fin cfg0.N) : (iblk m c 3 t : Vec Ideal S128x256 .f32) = V m c main_cst_0 := by
  blk_ext! [iblk, idx_val t]
theorem iblk4_eq (c : Dev nD) (t : Fin cfg0.N) : (iblk m c 4 t : Vec Ideal S128x256 .f32) = V m c main_cst_1 := by
  blk_ext! [iblk, idx_val t]
theorem iblk5_eq (c : Dev nD) (t : Fin cfg0.N) : (X0_5 m c t : Vec Ideal S128x4096 .bf16) = part (m ((c : Thread nD τ).loc main_arg0)) t.val 0 4096 t.isLt (by omega) := by
  funext y
  unfold X0_5 Pipeline.Window.fill
  rw [dif_pos (moved0_5 t y)]
  unfold part
  blk_simp [iblk, idx_val t]
  rw [V_main_arg0]
  blk_ext [idx_val t]
theorem iblk6_eq (c : Dev nD) (t : Fin cfg0.N) : (iblk m c 6 t : Vec Ideal S128x1024 .bf16) = part (m ((c : Thread nD τ).loc main_arg0)) t.val 4096 1024 t.isLt (by omega) := by
  funext y
  unfold part
  blk_simp [iblk, idx_val t]
  rw [V_main_arg0]
  blk_ext [idx_val t]
theorem iblk7_eq (c : Dev nD) (t : Fin cfg0.N) : (iblk m c 7 t : Vec Ideal S128x1024 .bf16) = part (m ((c : Thread nD τ).loc main_arg0)) (t.val - (if t.val % 64 = 0 then 0 else 1)) 4096 1024 (by have := t.isLt; have : cfg0.N = 128 := rfl; omega) (by omega) := by
  funext y
  unfold part
  blk_simp [iblk, idx_val t]
  rw [V_main_arg0]
  blk_ext [idx_val t]
theorem iblk8_eq (c : Dev nD) (t : Fin cfg0.N) : (iblk m c 8 t : Vec Ideal S128x1024 .bf16) = part (m ((c : Thread nD τ).loc main_arg0)) t.val 5120 1024 t.isLt (by omega) := by
  funext y
  unfold part
  blk_simp [iblk, idx_val t]
  rw [V_main_arg0]
  blk_ext [idx_val t]
theorem iblk9_eq (c : Dev nD) (t : Fin cfg0.N) : (iblk m c 9 t : Vec Ideal S128x1024 .bf16) = part (m ((c : Thread nD τ).loc main_arg0)) (t.val - (if t.val % 64 = 0 then 0 else 1)) 5120 1024 (by have := t.isLt; have : cfg0.N = 128 := rfl; omega) (by omega) := by
  funext y
  unfold part
  blk_simp [iblk, idx_val t]
  rw [V_main_arg0]
  blk_ext [idx_val t]

/-- The output array the region leaves. -/
def arrOut (c : Dev nD) : FVec Ideal S16384x4096 .bf16 := fun y =>
  gOut (m ((c : Thread nD τ).loc main_arg0)) (V m c main_v9) (V m c main_v30) (V m c main_cst) (V m c main_cst_0) (V m c main_cst_1)
    ((y 0).val / 128) (by have := (y 0).isLt; have : S16384x4096.size 0 = 16384 := rfl; omega)
    ⟨(y 1).val / 512, by have := (y 1).isLt; have : S16384x4096.size 1 = 4096 := rfl; omega⟩ ⟨(y 1).val % 512 / 128, by omega⟩
    ⟨(y 0).val % 128, by omega⟩ ⟨(y 1).val % 128, by omega⟩

theorem gOut_congr (X : FVec Ideal S16384x6144 .bf16) (sl : FVec Ideal S32 .f32) (qf : FVec Ideal S8x512x128 .bf16) (kf : FVec Ideal S256x128 .bf16)
    (dist distf : FVec Ideal S128x256 .f32) (t t' : ℕ) (ht : t < 128) (ht' : t' < 128) (h h' : Fin 8) (g g' : Fin 4) (r d r' d' : Fin 128)
    (e1 : t = t') (e2 : (h : ℕ) = h') (e3 : (g : ℕ) = g') (e4 : (r : ℕ) = r') (e5 : (d : ℕ) = d') :
    gOut X sl qf kf dist distf t ht h g r d = gOut X sl qf kf dist distf t' ht' h' g' r' d' := by
  obtain rfl := e1; obtain rfl := Fin.ext e2; obtain rfl := Fin.ext e3; obtain rfl := Fin.ext e4; obtain rfl := Fin.ext e5; rfl

theorem arr_eq (c : Dev nD) : (dats m 0 c).arrAt 10 cfg0.N = arrOut m c := by
  refine (dats m 0 c).arrAt_eq_of_covers 10 _ (by decide +kernel) fun t _ y => ?_
  blk_simp
  rw [after10]
  unfold outAt
  rw [outBlk_at]
  rw [iblk0_eq, iblk1_eq, iblk2_eq, iblk3_eq, iblk4_eq, iblk5_eq, iblk6_eq, iblk7_eq, iblk8_eq, iblk9_eq]
  obtain ⟨_, _, _, _, _, _, _, _, _, _, _, _, _, _, _, _, _, _, _, _, e0, e1, e2⟩ := idx_val t
  rw [e2]
  unfold arrOut
  refine gOut_congr _ _ _ _ _ _ t.val _ t.isLt _ _ _ _ _ _ _ _ _ ?_ ?_ ?_ ?_ ?_
  all_goals blk_simp [e0, e1]
  all_goals have hy : (y 0).val < 128 := (y 0).isLt
  · omega
  · show (y 0).val = (t.val * 128 + (y 0).val) % 128
    omega

end Cert.AttnRun

end
-- ==== Proof.AttnSoft.lean ====
module

public import Idealize.ShloMosaic.Lib.Pointwise
public import Idealize.ShloMosaic.PureOps.Ideal

@[expose] public section

noncomputable section

namespace Cert.AttnSoft

open Idealize.ShloMosaic

/-!
# The sink as one more key

A softmax whose denominator carries a sink equals a softmax over the same keys with the sink put in the place of a key that
the mask hides: its weight enters the denominator, and its value is zero.
-/

/-- A positive real factor goes into a sum, whatever the terms. -/
theorem sum_mul_real {ι : Type} (S : Finset ι) (f : ι → EReal) (c : ℝ) (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha, ← ih, mul_comm, EReal.left_distrib_of_nonneg_of_ne_top (by exact_mod_cast hc) (EReal.coe_ne_top c),
      mul_comm (c : EReal), mul_comm (c : EReal)]

theorem sum_coe {ι : Type} (S : Finset ι) (f : ι → ℝ) : (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- The weight of a logit below plus infinity is a nonnegative real, zero for a hidden key and positive otherwise. -/
theorem weight (x : EReal) (μ : ℝ) (hx : x ≠ ⊤) : ∃ a : ℝ, Ideal.exp (x - (μ : EReal)) = (a : EReal) ∧ 0 ≤ a ∧ (x = ⊥ → a = 0) ∧ (x ≠ ⊥ → 0 < a) := by
  induction x with
  | bot => exact ⟨0, by simp, le_refl _, fun _ => rfl, fun h => absurd rfl h⟩
  | top => exact absurd rfl hx
  | coe r =>
    refine ⟨Real.exp (r - μ), by rw [← EReal.coe_sub, Ideal.exp_coe], (Real.exp_pos _).le, fun h => absurd h (EReal.coe_ne_bot r), fun _ => Real.exp_pos _⟩

/-- The softmax with a sink. -/
theorem softmax_sink (l lk v vk : Fin 256 → EReal) (s : EReal) (hs : s ≠ ⊤) (hl : ∀ j, l j ≠ ⊤) (j₀ : Fin 256) (hj₀ : l j₀ ≠ ⊥)
    (hl0 : l 0 = ⊥) (hlk0 : lk 0 = s) (hlk : ∀ j, j ≠ 0 → lk j = l j) (hv0 : vk 0 = 0) (hv : ∀ j, l j ≠ ⊥ → vk j = v j) :
    Ideal.div (∑ j, Ideal.exp (lk j - Finset.fold max ⊥ lk Finset.univ) * vk j)
        (∑ j, Ideal.exp (lk j - Finset.fold max ⊥ lk Finset.univ) * 1)
      = ∑ j, Ideal.div (Ideal.exp (l j - max (Finset.fold max ⊥ l Finset.univ) s))
          ((∑ k, Ideal.exp (l k - max (Finset.fold max ⊥ l Finset.univ) s)) + Ideal.exp (s - max (Finset.fold max ⊥ l Finset.univ) s)) * v j := by
  have e1 : Finset.fold max ⊥ lk Finset.univ = Finset.univ.sup lk := rfl
  have e2 : Finset.fold max ⊥ l Finset.univ = Finset.univ.sup l := rfl
  have em : Finset.univ.sup lk = max (Finset.univ.sup l) s := by
    apply le_antisymm
    · refine Finset.sup_le fun j _ => ?_
      by_cases h : j = 0
      · rw [h, hlk0]; exact le_max_right _ _
      · rw [hlk j h]; exact le_max_of_le_left (Finset.le_sup (Finset.mem_univ j))
    · refine max_le (Finset.sup_le fun j _ => ?_) ?_
      · by_cases h : j = 0
        · rw [h, hl0]; exact bot_le
        · rw [← hlk j h]; exact Finset.le_sup (Finset.mem_univ j)
      · rw [← hlk0]; exact Finset.le_sup (Finset.mem_univ 0)
  rw [e1, e2, em]
  have htop : max (Finset.univ.sup l) s ≠ ⊤ := by
    apply ne_of_lt
    refine max_lt ((Finset.sup_lt_iff bot_lt_top).2 fun j _ => lt_top_iff_ne_top.2 (hl j)) (lt_top_iff_ne_top.2 hs)
  have hbot : max (Finset.univ.sup l) s ≠ ⊥ := by
    intro h
    have : l j₀ ≤ ⊥ := by rw [← h]; exact le_max_of_le_left (Finset.le_sup (Finset.mem_univ j₀))
    exact hj₀ (le_bot_iff.1 this)
  obtain ⟨μ, hμ⟩ : ∃ μ : ℝ, max (Finset.univ.sup l) s = (μ : EReal) := ⟨_, (EReal.coe_toReal htop hbot).symm⟩
  rw [hμ]
  choose a ha ha0 hab hap using fun j => weight (l j) μ (hl j)
  obtain ⟨b, hb, hb0, -, -⟩ := weight s μ hs
  have hL : 0 < (∑ j, a j) + b :=
    add_pos_of_pos_of_nonneg (Finset.sum_pos' (fun j _ => ha0 j) ⟨j₀, Finset.mem_univ _, hap j₀ hj₀⟩) hb0
  have hlkw : ∀ j, Ideal.exp (lk j - (μ : EReal)) = (((if j = 0 then b else 0) + a j : ℝ) : EReal) := by
    intro j
    by_cases h : j = 0
    · subst h; rw [hlk0, hb, if_pos rfl, hab 0 hl0, add_zero]
    · rw [hlk j h, ha, if_neg h, zero_add]
  have hden : (∑ j, Ideal.exp (lk j - (μ : EReal)) * 1) = (((∑ j, a j) + b : ℝ) : EReal) := by
    simp only [mul_one, hlkw, sum_coe]
    congr 1
    rw [Finset.sum_add_distrib, Finset.sum_ite_eq' Finset.univ (0 : Fin 256) (fun _ => b), if_pos (Finset.mem_univ _), add_comm]
  have hden' : (∑ k, Ideal.exp (l k - (μ : EReal))) + Ideal.exp (s - (μ : EReal)) = (((∑ j, a j) + b : ℝ) : EReal) := by
    simp only [ha, hb, sum_coe, EReal.coe_add]
  rw [hden, hden']
  rw [Ideal.div_coe hL.ne', sum_mul_real _ _ _ (by positivity)]
  refine Finset.sum_congr rfl fun j _ => ?_
  rw [Ideal.div_coe hL.ne', hlkw, ha]
  have ht : (((if j = 0 then b else 0) + a j : ℝ) : EReal) * vk j = (a j : EReal) * v j := by
    by_cases hj : l j = ⊥
    · rw [hab j hj]
      by_cases h : j = 0
      · subst h; rw [hv0]; simp
      · rw [if_neg h]; simp
    · have h : j ≠ 0 := fun h => hj (h ▸ hl0)
      rw [if_neg h, zero_add, hv j hj]
  rw [ht, mul_right_comm]

end Cert.AttnSoft

end
-- ==== Proof.AttnRef.lean ====
module

public import proofs.«01_k».proof.Proof.Gen.ReferenceIdeal.Read
public import Idealize.ShloMosaic.Lib.Pointwise

@[expose] public section

set_option maxRecDepth 16384

noncomputable section

namespace Cert.AttnRef

open Cert.ReferenceIdeal Cert.ReferenceIdeal.Gen Cert.ReferenceIdeal.Read
open Idealize.ShloMosaic Idealize.ShloMosaic.TcCoe Idealize.ShloMosaic.Tactic
open Idealize.SL.Sem

variable (X : FVec Ideal S16384x6144 .bf16) (S : FVec Ideal S32 .f32)

/-- A query's element. -/
def rq (b : Fin 2) (n : Fin 64) (h : Fin 8) (g : Fin 4) (r : Fin 128) (e : Fin 128) : EReal :=
  X (ix2 ⟨b.val * 8192 + (n.val * 128 + r.val), by omega⟩ ⟨h.val * 512 + g.val * 128 + e.val, by omega⟩)

/-- A key's (column block 4096) or a value's (5120) element: the previous block's, zero before the first, then the own block's. -/
def rkv (o : ℕ) (ho : o ≤ 5120) (b : Fin 2) (n : Fin 64) (h : Fin 8) (j : Fin 256) (e : Fin 128) : EReal :=
  if hj : j.val < 128 then
    if 1 ≤ n.val then X (ix2 ⟨b.val * 8192 + ((n.val - 1) * 128 + j.val), by omega⟩ ⟨o + (h.val * 128 + e.val), by omega⟩) else 0
  else X (ix2 ⟨b.val * 8192 + (n.val * 128 + (j.val - 128)), by omega⟩ ⟨o + (h.val * 128 + e.val), by omega⟩)

theorem read5 (b : Fin 2) (n : Fin 64) (r : Fin 128) (h : Fin 8) (g : Fin 4) (e : Fin 128) :
    (val_main_v5 (F := Ideal) X : FVec Ideal S2x64x128x8x4x128 .f32) (ix6 b n r h g e) = rq X b n h g r e := by
  unfold val_main_v5 val_main_v2 val_main_v1 val_main_v0
  pointwise
  rfl

theorem read9 (b : Fin 2) (n : Fin 64) (j : Fin 256) (h : Fin 8) (e : Fin 128) :
    (val_main_v9 (F := Ideal) X : FVec Ideal S2x64x256x8x128 .f32) (ix5 b n j h e) = rkv X 4096 (by omega) b n h j e := by
  unfold val_main_v9 val_main_v8 val_main_v7 val_main_v6 val_main_v3 val_main_v1 val_main_v0 val_main_call0_v0 val_main_c
  pointwise
  unfold rkv
  have hz : (FloatOps.sitofp (F := Ideal) .f32 (0#32) : EReal) = 0 := by simp [FloatOps.sitofp]
  by_cases hj : j.val < 128
  · simp only [dif_pos hj]
    by_cases hn : 1 ≤ n.val
    · have hq : (1 ≤ n.val ∧ n.val - 1 < 64) ∧ j.val < 128 := ⟨⟨hn, by omega⟩, hj⟩
      simp only [dif_pos hq, if_pos hn]
    · have hq : ¬((1 ≤ n.val ∧ n.val - 1 < 64) ∧ j.val < 128) := fun q => hn q.1.1
      simp only [dif_neg hq, if_neg hn, hz]
  · simp only [dif_neg hj]

theorem read13 (b : Fin 2) (n : Fin 64) (j : Fin 256) (h : Fin 8) (e : Fin 128) :
    (val_main_v13 (F := Ideal) X : FVec Ideal S2x64x256x8x128 .f32) (ix5 b n j h e) = rkv X 5120 (by omega) b n h j e := by
  unfold val_main_v13 val_main_v12 val_main_v11 val_main_v10 val_main_v4 val_main_v1 val_main_v0 val_main_call1_v0 val_main_c_0
  pointwise
  unfold rkv
  have hz : (FloatOps.sitofp (F := Ideal) .f32 (0#32) : EReal) = 0 := by simp [FloatOps.sitofp]
  by_cases hj : j.val < 128
  · simp only [dif_pos hj]
    by_cases hn : 1 ≤ n.val
    · have hq : (1 ≤ n.val ∧ n.val - 1 < 64) ∧ j.val < 128 := ⟨⟨hn, by omega⟩, hj⟩
      simp only [dif_pos hq, if_pos hn]
    · have hq : ¬((1 ≤ n.val ∧ n.val - 1 < 64) ∧ j.val < 128) := fun q => hn q.1.1
      simp only [dif_neg hq, if_neg hn, hz]
  · simp only [dif_neg hj]

/-- A query sees a key: within the window before it, and in the first block only in its own block. -/
def sees (n : Fin 64) (r : Fin 128) (j : Fin 256) : Prop := r.val < j.val ∧ j.val ≤ r.val + 128 ∧ (1 ≤ n.val ∨ 128 ≤ j.val)

instance (n : Fin 64) (r : Fin 128) (j : Fin 256) : Decidable (sees n r j) := by unfold sees; infer_instance

theorem word_val (a : ℕ) (h : a < 2 ^ 31) : (BitVec.ofNat 32 a).toInt = (a : Int) := by
  rw [BitVec.toInt_ofNat', Int.bmod_eq_of_le (by omega) (by omega)]

theorem dist_val (r : Fin 128) (j : Fin 256) :
    (IntOp.subi (IntOp.addi (BitVec.ofNat 32 r.val) 128#32) (BitVec.ofNat 32 j.val)).toInt = (r.val : Int) + 128 - (j.val : Int) := by
  have hr := r.isLt
  have hj := j.isLt
  unfold IntOp.subi IntOp.addi
  rw [BitVec.toInt_sub, BitVec.toInt_add, word_val r.val (by omega), word_val 128 (by omega), word_val j.val (by omega), Int.bmod_eq_of_le (n := (r.val : Int) + (128 : ℕ)) (by omega) (by omega), Int.bmod_eq_of_le (by omega) (by omega)]
  rfl

theorem read24 (r : Fin 128) (j : Fin 256) :
    ((val_main_v24 (F := Ideal) : IVec S128x256 32) (ix2 r j)).toInt = (r.val : Int) + 128 - (j.val : Int) := by
  unfold val_main_v24 val_main_v23 val_main_v22 val_main_v21 val_main_v20 val_main_c_1 val_main_v19 val_main_v18 val_main_v17 val_main_v16
  pointwise
  exact dist_val r j

theorem read43 (n : Fin 64) (r : Fin 128) (j : Fin 256) :
    (val_main_v43 (F := Ideal) : IVec S64x128x256 1) (ix3 n r j) = if sees n r j then 1#1 else 0#1 := by
  unfold val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_c_1 val_main_c_2 val_main_c_3 val_main_c_4 val_main_c_5
  pointwise
  have hr := r.isLt
  have hj := j.isLt
  have hn := n.isLt
  have hd := dist_val r j
  generalize IntOp.subi (IntOp.addi (BitVec.ofNat 32 r.val) 128#32) (BitVec.ofNat 32 j.val) = w at hd ⊢
  have h1 : IntOp.cmpi .sge w 0#32 = if j.val ≤ r.val + 128 then 1#1 else 0#1 := by
    split
    · next h => exact IntOp.cmpi_sge.2 (by rw [hd]; show (0 : Int) ≤ _; omega)
    · next h => exact (by decide : ∀ b : BitVec 1, ¬ b = 1#1 → b = 0#1) _ fun q => h (by have := IntOp.cmpi_sge.1 q; rw [hd] at this; change (0 : Int) ≤ _ at this; omega)
  have h2 : IntOp.cmpi .slt w 128#32 = if r.val < j.val then 1#1 else 0#1 := by
    split
    · next h => exact IntOp.cmpi_slt.2 (by rw [hd]; show _ < (128 : Int); omega)
    · next h => exact (by decide : ∀ b : BitVec 1, ¬ b = 1#1 → b = 0#1) _ fun q => h (by have := IntOp.cmpi_slt.1 q; rw [hd] at this; change _ < (128 : Int) at this; omega)
  have h3 : IntOp.cmpi .sgt (BitVec.ofNat 32 n.val) 0#32 = if 1 ≤ n.val then 1#1 else 0#1 := by
    split
    · next h => exact IntOp.cmpi_sgt.2 (by rw [word_val n.val (by omega)]; show (0 : Int) < _; omega)
    · next h => exact (by decide : ∀ b : BitVec 1, ¬ b = 1#1 → b = 0#1) _ fun q => h (by have := IntOp.cmpi_sgt.1 q; rw [word_val n.val (by omega)] at this; change (0 : Int) < _ at this; omega)
  have h4 : IntOp.cmpi .sge (BitVec.ofNat 32 j.val) 128#32 = if 128 ≤ j.val then 1#1 else 0#1 := by
    split
    · next h => exact IntOp.cmpi_sge.2 (by rw [word_val j.val (by omega)]; show (128 : Int) ≤ _; omega)
    · next h => exact (by decide : ∀ b : BitVec 1, ¬ b = 1#1 → b = 0#1) _ fun q => h (by have := IntOp.cmpi_sge.1 q; rw [word_val j.val (by omega)] at this; change (128 : Int) ≤ _ at this; omega)
  rw [h1, h2, h3, h4]
  unfold sees
  by_cases a : j.val ≤ r.val + 128 <;> by_cases b : r.val < j.val <;> by_cases d : 1 ≤ n.val <;> by_cases e : 128 ≤ j.val <;>
    simp only [a, b, d, e, if_true, if_false, true_and, and_true, false_and, and_false, or_true, true_or, or_false, false_or, or_self] <;> decide

/-- The slope of head `i`. -/
def slope (i : Fin 32) : EReal :=
  Ideal.exp (Ideal.ofBits .f32 1060205080#32 * Ideal.div (Ideal.ofBits .f32 3238002688#32 * (1 + FloatOps.sitofp (F := Ideal) .f32 (BitVec.ofNat 32 i.val))) (Ideal.ofBits .f32 1107296256#32))

theorem read53 (i : Fin 32) : (val_main_v53 (F := Ideal) : FVec Ideal S32 .f32) (ix1 i) = slope i := by
  unfold val_main_v53 val_main_v52 val_main_v51 val_main_v50 val_main_v49 val_main_v48 val_main_v47 val_main_v46 val_main_v45 val_main_v44 val_main_cst val_main_cst_6 val_main_cst_7 val_main_cst_8
  pointwise
  rfl

/-- The logit of key `j` for query `r`. -/
def rlog (b : Fin 2) (n : Fin 64) (h : Fin 8) (g : Fin 4) (r : Fin 128) (j : Fin 256) : EReal :=
  if sees n r j then (∑ e, rkv X 4096 (by omega) b n h j e * rq X b n h g r e) + -slope ⟨4 * h.val + g.val, by omega⟩ * ((((r.val : Int) + 128 - (j.val : Int) : Int) : ℝ) : EReal) else ⊥

theorem neg_inf : (Ideal.ofBits .f32 4286578688#32 : EReal) = ⊥ := by simp [Ideal.ofBits, Ideal.ieee]

theorem read66 (b : Fin 2) (n : Fin 64) (h : Fin 8) (g : Fin 4) (r : Fin 128) (j : Fin 256) :
    (val_main_v66 (F := Ideal) X : FVec Ideal S2x64x8x4x128x256 .f32) (ix6 b n h g r j) = rlog X b n h g r j := by
  unfold val_main_v66 val_main_call2_v2 val_main_call2_v1 val_main_call2_v0 val_main_v65 val_main_v64 val_main_v63 val_main_v62 val_main_v61 val_main_v60 val_main_v59 val_main_v58 val_main_v57 val_main_v56 val_main_v55 val_main_v54 val_main_v15 val_main_v14 val_main_cst_9
  pointwise
  simp only [read9, read5, read43, read53]
  unfold rlog
  by_cases q : sees n r j
  · simp only [if_pos q, Nat.mul_comm h.val 4]
    rw [← read24 r j]
    rfl
  · simp only [if_neg q]
    exact neg_inf

end Cert.AttnRef

end
-- ==== Proof.AttnRefMax.lean ====
module

public import proofs.«01_k».proof.Proof.AttnRef
public import Idealize.ShloMosaic.Lib.Pointwise

@[expose] public section

set_option maxRecDepth 16384

noncomputable section

namespace Cert.AttnRef

open Cert.ReferenceIdeal Cert.ReferenceIdeal.Gen Cert.ReferenceIdeal.Read
open Idealize.ShloMosaic Idealize.ShloMosaic.TcCoe Idealize.ShloMosaic.Tactic
open Idealize.SL.Sem

variable (X : FVec Ideal S16384x6144 .bf16) (S : FVec Ideal S32 .f32)

theorem neg_first : (val_main_cst_10 (F := Ideal)) (Shape.Idx.first h_S_) = (⊥ : EReal) := by
  unfold val_main_cst_10
  pointwise
  exact neg_inf

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- The host's largest entry along the last axis, as a fold. -/
theorem max_last (y : FVec Ideal S2x64x8x4x128x256 .f32) (z : FVec Ideal S_ .f32) (hz : z (Shape.Idx.first h_S_) = (⊥ : EReal)) (b : Fin 2) (n : Fin 64) (h : Fin 8) (g : Fin 4) (r : Fin 128) :
    Host.reduce FloatOps.maximumf y z reducesTo_S2x64x8x4x128x256_S2x64x8x4x128_d5 h_S_ (ix5 b n h g r)
      = Finset.fold (β := EReal) max ⊥ (fun j : Fin 256 => y (ix6 b n h g r j)) Finset.univ := by
  rw [Host.reduce_eq_fold_single FloatOps.maximumf y z reducesTo_S2x64x8x4x128x256_S2x64x8x4x128_d5 (by decide) h_S_ (ix5 b n h g r), hz]
  refine congrArg (fun f => Finset.fold (β := EReal) max (⊥ : EReal) f (Finset.univ : Finset (Fin 256))) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem v69_eq : (val_main_v69 (F := Ideal) X : FVec Ideal S2x64x8x4x128 .f32) = Host.reduce (FloatOps.maximumf (F := Ideal) (φ := .f32)) (val_main_v66 (F := Ideal) X : FVec Ideal S2x64x8x4x128x256 .f32) (val_main_cst_10 (F := Ideal) : FVec Ideal S_ .f32) reducesTo_S2x64x8x4x128x256_S2x64x8x4x128_d5 h_S_ := by
  unfold val_main_v69
  rfl

theorem read69 (b : Fin 2) (n : Fin 64) (h : Fin 8) (g : Fin 4) (r : Fin 128) :
    (val_main_v69 (F := Ideal) X : FVec Ideal S2x64x8x4x128 .f32) (ix5 b n h g r) = Finset.fold (β := EReal) max ⊥ (fun j => rlog X b n h g r j) Finset.univ := by
  rw [v69_eq X]
  refine (max_last _ _ neg_first b n h g r).trans ?_
  exact congrArg (fun f => Finset.fold (β := EReal) max (⊥ : EReal) f (Finset.univ : Finset (Fin 256))) (funext fun j => read66 X b n h g r j)

end Cert.AttnRef

end
-- ==== Proof.AttnRef2.lean ====
module

public import proofs.«01_k».proof.Proof.AttnRefMax
public import Idealize.ShloMosaic.Lib.Pointwise

@[expose] public section

set_option maxRecDepth 16384

noncomputable section

namespace Cert.AttnRef

open Cert.ReferenceIdeal Cert.ReferenceIdeal.Gen Cert.ReferenceIdeal.Read
open Idealize.ShloMosaic Idealize.ShloMosaic.TcCoe Idealize.ShloMosaic.Tactic
open Idealize.SL.Sem

variable (X : FVec Ideal S16384x6144 .bf16) (S : FVec Ideal S32 .f32)

/-- The largest logit of a query, its head's sink among them. -/
def rmax (b : Fin 2) (n : Fin 64) (h : Fin 8) (g : Fin 4) (r : Fin 128) : EReal :=
  max (Finset.fold max ⊥ (fun j => rlog X b n h g r j) Finset.univ) (S (ix1 ⟨h.val * 4 + g.val, by omega⟩))

theorem read72 (b : Fin 2) (n : Fin 64) (h : Fin 8) (g : Fin 4) (r : Fin 128) :
    (val_main_v72 (F := Ideal) S : FVec Ideal S2x64x8x4x128x1 .f32) (ix6 b n h g r 0) = S (ix1 ⟨h.val * 4 + g.val, by omega⟩) := by
  unfold val_main_v72 val_main_v71 val_main_v68 val_main_v67
  pointwise

theorem read70 (b : Fin 2) (n : Fin 64) (h : Fin 8) (g : Fin 4) (r : Fin 128) :
    (val_main_v70 (F := Ideal) X : FVec Ideal S2x64x8x4x128x1 .f32) (ix6 b n h g r 0) = Finset.fold (β := EReal) max ⊥ (fun j => rlog X b n h g r j) Finset.univ := by
  rw [val_main_v70_apply, ← read69 X b n h g r]
  exact congrArg _ (funext fun a => Fin.ext (by match a with | ⟨0, _⟩ => rfl | ⟨1, _⟩ => rfl | ⟨2, _⟩ => rfl | ⟨3, _⟩ => rfl | ⟨4, _⟩ => rfl))

theorem read73 (b : Fin 2) (n : Fin 64) (h : Fin 8) (g : Fin 4) (r : Fin 128) :
    (val_main_v73 (F := Ideal) X S : FVec Ideal S2x64x8x4x128x1 .f32) (ix6 b n h g r 0) = rmax X S b n h g r := by
  rw [val_main_v73_apply, read70, read72]
  rfl

theorem read76 (b : Fin 2) (n : Fin 64) (h : Fin 8) (g : Fin 4) (r : Fin 128) (j : Fin 256) :
    (val_main_v76 (F := Ideal) X S : FVec Ideal S2x64x8x4x128x256 .f32) (ix6 b n h g r j) = Ideal.exp (rlog X b n h g r j - rmax X S b n h g r) := by
  unfold val_main_v76 val_main_v75 val_main_v74
  have e := read73 X S b n h g r
  have e' := read66 X b n h g r j
  generalize val_main_v73 (F := Ideal) X S = y at e ⊢
  generalize val_main_v66 (F := Ideal) X = z at e' ⊢
  pointwise
  rw [e', ← e]

theorem read77 (b : Fin 2) (n : Fin 64) (h : Fin 8) (g : Fin 4) (r : Fin 128) :
    (val_main_v77 (F := Ideal) X S : FVec Ideal S2x64x8x4x128 .f32) (ix5 b n h g r) = ∑ k, Ideal.exp (rlog X b n h g r k - rmax X S b n h g r) := by
  rw [val_main_v77_apply]
  have hc : (val_main_cst_11 (F := Ideal)) (Shape.Idx.first h_S_) = (0 : EReal) := by
    unfold val_main_cst_11
    pointwise
  rw [hc, zero_add]
  refine Finset.sum_congr rfl fun k _ => ?_
  rw [← read76 X S b n h g r k]
  exact congrArg _ (funext fun a => Fin.ext (by match a with | ⟨0, _⟩ => rfl | ⟨1, _⟩ => rfl | ⟨2, _⟩ => rfl | ⟨3, _⟩ => rfl | ⟨4, _⟩ => rfl | ⟨5, _⟩ => rfl))

theorem read83 (b : Fin 2) (n : Fin 64) (h : Fin 8) (g : Fin 4) (r : Fin 128) :
    (val_main_v83 (F := Ideal) X S : FVec Ideal S2x64x8x4x128x1 .f32) (ix6 b n h g r 0)
      = (∑ k, Ideal.exp (rlog X b n h g r k - rmax X S b n h g r)) + Ideal.exp (S (ix1 ⟨h.val * 4 + g.val, by omega⟩) - rmax X S b n h g r) := by
  unfold val_main_v83 val_main_v82 val_main_v81 val_main_v80 val_main_v79 val_main_v78 val_main_v68 val_main_v67
  have e := read77 X S b n h g r
  have e' := read73 X S b n h g r
  generalize val_main_v77 (F := Ideal) X S = y at e ⊢
  generalize val_main_v73 (F := Ideal) X S = z at e' ⊢
  pointwise
  rw [e, ← e']

theorem read85 (b : Fin 2) (n : Fin 64) (h : Fin 8) (g : Fin 4) (r : Fin 128) (j : Fin 256) :
    (val_main_v85 (F := Ideal) X S : FVec Ideal S2x64x8x4x128x256 .f32) (ix6 b n h g r j)
      = Ideal.div (Ideal.exp (rlog X b n h g r j - rmax X S b n h g r))
          ((∑ k, Ideal.exp (rlog X b n h g r k - rmax X S b n h g r)) + Ideal.exp (S (ix1 ⟨h.val * 4 + g.val, by omega⟩) - rmax X S b n h g r)) := by
  unfold val_main_v85 val_main_v84
  have e := read83 X S b n h g r
  have e' := read76 X S b n h g r j
  generalize val_main_v83 (F := Ideal) X S = y at e ⊢
  generalize val_main_v76 (F := Ideal) X S = z at e' ⊢
  pointwise
  rw [e', ← e]

theorem read86 (b : Fin 2) (n : Fin 64) (h : Fin 8) (d : Fin 128) (g : Fin 4) (r : Fin 128) :
    (val_main_v86 (F := Ideal) X S : FVec Ideal S2x64x8x128x4x128 .f32) (ix6 b n h d g r)
      = ∑ j, rkv X 5120 (by omega) b n h j d * Ideal.div (Ideal.exp (rlog X b n h g r j - rmax X S b n h g r))
          ((∑ k, Ideal.exp (rlog X b n h g r k - rmax X S b n h g r)) + Ideal.exp (S (ix1 ⟨h.val * 4 + g.val, by omega⟩) - rmax X S b n h g r)) := by
  rw [val_main_v86_apply]
  refine Finset.sum_congr rfl fun j _ => ?_
  rw [← read85 X S b n h g r j, ← read13 X b n j h d]
  exact congrArg₂ (fun (p q : EReal) => p * q) (congrArg _ (funext fun a => Fin.ext (by match a with | ⟨0, _⟩ => rfl | ⟨1, _⟩ => rfl | ⟨2, _⟩ => rfl | ⟨3, _⟩ => rfl | ⟨4, _⟩ => rfl)))
    (congrArg _ (funext fun a => Fin.ext (by match a with | ⟨0, _⟩ => rfl | ⟨1, _⟩ => rfl | ⟨2, _⟩ => rfl | ⟨3, _⟩ => rfl | ⟨4, _⟩ => rfl | ⟨5, _⟩ => rfl)))

theorem read89 (b : Fin 2) (n : Fin 64) (h : Fin 8) (g : Fin 4) (r : Fin 128) (d : Fin 128) :
    (val_main_v89 (F := Ideal) X S : FVec Ideal S16384x4096 .bf16) (ix2 ⟨b.val * 8192 + (n.val * 128 + r.val), by omega⟩ ⟨h.val * 512 + g.val * 128 + d.val, by omega⟩)
      = ∑ j, rkv X 5120 (by omega) b n h j d * Ideal.div (Ideal.exp (rlog X b n h g r j - rmax X S b n h g r))
          ((∑ k, Ideal.exp (rlog X b n h g r k - rmax X S b n h g r)) + Ideal.exp (S (ix1 ⟨h.val * 4 + g.val, by omega⟩) - rmax X S b n h g r)) := by
  rw [← read86 X S b n h d g r]
  unfold val_main_v89 val_main_v88 val_main_v87
  generalize val_main_v86 (F := Ideal) X S = y
  pointwise

end Cert.AttnRef

end
-- ==== Proof.AttnFinal.lean ====
module

public import proofs.«01_k».proof.Proof.AttnArr
public import proofs.«01_k».proof.Proof.AttnSoft
public import proofs.«01_k».proof.Proof.AttnRef2

@[expose] public section

set_option maxRecDepth 16384

noncomputable section

namespace Cert.AttnFinal

open Cert.KernelIdeal Cert.AttnRun Cert.AttnHead Cert.AttnSoft Cert.AttnRef
open Idealize.ShloMosaic Idealize.ShloMosaic.TcCoe Idealize.ShloMosaic.Tactic
open Idealize.SL.Sem

/-- A number that is neither infinity is a real. -/
theorem real_of (x : EReal) (h : x ≠ ⊤) (h' : x ≠ ⊥) : ∃ y : ℝ, x = (y : EReal) := by
  induction x with
  | bot => exact absurd rfl h'
  | top => exact absurd rfl h
  | coe r => exact ⟨r, rfl⟩

/-- The slope of a head is a positive real. -/
theorem slope_pos (i : Fin 32) : ∃ s : ℝ, 0 < s ∧ AttnRef.slope i = (s : EReal) := by
  have a : ∃ x : ℝ, (Ideal.ofBits .f32 1060205080#32 : EReal) = (x : EReal) := ⟨_, by simp [Ideal.ofBits, Ideal.ieee]; rfl⟩
  have b : ∃ x : ℝ, (Ideal.ofBits .f32 3238002688#32 : EReal) = (x : EReal) := ⟨_, by simp [Ideal.ofBits, Ideal.ieee]; rfl⟩
  have d : ∃ x : ℝ, (Ideal.ofBits .f32 1107296256#32 : EReal) = (x : EReal) ∧ x ≠ 0 := ⟨32, by simp [Ideal.ofBits, Ideal.ieee]; rw [← EReal.coe_mul]; congr 1; norm_num, by norm_num⟩
  obtain ⟨x, ex⟩ := a
  obtain ⟨y, ey⟩ := b
  obtain ⟨z, ez, hz⟩ := d
  have f : (FloatOps.sitofp (F := Ideal) .f32 (BitVec.ofNat 32 i.val) : EReal) = (((BitVec.ofNat 32 i.val).toInt : ℝ) : EReal) := rfl
  refine ⟨Real.exp (x * (y * (1 + ((BitVec.ofNat 32 i.val).toInt : ℝ)) * (1 / z))), Real.exp_pos _, ?_⟩
  unfold AttnRef.slope
  rw [ex, ey, ez, f, Ideal.div_coe hz, ← Ideal.exp_coe]
  push_cast
  rfl

/-- The sink's three parts add up to the sink. -/
theorem split_sum (s : EReal) (h : s ≠ ⊤) : s + (s - s) + ((s - s) - (s - s)) = s := by
  induction s with
  | bot => simp
  | top => exact absurd rfl h
  | coe r => rw [← EReal.coe_sub, ← EReal.coe_sub, ← EReal.coe_add, ← EReal.coe_add]; congr 1; ring

/-- The features of a query against the first key's features. -/
theorem feat_first (a b c : EReal) (f k : Fin 128 → EReal)
    (hf : ∀ e, f e = if e = 2 then c else if e = 1 then b else if e = 0 then a else 0) (hk : ∀ e, k e = if e.val < 3 then 1 else 0) :
    ∑ e, f e * k e = a + b + c := by
  have h : ∀ e : Fin 128, f e * k e = ((if e = 0 then a else 0) + (if e = 1 then b else 0)) + (if e = 2 then c else 0) := by
    intro e
    rw [hf, hk]
    by_cases h2 : e = 2
    · subst h2; simp
    · by_cases h1 : e = 1
      · subst h1; simp
      · by_cases h0 : e = 0
        · subst h0; simp
        · simp [h0, h1, h2]
  rw [Finset.sum_congr rfl fun e _ => h e, Finset.sum_add_distrib, Finset.sum_add_distrib]
  simp

section
variable (X : FVec Ideal S16384x6144 .bf16) (S : FVec Ideal S32 .f32) (sl : FVec Ideal S32 .f32) (qf : FVec Ideal S8x512x128 .bf16) (kf : FVec Ideal S256x128 .bf16)
    (dist distf : FVec Ideal S128x256 .f32)

/-- The two programs' keys (or values) agree, but for the first of the previous block. -/
theorem both_part (o : ℕ) (ho : o ≤ 5120) (ho' : o + 1024 ≤ 6144) (b : Fin 2) (n : Fin 64) (h : Fin 8) (j : Fin 256) (e : Fin 128)
    (ht : 64 * b.val + n.val < 128) (ht' : 64 * b.val + n.val - (if (64 * b.val + n.val) % 64 = 0 then 0 else 1) < 128)
    (hj : j.val ≠ 0) (hn : 1 ≤ n.val ∨ 128 ≤ j.val) :
    both (col (part X (64 * b.val + n.val - (if (64 * b.val + n.val) % 64 = 0 then 0 else 1)) o 1024 ht' ho') h) (col (part X (64 * b.val + n.val) o 1024 ht ho') h) j e
      = rkv X o ho b n h j e := by
  unfold both rkv
  by_cases hc : j.val < 128
  · have hn' : 1 ≤ n.val := by omega
    simp only [dif_pos hc, if_neg hj, if_pos hn']
    unfold col part
    refine congrArg X (congrArg₂ ix2 (Fin.ext ?_) (Fin.ext ?_))
    · show 128 * (64 * b.val + n.val - (if (64 * b.val + n.val) % 64 = 0 then 0 else 1)) + j.val = b.val * 8192 + ((n.val - 1) * 128 + j.val)
      rw [if_neg (by omega)]
      omega
    · show o + (128 * h.val + e.val) = o + (h.val * 128 + e.val)
      omega
  · simp only [dif_neg hc]
    unfold col part
    refine congrArg X (congrArg₂ ix2 (Fin.ext ?_) (Fin.ext ?_))
    · show 128 * (64 * b.val + n.val) + (j.val - 128) = b.val * 8192 + (n.val * 128 + (j.val - 128))
      omega
    · show o + (128 * h.val + e.val) = o + (h.val * 128 + e.val)
      omega

theorem both_zero (p c : Vec Ideal S128x128 .bf16) (e : Fin 128) : both p c 0 e = 0 := by
  unfold both
  simp

theorem rlog_real (hX : ∀ (i : Fin 16384) (k : Fin 6144), k.val < 5120 → X (ix2 i k) ≠ ⊤ ∧ X (ix2 i k) ≠ ⊥)
    (b : Fin 2) (n : Fin 64) (h : Fin 8) (g : Fin 4) (r : Fin 128) (j : Fin 256) (hs : sees n r j) : ∃ x : ℝ, rlog X b n h g r j = (x : EReal) := by
  obtain ⟨s, _, es⟩ := slope_pos ⟨4 * h.val + g.val, by omega⟩
  have hq : ∀ e, ∃ y : ℝ, rkv X 4096 (by omega) b n h j e * rq X b n h g r e = (y : EReal) := by
    intro e
    obtain ⟨y, ey⟩ : ∃ y : ℝ, rkv X 4096 (by omega) b n h j e = (y : EReal) := by
      unfold rkv
      split
      · split
        · exact real_of _ (hX _ _ (by show 4096 + (h.val * 128 + e.val) < 5120; omega)).1 (hX _ _ (by show 4096 + (h.val * 128 + e.val) < 5120; omega)).2
        · exact ⟨0, rfl⟩
      · exact real_of _ (hX _ _ (by show 4096 + (h.val * 128 + e.val) < 5120; omega)).1 (hX _ _ (by show 4096 + (h.val * 128 + e.val) < 5120; omega)).2
    obtain ⟨z, ez⟩ : ∃ y : ℝ, rq X b n h g r e = (y : EReal) := by
      unfold rq
      exact real_of _ (hX _ _ (by show h.val * 512 + g.val * 128 + e.val < 5120; omega)).1 (hX _ _ (by show h.val * 512 + g.val * 128 + e.val < 5120; omega)).2
    exact ⟨y * z, by rw [ey, ez, EReal.coe_mul]⟩
  choose y hy using hq
  unfold rlog
  rw [if_pos hs, Finset.sum_congr rfl fun e _ => hy e, sum_coe, es]
  exact ⟨(∑ e, y e) + -s * (((r.val : Int) + 128 - (j.val : Int) : Int) : ℝ), by push_cast; rfl⟩

theorem out_eq (hsl : ∀ i : Fin 32, sl (ix1 i) = AttnRef.slope i)
    (hqf : ∀ (h : Fin 8) (r : Fin 512) (e : Fin 128), qf (ix3 h r e)
      = if e = 2 then (S (ix1 ⟨4 * h.val + r.val / 128, by omega⟩) - S (ix1 ⟨4 * h.val + r.val / 128, by omega⟩)) - (S (ix1 ⟨4 * h.val + r.val / 128, by omega⟩) - S (ix1 ⟨4 * h.val + r.val / 128, by omega⟩))
        else if e = 1 then S (ix1 ⟨4 * h.val + r.val / 128, by omega⟩) - S (ix1 ⟨4 * h.val + r.val / 128, by omega⟩)
        else if e = 0 then S (ix1 ⟨4 * h.val + r.val / 128, by omega⟩) else 0)
    (hkf : ∀ (j : Fin 256) (e : Fin 128), kf (ix2 j e) = if j.val = 0 ∧ e.val < 3 then 1 else 0)
    (hd : ∀ (r : Fin 128) (j : Fin 256), dist (ix2 r j) = if j.val = 0 then 0 else if r.val < j.val ∧ j.val ≤ r.val + 128 then (((r.val + 128 - j.val : ℕ) : ℝ) : EReal) else ⊤)
    (hdf : ∀ (r : Fin 128) (j : Fin 256), distf (ix2 r j) = if j.val = 0 then 0 else if 128 ≤ j.val ∧ j.val ≤ r.val + 128 then (((r.val + 128 - j.val : ℕ) : ℝ) : EReal) else ⊤)
    (hX : ∀ (i : Fin 16384) (k : Fin 6144), k.val < 5120 → X (ix2 i k) ≠ ⊤ ∧ X (ix2 i k) ≠ ⊥) (hS : ∀ i : Fin 32, S (ix1 i) ≠ ⊤)
    (b : Fin 2) (n : Fin 64) (h : Fin 8) (g : Fin 4) (r d : Fin 128) (ht : 64 * b.val + n.val < 128) :
    gOut X sl qf kf dist distf (64 * b.val + n.val) ht h g r d
      = ∑ j, rkv X 5120 (by omega) b n h j d * Ideal.div (Ideal.exp (rlog X b n h g r j - rmax X S b n h g r))
          ((∑ k, Ideal.exp (rlog X b n h g r k - rmax X S b n h g r)) + Ideal.exp (S (ix1 ⟨h.val * 4 + g.val, by omega⟩) - rmax X S b n h g r)) := by
  obtain ⟨s, hs, es⟩ := slope_pos ⟨4 * h.val + g.val, by omega⟩
  have hmod : (64 * b.val + n.val) % 64 = n.val := by omega
  have hD : ∀ j : Fin 256, distOf ((64 * b.val + n.val) % 64) dist distf (ix2 r j) = if j.val = 0 then 0 else if sees n r j then (((r.val + 128 - j.val : ℕ) : ℝ) : EReal) else ⊤ := by
    intro j
    rw [hmod]
    unfold distOf
    by_cases hn : n.val = 0
    · rw [if_pos hn, hdf]
      by_cases hj : j.val = 0
      · rw [if_pos hj, if_pos hj]
      · rw [if_neg hj, if_neg hj]
        by_cases q : 128 ≤ j.val ∧ j.val ≤ r.val + 128
        · rw [if_pos q, if_pos (by unfold sees; omega)]
        · rw [if_neg q, if_neg (by unfold sees; omega)]
    · rw [if_neg hn, hd]
      by_cases hj : j.val = 0
      · rw [if_pos hj, if_pos hj]
      · rw [if_neg hj, if_neg hj]
        by_cases q : r.val < j.val ∧ j.val ≤ r.val + 128
        · rw [if_pos q, if_pos (by unfold sees; omega)]
        · rw [if_neg q, if_neg (by unfold sees; omega)]
  have hq4 : (⟨h.val * 4 + g.val, by omega⟩ : Fin 32) = ⟨4 * h.val + g.val, by omega⟩ := Fin.ext (by show h.val * 4 + g.val = 4 * h.val + g.val; omega)
  have hg : (⟨4 * h.val + (128 * g.val + r.val) / 128, by omega⟩ : Fin 32) = ⟨4 * h.val + g.val, by omega⟩ := Fin.ext (by show 4 * h.val + (128 * g.val + r.val) / 128 = 4 * h.val + g.val; omega)
  rw [hq4]
  have hqe : ∀ e, qcol (part X (64 * b.val + n.val) 0 4096 ht (by omega)) h g (ix2 r e) = rq X b n h g r e := by
    intro e
    unfold qcol part rq
    refine congrArg X (congrArg₂ ix2 (Fin.ext ?_) (Fin.ext ?_))
    · show 128 * (64 * b.val + n.val) + r.val = b.val * 8192 + (n.val * 128 + r.val)
      omega
    · show 0 + (512 * h.val + 128 * g.val + e.val) = h.val * 512 + g.val * 128 + e.val
      omega
  have hsee : ∀ j, rlog X b n h g r j ≠ ⊥ → sees n r j := fun j hj => by
    by_contra q
    exact hj (by unfold rlog; rw [if_neg q])
  unfold gOut tileAt soft
  refine (softmax_sink (fun j => rlog X b n h g r j) _ (fun j => rkv X 5120 (by omega) b n h j d) _ (S (ix1 ⟨4 * h.val + g.val, by omega⟩)) (hS _) ?_ ⟨128 + r.val, by omega⟩ ?_ ?_ ?_ ?_ ?_ ?_).trans ?_
  · intro j
    by_cases q : sees n r j
    · obtain ⟨x, ex⟩ := rlog_real X hX b n h g r j q
      show rlog X b n h g r j ≠ ⊤
      rw [ex]; exact EReal.coe_ne_top x
    · show rlog X b n h g r j ≠ ⊤
      unfold rlog; rw [if_neg q]; exact bot_ne_top
  · obtain ⟨x, ex⟩ := rlog_real X hX b n h g r ⟨128 + r.val, by omega⟩ (by unfold sees; dsimp only; omega)
    show rlog X b n h g r ⟨128 + r.val, _⟩ ≠ ⊥
    rw [ex]; exact EReal.coe_ne_bot x
  · show rlog X b n h g r 0 = ⊥
    unfold rlog
    rw [if_neg (by unfold sees; simp)]
  · unfold logit
    rw [hD, if_pos (show (0 : Fin 256).val = 0 from rfl), mul_zero, sub_zero]
    have hfeat := feat_first (S (ix1 ⟨4 * h.val + g.val, by omega⟩)) (S (ix1 ⟨4 * h.val + g.val, by omega⟩) - S (ix1 ⟨4 * h.val + g.val, by omega⟩))
      ((S (ix1 ⟨4 * h.val + g.val, by omega⟩) - S (ix1 ⟨4 * h.val + g.val, by omega⟩)) - (S (ix1 ⟨4 * h.val + g.val, by omega⟩) - S (ix1 ⟨4 * h.val + g.val, by omega⟩)))
      (fun e => qf (ix3 h ⟨128 * g.val + r.val, by omega⟩ e)) (fun e => kf (ix2 (0 : Fin 256) e))
      (fun e => by rw [hqf]; simp only [hg]) (fun e => by rw [hkf]; simp)
    rw [hfeat]
    rw [split_sum _ (hS _)]
    simp only [both_zero, mul_zero, Finset.sum_const_zero, zero_add]
  · intro j hj
    have hj' : j.val ≠ 0 := fun q => hj (Fin.ext q)
    show logit _ _ _ _ _ _ _ r j = rlog X b n h g r j
    unfold logit rlog
    rw [hD, if_neg hj', hsl, es]
    simp only [hkf, hj', false_and, if_false, mul_zero, Finset.sum_const_zero, add_zero]
    by_cases q : sees n r j
    · have q' := q
      unfold sees at q'
      rw [if_pos q, if_pos q, sub_eq_add_neg]
      refine congrArg₂ (fun (x y : EReal) => x + y) (Finset.sum_congr rfl fun e _ => ?_) ?_
      · rw [hqe, both_part X 4096 (by omega) (by omega) b n h j e ht (by omega) hj' q'.2.2, mul_comm]
      · rw [← EReal.coe_mul, ← EReal.coe_neg, ← EReal.coe_neg, ← EReal.coe_mul]
        congr 1
        have : (((r.val : Int) + 128 - (j.val : Int) : Int) : ℝ) = ((r.val + 128 - j.val : ℕ) : ℝ) := by
          rw [Nat.cast_sub (by omega)]
          push_cast
          ring
        rw [this]
        ring
    · rw [if_neg q, if_neg q, EReal.coe_mul_top_of_pos hs, sub_eq_add_neg, EReal.neg_top, EReal.add_bot]
  · exact both_zero _ _ d
  · intro j hj
    have q := hsee j hj
    unfold sees at q
    exact both_part X 5120 (by omega) (by omega) b n h j d ht (by omega) (by omega) q.2.2
  · refine Finset.sum_congr rfl fun j _ => ?_
    unfold rmax
    rw [hq4, mul_comm]

end

end Cert.AttnFinal

end
-- ==== Proof.AttnHost.lean ====
module

public import proofs.«01_k».proof.Proof.Gen.KernelIdeal.Frame
public import Idealize.ShloMosaic.Lib.Pointwise
public import Idealize.ShloMosaic.Lib.Claim
public import Idealize.ShloMosaic.Lib.Pipeline.ValueKit
public import Idealize.ShloMosaic.Lib.Routing.OpsSet

@[expose] public section

set_option maxRecDepth 16384

noncomputable section

namespace Cert.AttnHost

open Cert.KernelIdeal Cert.KernelIdeal.Gen
open Idealize.ShloMosaic Idealize.ShloMosaic.TcCoe Idealize.ShloMosaic.Tactic
open Idealize.SL.Sem

/-- Where update `(a', b')` of a scatter that sets one plane of a cube lands: at `(a, b, e)` exactly when the plane is `e` and the pair is the same. -/
theorem lands_plane (idx : IVec S1 32) (k : Fin 128) (hidx : (idx (ix1 0)).toInt = (k.val : Int)) (a' : Fin 32) (b' : Fin 128) (a : Fin 32) (b e : Fin 128) :
    scatter_S32x128x128_S1_S32x128_01_2_2_0.resultIdx? (ix2 a' b') idx = some (ix3 a b e) ↔ a' = a ∧ b' = b ∧ e = k := by
  have hs2 : scatter_S32x128x128_S1_S32x128_01_2_2_0.start (ix2 a' b') idx 2 = (k.val : Int) := by
    unfold ScatterDims.start
    rw [dif_pos (show (2 : Fin 3) ∈ scatter_S32x128x128_S1_S32x128_01_2_2_0.scatterDimsToOperandDims from List.mem_singleton.2 rfl)]
    rw [← hidx]
    congr 2
    funext x
    match x with
    | ⟨0, _⟩ => exact Subsingleton.elim (α := Fin 1) _ _
  have hs0 : scatter_S32x128x128_S1_S32x128_01_2_2_0.start (ix2 a' b') idx 0 = 0 := rfl
  have hs1 : scatter_S32x128x128_S1_S32x128_01_2_2_0.start (ix2 a' b') idx 1 = 0 := rfl
  have hw0 : scatter_S32x128x128_S1_S32x128_01_2_2_0.window (ix2 a' b') 0 = a'.val := rfl
  have hw1 : scatter_S32x128x128_S1_S32x128_01_2_2_0.window (ix2 a' b') 1 = b'.val := rfl
  have hw2 : scatter_S32x128x128_S1_S32x128_01_2_2_0.window (ix2 a' b') 2 = 0 := rfl
  rw [Routing.resultIdx?_eq_some]
  constructor
  · intro h
    have h0 := h (0 : Fin 3)
    have h1 := h (1 : Fin 3)
    have h2 := h (2 : Fin 3)
    rw [hs0, hw0] at h0
    rw [hs1, hw1] at h1
    rw [hs2, hw2] at h2
    change (0 : Int) + (a'.val : Int) = (a.val : Int) at h0
    change (0 : Int) + (b'.val : Int) = (b.val : Int) at h1
    change (k.val : Int) + ((0 : ℕ) : Int) = (e.val : Int) at h2
    exact ⟨Fin.ext (by omega), Fin.ext (by omega), Fin.ext (by omega)⟩
  · rintro ⟨rfl, rfl, rfl⟩ x
    match x with
    | ⟨0, _⟩ => exact (congrArg₂ (fun (p : Int) (q : ℕ) => p + (q : Int)) hs0 hw0).trans (zero_add _)
    | ⟨1, _⟩ => exact (congrArg₂ (fun (p : Int) (q : ℕ) => p + (q : Int)) hs1 hw1).trans (zero_add _)
    | ⟨2, _⟩ => exact (congrArg₂ (fun (p : Int) (q : ℕ) => p + (q : Int)) hs2 hw2).trans (add_zero _)

/-- Setting plane `k` of a cube, read at an element. -/
theorem set_plane {α : Type} (x : S32x128x128.Idx → α) (idx : IVec S1 32) (u : S32x128.Idx → α) (k : Fin 128) (hidx : (idx (ix1 0)).toInt = (k.val : Int))
    (a : Fin 32) (b e : Fin 128) :
    Host.scatter scatter_S32x128x128_S1_S32x128_01_2_2_0 (fun _ y => y) x idx u (ix3 a b e) = if e = k then u (ix2 a b) else x (ix3 a b e) := by
  have lands : ∀ j : S32x128.Idx, scatter_S32x128x128_S1_S32x128_01_2_2_0.resultIdx? j idx = some (ix3 a b e) → j = ix2 a b ∧ e = k := fun j hj => by
    have e0 : j = ix2 (j 0) (j 1) := eq_ix2 j
    rw [e0] at hj
    obtain ⟨p, q, r⟩ := (lands_plane idx k hidx _ _ a b e).1 hj
    exact ⟨e0.trans (congrArg₂ ix2 p q), r⟩
  by_cases h : e = k
  · rw [if_pos h]
    exact Routing.scatter_set_hit _ x idx u _ _ (fun j hj => congrArg u (lands j hj).1) (ix2 a b) ((lands_plane idx k hidx a b a b e).2 ⟨rfl, rfl, h⟩)
  · rw [if_neg h]
    exact Routing.scatter_set_miss _ x idx u _ fun j hj => h (lands j hj).2

variable (m : (ℓ : Loc nD τ sig) → Buf (Elt Ideal) ℓ)

theorem V_cst (c : Dev nD) : (V m c main_cst : FVec Ideal S256x128 .bf16) = fun i => FloatOps.ofBits (F := Ideal) .bf16 (lit0 (S256x128.rowMajor i)) := by
  entry_read
  rfl
theorem V_cst_0 (c : Dev nD) : (V m c main_cst_0 : FVec Ideal S128x256 .f32) = fun i => FloatOps.ofBits (F := Ideal) .f32 (lit1 (S128x256.rowMajor i)) := by
  entry_read
  rfl
theorem V_cst_1 (c : Dev nD) : (V m c main_cst_1 : FVec Ideal S128x256 .f32) = fun i => FloatOps.ofBits (F := Ideal) .f32 (lit2 (S128x256.rowMajor i)) := by
  entry_read
  rfl

/-- The slope of head `i`, as the program computes it. -/
def slope (i : Fin 32) : EReal :=
  Ideal.exp (Ideal.ofBits .f32 1060205080#32 * Ideal.div (Ideal.ofBits .f32 3238002688#32 * (1 + FloatOps.sitofp (F := Ideal) .f32 (BitVec.ofNat 32 i.val))) (Ideal.ofBits .f32 1107296256#32))

theorem V_v9 (c : Dev nD) (i : Fin 32) : (V m c main_v9 : FVec Ideal S32 .f32) (ix1 i) = slope i := by
  entry_read
  pointwise
  rfl

/-- The sink of head `i`. -/
def sinkAt (c : Dev nD) (i : Fin 32) : EReal := (m ((c : Thread nD τ).loc main_arg1) : FVec Ideal S32 .f32) (ix1 i)

/-- The query features: the sink's three parts in the first three columns. -/
theorem V_v30 (c : Dev nD) (h : Fin 8) (r : Fin 512) (e : Fin 128) :
    (V m c main_v30 : FVec Ideal S8x512x128 .bf16) (ix3 h r e)
      = if e = 2 then (sinkAt m c ⟨4 * h.val + r.val / 128, by omega⟩ - sinkAt m c ⟨4 * h.val + r.val / 128, by omega⟩) - (sinkAt m c ⟨4 * h.val + r.val / 128, by omega⟩ - sinkAt m c ⟨4 * h.val + r.val / 128, by omega⟩)
        else if e = 1 then sinkAt m c ⟨4 * h.val + r.val / 128, by omega⟩ - sinkAt m c ⟨4 * h.val + r.val / 128, by omega⟩
        else if e = 0 then sinkAt m c ⟨4 * h.val + r.val / 128, by omega⟩ else 0 := by
  entry_read
  pointwise
  rw [set_plane _ _ _ 2 (by rfl), set_plane _ _ _ 1 (by rfl), set_plane _ _ _ 0 (by rfl)]
  pointwise
  simp only [Nat.mul_comm h.val 4]
  rfl

end Cert.AttnHost

end
-- ==== Proof.AttnWord.lean ====
module

public import proofs.«01_k».proof.KernelIdeal

@[expose] public section

set_option maxRecDepth 16384

noncomputable section

namespace Cert.AttnTab

open Cert.KernelIdeal
open Idealize.ShloMosaic Idealize.ShloMosaic.TcCoe Idealize.SL.Sem

/-- The word of the float whose value is the natural number `n`, for `n` below 128. -/
def word (n : ℕ) : BitVec 32 :=
  if n = 0 then 0#32 else BitVec.ofNat 32 ((127 + Nat.log2 n) * 2 ^ 23 + (n - 2 ^ Nat.log2 n) * 2 ^ (23 - Nat.log2 n))

/-- The distance table's word at row `r`, column `j`. -/
def wAll (r j : ℕ) : BitVec 32 :=
  if j = 0 then 0#32 else if r < j ∧ j ≤ r + 128 then word (r + 128 - j) else 0x7F800000#32

/-- The first block's distance table's word at row `r`, column `j`. -/
def wFirst (r j : ℕ) : BitVec 32 :=
  if j = 0 then 0#32 else if 128 ≤ j ∧ j ≤ r + 128 then word (r + 128 - j) else 0x7F800000#32

/-- The key features' word at row `r`, column `j`. -/
def wKey (r j : ℕ) : BitVec 16 := if r = 0 ∧ j < 3 then 0x3F80#16 else 0#16

end Cert.AttnTab

end
-- ==== Proof.AttnTabDist0.lean ====
module

public import proofs.«01_k».proof.Proof.AttnWord

@[expose] public section

set_option maxRecDepth 16384

noncomputable section

namespace Cert.AttnTab

open Cert.KernelIdeal
open Idealize.ShloMosaic Idealize.ShloMosaic.TcCoe Idealize.SL.Sem

theorem lit1_0 : ∀ r : Fin 8, ∀ j : Fin 256, lit1 ⟨256 * (8 * 0 + r.val) + j.val, by omega⟩ = wAll (8 * 0 + r.val) j.val := by
  decide +kernel

theorem lit1_1 : ∀ r : Fin 8, ∀ j : Fin 256, lit1 ⟨256 * (8 * 1 + r.val) + j.val, by omega⟩ = wAll (8 * 1 + r.val) j.val := by
  decide +kernel

theorem lit1_2 : ∀ r : Fin 8, ∀ j : Fin 256, lit1 ⟨256 * (8 * 2 + r.val) + j.val, by omega⟩ = wAll (8 * 2 + r.val) j.val := by
  decide +kernel

theorem lit1_3 : ∀ r : Fin 8, ∀ j : Fin 256, lit1 ⟨256 * (8 * 3 + r.val) + j.val, by omega⟩ = wAll (8 * 3 + r.val) j.val := by
  decide +kernel

theorem lit1_4 : ∀ r : Fin 8, ∀ j : Fin 256, lit1 ⟨256 * (8 * 4 + r.val) + j.val, by omega⟩ = wAll (8 * 4 + r.val) j.val := by
  decide +kernel

theorem lit1_5 : ∀ r : Fin 8, ∀ j : Fin 256, lit1 ⟨256 * (8 * 5 + r.val) + j.val, by omega⟩ = wAll (8 * 5 + r.val) j.val := by
  decide +kernel

theorem lit1_6 : ∀ r : Fin 8, ∀ j : Fin 256, lit1 ⟨256 * (8 * 6 + r.val) + j.val, by omega⟩ = wAll (8 * 6 + r.val) j.val := by
  decide +kernel

theorem lit1_7 : ∀ r : Fin 8, ∀ j : Fin 256, lit1 ⟨256 * (8 * 7 + r.val) + j.val, by omega⟩ = wAll (8 * 7 + r.val) j.val := by
  decide +kernel

end Cert.AttnTab

end
-- ==== Proof.AttnTabDist1.lean ====
module

public import proofs.«01_k».proof.Proof.AttnWord

@[expose] public section

set_option maxRecDepth 16384

noncomputable section

namespace Cert.AttnTab

open Cert.KernelIdeal
open Idealize.ShloMosaic Idealize.ShloMosaic.TcCoe Idealize.SL.Sem

theorem lit1_8 : ∀ r : Fin 8, ∀ j : Fin 256, lit1 ⟨256 * (8 * 8 + r.val) + j.val, by omega⟩ = wAll (8 * 8 + r.val) j.val := by
  decide +kernel

theorem lit1_9 : ∀ r : Fin 8, ∀ j : Fin 256, lit1 ⟨256 * (8 * 9 + r.val) + j.val, by omega⟩ = wAll (8 * 9 + r.val) j.val := by
  decide +kernel

theorem lit1_10 : ∀ r : Fin 8, ∀ j : Fin 256, lit1 ⟨256 * (8 * 10 + r.val) + j.val, by omega⟩ = wAll (8 * 10 + r.val) j.val := by
  decide +kernel

theorem lit1_11 : ∀ r : Fin 8, ∀ j : Fin 256, lit1 ⟨256 * (8 * 11 + r.val) + j.val, by omega⟩ = wAll (8 * 11 + r.val) j.val := by
  decide +kernel

theorem lit1_12 : ∀ r : Fin 8, ∀ j : Fin 256, lit1 ⟨256 * (8 * 12 + r.val) + j.val, by omega⟩ = wAll (8 * 12 + r.val) j.val := by
  decide +kernel

theorem lit1_13 : ∀ r : Fin 8, ∀ j : Fin 256, lit1 ⟨256 * (8 * 13 + r.val) + j.val, by omega⟩ = wAll (8 * 13 + r.val) j.val := by
  decide +kernel

theorem lit1_14 : ∀ r : Fin 8, ∀ j : Fin 256, lit1 ⟨256 * (8 * 14 + r.val) + j.val, by omega⟩ = wAll (8 * 14 + r.val) j.val := by
  decide +kernel

theorem lit1_15 : ∀ r : Fin 8, ∀ j : Fin 256, lit1 ⟨256 * (8 * 15 + r.val) + j.val, by omega⟩ = wAll (8 * 15 + r.val) j.val := by
  decide +kernel

end Cert.AttnTab

end
-- ==== Proof.AttnTabFirst0.lean ====
module

public import proofs.«01_k».proof.Proof.AttnWord

@[expose] public section

set_option maxRecDepth 16384

noncomputable section

namespace Cert.AttnTab

open Cert.KernelIdeal
open Idealize.ShloMosaic Idealize.ShloMosaic.TcCoe Idealize.SL.Sem

theorem lit2_0 : ∀ r : Fin 8, ∀ j : Fin 256, lit2 ⟨256 * (8 * 0 + r.val) + j.val, by omega⟩ = wFirst (8 * 0 + r.val) j.val := by
  decide +kernel

theorem lit2_1 : ∀ r : Fin 8, ∀ j : Fin 256, lit2 ⟨256 * (8 * 1 + r.val) + j.val, by omega⟩ = wFirst (8 * 1 + r.val) j.val := by
  decide +kernel

theorem lit2_2 : ∀ r : Fin 8, ∀ j : Fin 256, lit2 ⟨256 * (8 * 2 + r.val) + j.val, by omega⟩ = wFirst (8 * 2 + r.val) j.val := by
  decide +kernel

theorem lit2_3 : ∀ r : Fin 8, ∀ j : Fin 256, lit2 ⟨256 * (8 * 3 + r.val) + j.val, by omega⟩ = wFirst (8 * 3 + r.val) j.val := by
  decide +kernel

theorem lit2_4 : ∀ r : Fin 8, ∀ j : Fin 256, lit2 ⟨256 * (8 * 4 + r.val) + j.val, by omega⟩ = wFirst (8 * 4 + r.val) j.val := by
  decide +kernel

theorem lit2_5 : ∀ r : Fin 8, ∀ j : Fin 256, lit2 ⟨256 * (8 * 5 + r.val) + j.val, by omega⟩ = wFirst (8 * 5 + r.val) j.val := by
  decide +kernel

theorem lit2_6 : ∀ r : Fin 8, ∀ j : Fin 256, lit2 ⟨256 * (8 * 6 + r.val) + j.val, by omega⟩ = wFirst (8 * 6 + r.val) j.val := by
  decide +kernel

theorem lit2_7 : ∀ r : Fin 8, ∀ j : Fin 256, lit2 ⟨256 * (8 * 7 + r.val) + j.val, by omega⟩ = wFirst (8 * 7 + r.val) j.val := by
  decide +kernel

end Cert.AttnTab

end
-- ==== Proof.AttnTabFirst1.lean ====
module

public import proofs.«01_k».proof.Proof.AttnWord

@[expose] public section

set_option maxRecDepth 16384

noncomputable section

namespace Cert.AttnTab

open Cert.KernelIdeal
open Idealize.ShloMosaic Idealize.ShloMosaic.TcCoe Idealize.SL.Sem

theorem lit2_8 : ∀ r : Fin 8, ∀ j : Fin 256, lit2 ⟨256 * (8 * 8 + r.val) + j.val, by omega⟩ = wFirst (8 * 8 + r.val) j.val := by
  decide +kernel

theorem lit2_9 : ∀ r : Fin 8, ∀ j : Fin 256, lit2 ⟨256 * (8 * 9 + r.val) + j.val, by omega⟩ = wFirst (8 * 9 + r.val) j.val := by
  decide +kernel

theorem lit2_10 : ∀ r : Fin 8, ∀ j : Fin 256, lit2 ⟨256 * (8 * 10 + r.val) + j.val, by omega⟩ = wFirst (8 * 10 + r.val) j.val := by
  decide +kernel

theorem lit2_11 : ∀ r : Fin 8, ∀ j : Fin 256, lit2 ⟨256 * (8 * 11 + r.val) + j.val, by omega⟩ = wFirst (8 * 11 + r.val) j.val := by
  decide +kernel

theorem lit2_12 : ∀ r : Fin 8, ∀ j : Fin 256, lit2 ⟨256 * (8 * 12 + r.val) + j.val, by omega⟩ = wFirst (8 * 12 + r.val) j.val := by
  decide +kernel

theorem lit2_13 : ∀ r : Fin 8, ∀ j : Fin 256, lit2 ⟨256 * (8 * 13 + r.val) + j.val, by omega⟩ = wFirst (8 * 13 + r.val) j.val := by
  decide +kernel

theorem lit2_14 : ∀ r : Fin 8, ∀ j : Fin 256, lit2 ⟨256 * (8 * 14 + r.val) + j.val, by omega⟩ = wFirst (8 * 14 + r.val) j.val := by
  decide +kernel

theorem lit2_15 : ∀ r : Fin 8, ∀ j : Fin 256, lit2 ⟨256 * (8 * 15 + r.val) + j.val, by omega⟩ = wFirst (8 * 15 + r.val) j.val := by
  decide +kernel

end Cert.AttnTab

end
-- ==== Proof.AttnTabKey0.lean ====
module

public import proofs.«01_k».proof.Proof.AttnWord

@[expose] public section

set_option maxRecDepth 16384

noncomputable section

namespace Cert.AttnTab

open Cert.KernelIdeal
open Idealize.ShloMosaic Idealize.ShloMosaic.TcCoe Idealize.SL.Sem

theorem lit0_0 : ∀ r : Fin 16, ∀ j : Fin 128, lit0 ⟨128 * (16 * 0 + r.val) + j.val, by omega⟩ = wKey (16 * 0 + r.val) j.val := by
  decide +kernel

theorem lit0_1 : ∀ r : Fin 16, ∀ j : Fin 128, lit0 ⟨128 * (16 * 1 + r.val) + j.val, by omega⟩ = wKey (16 * 1 + r.val) j.val := by
  decide +kernel

theorem lit0_2 : ∀ r : Fin 16, ∀ j : Fin 128, lit0 ⟨128 * (16 * 2 + r.val) + j.val, by omega⟩ = wKey (16 * 2 + r.val) j.val := by
  decide +kernel

theorem lit0_3 : ∀ r : Fin 16, ∀ j : Fin 128, lit0 ⟨128 * (16 * 3 + r.val) + j.val, by omega⟩ = wKey (16 * 3 + r.val) j.val := by
  decide +kernel

theorem lit0_4 : ∀ r : Fin 16, ∀ j : Fin 128, lit0 ⟨128 * (16 * 4 + r.val) + j.val, by omega⟩ = wKey (16 * 4 + r.val) j.val := by
  decide +kernel

theorem lit0_5 : ∀ r : Fin 16, ∀ j : Fin 128, lit0 ⟨128 * (16 * 5 + r.val) + j.val, by omega⟩ = wKey (16 * 5 + r.val) j.val := by
  decide +kernel

theorem lit0_6 : ∀ r : Fin 16, ∀ j : Fin 128, lit0 ⟨128 * (16 * 6 + r.val) + j.val, by omega⟩ = wKey (16 * 6 + r.val) j.val := by
  decide +kernel

theorem lit0_7 : ∀ r : Fin 16, ∀ j : Fin 128, lit0 ⟨128 * (16 * 7 + r.val) + j.val, by omega⟩ = wKey (16 * 7 + r.val) j.val := by
  decide +kernel

end Cert.AttnTab

end
-- ==== Proof.AttnTabKey1.lean ====
module

public import proofs.«01_k».proof.Proof.AttnWord

@[expose] public section

set_option maxRecDepth 16384

noncomputable section

namespace Cert.AttnTab

open Cert.KernelIdeal
open Idealize.ShloMosaic Idealize.ShloMosaic.TcCoe Idealize.SL.Sem

theorem lit0_8 : ∀ r : Fin 16, ∀ j : Fin 128, lit0 ⟨128 * (16 * 8 + r.val) + j.val, by omega⟩ = wKey (16 * 8 + r.val) j.val := by
  decide +kernel

theorem lit0_9 : ∀ r : Fin 16, ∀ j : Fin 128, lit0 ⟨128 * (16 * 9 + r.val) + j.val, by omega⟩ = wKey (16 * 9 + r.val) j.val := by
  decide +kernel

theorem lit0_10 : ∀ r : Fin 16, ∀ j : Fin 128, lit0 ⟨128 * (16 * 10 + r.val) + j.val, by omega⟩ = wKey (16 * 10 + r.val) j.val := by
  decide +kernel

theorem lit0_11 : ∀ r : Fin 16, ∀ j : Fin 128, lit0 ⟨128 * (16 * 11 + r.val) + j.val, by omega⟩ = wKey (16 * 11 + r.val) j.val := by
  decide +kernel

theorem lit0_12 : ∀ r : Fin 16, ∀ j : Fin 128, lit0 ⟨128 * (16 * 12 + r.val) + j.val, by omega⟩ = wKey (16 * 12 + r.val) j.val := by
  decide +kernel

theorem lit0_13 : ∀ r : Fin 16, ∀ j : Fin 128, lit0 ⟨128 * (16 * 13 + r.val) + j.val, by omega⟩ = wKey (16 * 13 + r.val) j.val := by
  decide +kernel

theorem lit0_14 : ∀ r : Fin 16, ∀ j : Fin 128, lit0 ⟨128 * (16 * 14 + r.val) + j.val, by omega⟩ = wKey (16 * 14 + r.val) j.val := by
  decide +kernel

theorem lit0_15 : ∀ r : Fin 16, ∀ j : Fin 128, lit0 ⟨128 * (16 * 15 + r.val) + j.val, by omega⟩ = wKey (16 * 15 + r.val) j.val := by
  decide +kernel

end Cert.AttnTab

end
-- ==== Proof.AttnTab.lean ====
module

public import proofs.«01_k».proof.Proof.AttnTabDist0
public import proofs.«01_k».proof.Proof.AttnTabDist1
public import proofs.«01_k».proof.Proof.AttnTabFirst0
public import proofs.«01_k».proof.Proof.AttnTabFirst1
public import proofs.«01_k».proof.Proof.AttnTabKey0
public import proofs.«01_k».proof.Proof.AttnTabKey1
public import Idealize.ShloMosaic.Lib.Pointwise

@[expose] public section

set_option maxRecDepth 16384

noncomputable section

namespace Cert.AttnTab

open Cert.KernelIdeal
open Idealize.ShloMosaic Idealize.ShloMosaic.TcCoe Idealize.SL.Sem

theorem lit1_all (k : ℕ) (hk : k < 16) (r : Fin 8) (j : Fin 256) : lit1 ⟨256 * (8 * k + r.val) + j.val, by omega⟩ = wAll (8 * k + r.val) j.val := by
  interval_cases k
  · exact lit1_0 r j
  · exact lit1_1 r j
  · exact lit1_2 r j
  · exact lit1_3 r j
  · exact lit1_4 r j
  · exact lit1_5 r j
  · exact lit1_6 r j
  · exact lit1_7 r j
  · exact lit1_8 r j
  · exact lit1_9 r j
  · exact lit1_10 r j
  · exact lit1_11 r j
  · exact lit1_12 r j
  · exact lit1_13 r j
  · exact lit1_14 r j
  · exact lit1_15 r j

theorem lit1_eq (r : Fin 128) (j : Fin 256) (p : Fin 32768) (hp : p.val = 256 * r.val + j.val) : lit1 p = wAll r.val j.val := by
  have e := lit1_all (r.val / 8) (by omega) ⟨r.val % 8, by omega⟩ j
  have hr : 8 * (r.val / 8) + r.val % 8 = r.val := by omega
  simp only [hr] at e
  rw [← e]
  exact congrArg lit1 (Fin.ext hp)

theorem lit2_all (k : ℕ) (hk : k < 16) (r : Fin 8) (j : Fin 256) : lit2 ⟨256 * (8 * k + r.val) + j.val, by omega⟩ = wFirst (8 * k + r.val) j.val := by
  interval_cases k
  · exact lit2_0 r j
  · exact lit2_1 r j
  · exact lit2_2 r j
  · exact lit2_3 r j
  · exact lit2_4 r j
  · exact lit2_5 r j
  · exact lit2_6 r j
  · exact lit2_7 r j
  · exact lit2_8 r j
  · exact lit2_9 r j
  · exact lit2_10 r j
  · exact lit2_11 r j
  · exact lit2_12 r j
  · exact lit2_13 r j
  · exact lit2_14 r j
  · exact lit2_15 r j

theorem lit2_eq (r : Fin 128) (j : Fin 256) (p : Fin 32768) (hp : p.val = 256 * r.val + j.val) : lit2 p = wFirst r.val j.val := by
  have e := lit2_all (r.val / 8) (by omega) ⟨r.val % 8, by omega⟩ j
  have hr : 8 * (r.val / 8) + r.val % 8 = r.val := by omega
  simp only [hr] at e
  rw [← e]
  exact congrArg lit2 (Fin.ext hp)

theorem lit0_all (k : ℕ) (hk : k < 16) (r : Fin 16) (j : Fin 128) : lit0 ⟨128 * (16 * k + r.val) + j.val, by omega⟩ = wKey (16 * k + r.val) j.val := by
  interval_cases k
  · exact lit0_0 r j
  · exact lit0_1 r j
  · exact lit0_2 r j
  · exact lit0_3 r j
  · exact lit0_4 r j
  · exact lit0_5 r j
  · exact lit0_6 r j
  · exact lit0_7 r j
  · exact lit0_8 r j
  · exact lit0_9 r j
  · exact lit0_10 r j
  · exact lit0_11 r j
  · exact lit0_12 r j
  · exact lit0_13 r j
  · exact lit0_14 r j
  · exact lit0_15 r j

theorem lit0_eq (r : Fin 256) (j : Fin 128) (p : Fin 32768) (hp : p.val = 128 * r.val + j.val) : lit0 p = wKey r.val j.val := by
  have e := lit0_all (r.val / 16) (by omega) ⟨r.val % 16, by omega⟩ j
  have hr : 16 * (r.val / 16) + r.val % 16 = r.val := by omega
  simp only [hr] at e
  rw [← e]
  exact congrArg lit0 (Fin.ext hp)

/-- The three fields of such a word. -/
theorem word_fields : ∀ n : Fin 128, n.val ≠ 0 → (((word n.val).extractLsb' (8 + 23) 1 == 1#1) = false
    ∧ ((word n.val).extractLsb' 23 8).toNat = 127 + Nat.log2 n.val
    ∧ 2 ^ 23 + ((word n.val).extractLsb' 0 23).toNat = n.val * 2 ^ (23 - Nat.log2 n.val) ∧ Nat.log2 n.val ≤ 6) := by
  decide +kernel

theorem zero_val : (Ideal.ofBits .f32 0#32 : EReal) = 0 := by simp [Ideal.ofBits, Ideal.ieee]

theorem word_val (n : ℕ) (hn : n < 128) : (Ideal.ofBits .f32 (word n) : EReal) = ((n : ℝ) : EReal) := by
  by_cases h0 : n = 0
  · subst h0
    exact zero_val.trans (by simp)
  · obtain ⟨h1, h2, h3, h4⟩ := word_fields ⟨n, hn⟩ h0
    dsimp only at h1 h2 h3 h4
    show Ideal.ieee 8 23 (word n) = _
    unfold Ideal.ieee
    dsimp only
    rw [h1, h2, if_neg (by omega), if_neg (by omega), h3]
    generalize Nat.log2 n = L at h4 ⊢
    refine congrArg (fun x : ℝ => (x : EReal)) ?_
    have e : ((127 + L : ℕ) : ℤ) - (2 ^ (8 - 1) - 1) - (23 : ℕ) = -((23 - L : ℕ) : ℤ) := by
      have : ((2 : ℤ) ^ (8 - 1) - 1) = 127 := by norm_num
      rw [this]
      omega
    rw [e, zpow_neg, zpow_natCast]
    push_cast
    have h2' : ((2 : ℝ) ^ (23 - L)) ≠ 0 := by positivity
    simp only [Bool.false_eq_true, if_false, one_mul]
    field_simp

theorem inf_val : (Ideal.ofBits .f32 0x7F800000#32 : EReal) = ⊤ := by simp [Ideal.ofBits, Ideal.ieee]

theorem dist_all (r : Fin 128) (j : Fin 256) : (FloatOps.ofBits (F := Ideal) .f32 (lit1 (S128x256.rowMajor (ix2 r j))) : EReal)
    = if j.val = 0 then 0 else if r.val < j.val ∧ j.val ≤ r.val + 128 then (((r.val + 128 - j.val : ℕ) : ℝ) : EReal) else ⊤ := by
  refine (congrArg (fun w => (Ideal.ofBits .f32 w : EReal)) (lit1_eq r j _ (by rw [Shape.rowMajor_val_two]; show r.val * 256 + j.val = _; omega))).trans ?_
  unfold wAll
  split
  · exact zero_val
  · split
    · exact word_val _ (by omega)
    · exact inf_val

theorem dist_first (r : Fin 128) (j : Fin 256) : (FloatOps.ofBits (F := Ideal) .f32 (lit2 (S128x256.rowMajor (ix2 r j))) : EReal)
    = if j.val = 0 then 0 else if 128 ≤ j.val ∧ j.val ≤ r.val + 128 then (((r.val + 128 - j.val : ℕ) : ℝ) : EReal) else ⊤ := by
  refine (congrArg (fun w => (Ideal.ofBits .f32 w : EReal)) (lit2_eq r j _ (by rw [Shape.rowMajor_val_two]; show r.val * 256 + j.val = _; omega))).trans ?_
  unfold wFirst
  split
  · exact zero_val
  · split
    · exact word_val _ (by omega)
    · exact inf_val

theorem key_feat (j : Fin 256) (e : Fin 128) : (FloatOps.ofBits (F := Ideal) .bf16 (lit0 (S256x128.rowMajor (ix2 j e))) : EReal)
    = if j.val = 0 ∧ e.val < 3 then 1 else 0 := by
  refine (congrArg (fun w => (Ideal.ofBits .bf16 w : EReal)) (lit0_eq j e _ (by rw [Shape.rowMajor_val_two]; show j.val * 128 + e.val = _; omega))).trans ?_
  unfold wKey
  split
  · simp [Ideal.ofBits, Ideal.ieee]
    exact_mod_cast (by norm_num : (128 : ℝ) * (2 ^ 7)⁻¹ = 1)
  · simp [Ideal.ofBits, Ideal.ieee]

end Cert.AttnTab

end
-- ==== Proof.AttnValue.lean ====
module

public import proofs.«01_k».proof.Proof.AttnFinal
public import proofs.«01_k».proof.Proof.AttnHost
public import proofs.«01_k».proof.Proof.AttnTab
public import proofs.«01_k».proof.Proof.AttnLaunch
public import proofs.«01_k».proof.Defs
public import Idealize.ShloMosaic.Lib.ReduceAll

@[expose] public section

set_option maxRecDepth 16384

noncomputable section

namespace Cert.AttnValue

open Cert.KernelIdeal Cert.AttnRun Cert.AttnRef
open Idealize.ShloMosaic Idealize.ShloMosaic.TcCoe Idealize.ShloMosaic.Tactic
open Idealize.SL.Sem

/-- A comparison by less-than that is true, over the extended reals. -/
theorem lt_of_cmp (x y : EReal) (h : FloatOps.cmpf (F := Ideal) (φ := .f32) .olt x y = 1#1) : x < y := by
  by_contra q
  have : FloatOps.cmpf (F := Ideal) (φ := .f32) .olt x y = 0#1 := by
    simp [FloatOps.cmpf, Ideal.cmp, q]
  rw [this] at h
  exact absurd h (by decide)

theorem inf_word : (Ideal.ofBits .f32 0x7F800000#32 : EReal) = ⊤ := by simp [Ideal.ofBits, Ideal.ieee]

/-- What the precondition says of the arrays. -/
theorem pre_read [Cert.Pre_finite_qk_and_sinks.Facts] (X : FVec Ideal S16384x6144 .bf16) (S : FVec Ideal S32 .f32)
    (h : Cert.Pre_finite_qk_and_sinks.fn (F := Ideal) X S = fun _ => 1#1) :
    (∀ (i : Fin 16384) (k : Fin 6144), k.val < 5120 → X (ix2 i k) ≠ ⊤ ∧ X (ix2 i k) ≠ ⊥) ∧ (∀ i : Fin 32, S (ix1 i) ≠ ⊤) := by
  have h' : ∀ i : Fin 32, _ := fun i => congrFun h (ix1 i)
  unfold Cert.Pre_finite_qk_and_sinks.fn at h'
  dsimp only at h'
  constructor
  · intro i k hk
    have e := (IntOp.andi_eq_one.1 (h' 0)).1
    have a := Host.reduce_andi_all _ _ _ _ _ e (ix2 i ⟨k.val, hk⟩ : Cert.Pre_finite_qk_and_sinks.S16384x5120.Idx)
    have b := lt_of_cmp _ _ a
    have c : (Host.absf (extf (F := Ideal) .f32 (extractStridedSlice Cert.Pre_finite_qk_and_sinks.S16384x5120 ![0, 0] X Cert.Pre_finite_qk_and_sinks.Facts.slices_S16384x6144_S16384x5120_0_0) Cert.Pre_finite_qk_and_sinks.Facts.bitsLt_bf16_f32) (ix2 i ⟨k.val, hk⟩ : Cert.Pre_finite_qk_and_sinks.S16384x5120.Idx) : EReal) = max (X (ix2 i k)) (-(X (ix2 i k))) := by
      pointwise
      rfl
    have c' : (broadcastInDim Cert.Pre_finite_qk_and_sinks.S16384x5120 ![] Cert.Pre_finite_qk_and_sinks.Facts.bcast_S_S16384x5120 (constant (F := Ideal) Cert.Pre_finite_qk_and_sinks.S_ .f32 0x7F800000#32) (ix2 i ⟨k.val, hk⟩ : Cert.Pre_finite_qk_and_sinks.S16384x5120.Idx) : EReal) = ⊤ := by
      pointwise
      exact inf_word
    rw [c, c', max_lt_iff] at b
    refine ⟨b.1.ne, fun q => ?_⟩
    rw [q, EReal.neg_bot] at b
    exact b.2.ne rfl
  · intro i
    have e := (IntOp.andi_eq_one.1 (h' i)).2
    have b := lt_of_cmp _ _ e
    have c : (broadcastInDim Cert.Pre_finite_qk_and_sinks.S32 ![] Cert.Pre_finite_qk_and_sinks.Facts.bcast_S_S32 (constant (F := Ideal) Cert.Pre_finite_qk_and_sinks.S_ .f32 0x7F800000#32) (ix1 i) : EReal) = ⊤ := by
      pointwise
      exact inf_word
    rw [c] at b
    exact b.ne

/-- An index of two axes is the pair of its coordinates. -/
theorem eta2 {a b : ℕ} (y : (⟨2, ![a, b]⟩ : Shape).Idx) : y = ix2 (n0 := a) (n1 := b) (y 0) (y 1) := by
  funext k
  fin_cases k <;> rfl

variable (m : (ℓ : Loc nD τ sig) → Buf (Elt Ideal) ℓ)

theorem arr_ref (c : Dev nD) (X : FVec Ideal S16384x6144 .bf16) (S : FVec Ideal S32 .f32)
    (eX : m ((c : Thread nD τ).loc main_arg0) = X) (eS : m ((c : Thread nD τ).loc main_arg1) = S)
    (hX : ∀ (i : Fin 16384) (k : Fin 6144), k.val < 5120 → X (ix2 i k) ≠ ⊤ ∧ X (ix2 i k) ≠ ⊥) (hS : ∀ i : Fin 32, S (ix1 i) ≠ ⊤) :
    (arrOut m c : FVec Ideal S16384x4096 .bf16) = Cert.ReferenceIdeal.Read.val_main_v89 (F := Ideal) X S := by
  funext y
  obtain ⟨b, n, r, h, g, d, hy⟩ : ∃ (b : Fin 2) (n : Fin 64) (r : Fin 128) (h : Fin 8) (g : Fin 4) (d : Fin 128),
      y = ix2 ⟨b.val * 8192 + (n.val * 128 + r.val), by omega⟩ ⟨h.val * 512 + g.val * 128 + d.val, by omega⟩ := by
    have h0 : (y 0).val < 16384 := (y 0).isLt
    have h1 : (y 1).val < 4096 := (y 1).isLt
    refine ⟨⟨(y 0).val / 8192, by omega⟩, ⟨(y 0).val % 8192 / 128, by omega⟩, ⟨(y 0).val % 128, by omega⟩, ⟨(y 1).val / 512, by omega⟩, ⟨(y 1).val % 512 / 128, by omega⟩, ⟨(y 1).val % 128, by omega⟩, ?_⟩
    refine (eta2 y).trans (congrArg₂ ix2 (Fin.ext ?_) (Fin.ext ?_))
    · show (y 0).val = (y 0).val / 8192 * 8192 + ((y 0).val % 8192 / 128 * 128 + (y 0).val % 128); omega
    · show (y 1).val = (y 1).val / 512 * 512 + (y 1).val % 512 / 128 * 128 + (y 1).val % 128; omega
  subst hy
  rw [read89]
  have ht : 64 * b.val + n.val < 128 := by omega
  rw [← AttnFinal.out_eq X S (Cert.KernelIdeal.Gen.V m c main_v9) (Cert.KernelIdeal.Gen.V m c main_v30) (Cert.KernelIdeal.Gen.V m c main_cst) (Cert.KernelIdeal.Gen.V m c main_cst_0) (Cert.KernelIdeal.Gen.V m c main_cst_1)
    (fun i => AttnHost.V_v9 m c i) (fun h r e => by subst eS; exact AttnHost.V_v30 m c h r e) ?_ ?_ ?_ hX hS b n h g r d ht]
  · unfold arrOut
    rw [eX]
    refine gOut_congr _ _ _ _ _ _ _ _ _ _ _ _ _ _ _ _ _ _ ?_ ?_ ?_ ?_ ?_
    · show (b.val * 8192 + (n.val * 128 + r.val)) / 128 = 64 * b.val + n.val; omega
    · show (h.val * 512 + g.val * 128 + d.val) / 512 = h.val; omega
    · show (h.val * 512 + g.val * 128 + d.val) % 512 / 128 = g.val; omega
    · show (b.val * 8192 + (n.val * 128 + r.val)) % 128 = r.val; omega
    · show (h.val * 512 + g.val * 128 + d.val) % 128 = d.val; omega
  · intro j e
    rw [AttnHost.V_cst]; exact AttnTab.key_feat j e
  · intro r j
    rw [AttnHost.V_cst_0]; exact AttnTab.dist_all r j
  · intro r j
    rw [AttnHost.V_cst_1]; exact AttnTab.dist_first r j

end Cert.AttnValue

end
-- ==== Proof.AttnClaim.lean ====
module

public import proofs.«01_k».proof.Proof.AttnValue
public import proofs.«01_k».proof.Proof.AttnBitsLaunch
public import proofs.«01_k».proof.Proof.Gen.ReferenceIdeal.Run
public import Idealize.ShloMosaic.Lib.Claim

@[expose] public section

set_option maxRecDepth 16384

noncomputable section

namespace Cert.AttnClaim

open Idealize.ShloMosaic Idealize.ShloMosaic.TcCoe Idealize.ShloMosaic.Tactic
open Idealize.SL.Sem

/-- The stated shape facts of the precondition. -/
instance preFacts : Cert.Pre_finite_qk_and_sinks.Facts where
  slices_S16384x6144_S16384x5120_0_0 := by decide
  bitsLt_bf16_f32 := by decide
  bcast_S_S16384x5120 := by decide
  reducesTo_S16384x5120_S_d0_1 := by decide
  h_S_ := by decide
  bcast_S_S32 := by decide

theorem frame_kernel : Cert.quiescent_Kernel := fun m ρ _ => Cert.AttnBitsRun.frame m ρ

theorem frame_ideal : Cert.quiescent_KernelIdeal := fun m ρ _ => Cert.AttnRun.frame m ρ

theorem frame_ideal_pre : Cert.quiescent_KernelIdeal_pre_finite_qk_and_sinks := fun m ρ _ => Cert.AttnRun.frame m ρ

theorem frame_reference : Cert.quiescent_ReferenceIdeal := by
  intro m g _
  exact (θ_run _ _ _).mono (fun r h => ⟨fun c => (h c).2, Idealize.ShloMosaic.sem_eq_zero_of_no_sems (by decide) r.2⟩)
    (Cert.ReferenceIdeal.Value.run m g)

theorem frame_reference_pre : Cert.quiescent_ReferenceIdeal_pre_finite_qk_and_sinks := fun m g _ => frame_reference m g trivial

theorem algebraic : Cert.algebraic_KernelIdeal_ReferenceIdeal_pre_finite_qk_and_sinks := by
  intro m g m' g' hpre hagree
  refine ⟨fun c => Cert.AttnRun.arrOut m c, ?_, ?_⟩
  · refine (θ_run _ _ _).mono (fun r h c => ⟨(h c).1.trans (Cert.AttnRun.arr_eq m c), (h c).2⟩) (Cert.AttnRun.run_out m g)
  · refine (θ_run _ _ _).mono (fun r h c => ⟨(h c).1.trans ?_, (h c).2⟩) (Cert.ReferenceIdeal.Value.run m' g')
    have hp := Cert.AttnValue.pre_read _ _ (hpre c)
    rw [Cert.ReferenceIdeal.Read.val_main_v89_eq]
    rw [(hagree c).1, (hagree c).2]
    exact (Cert.AttnValue.arr_ref m c _ _ rfl rfl hp.1 hp.2).symm

end Cert.AttnClaim

end
-- ==== Proof.Silu.lean ====
module

public import proofs.«01_k».proof.Proof.AttnSoft
public import Idealize.ShloMosaic.PureOps
public import Idealize.ShloMosaic.PureOps.Ideal
public import Mathlib.Analysis.SpecialFunctions.Trigonometric.DerivHyp

@[expose] public section

noncomputable section

namespace Cert.Silu

open Idealize.ShloMosaic

theorem half_word : (Ideal.ofBits .f32 0x3F000000#32 : EReal) = ((1 / 2 : ℝ) : EReal) := by
  simp [Ideal.ofBits, Ideal.ieee]
  rw [← EReal.coe_mul]; congr 1; norm_num

theorem one_word : (Ideal.ofBits .f32 0x3F800000#32 : EReal) = ((1 : ℝ) : EReal) := by
  simp [Ideal.ofBits, Ideal.ieee]
  try (rw [← EReal.coe_mul]; norm_num)

/-- Half of `a` plus half of `a` times the hyperbolic tangent of half of `a`, over the reals. -/
theorem real_eq (a : ℝ) : 1 / 2 * a + 1 / 2 * a * Real.tanh (1 / 2 * a) = a * (1 / (1 + Real.exp (-a))) := by
  have e1 : Real.exp (-a) = Real.exp (-(1 / 2 * a)) * Real.exp (-(1 / 2 * a)) := by
    rw [← Real.exp_add]; congr 1; ring
  have e2 : Real.exp (1 / 2 * a) * Real.exp (-(1 / 2 * a)) = 1 := by
    rw [← Real.exp_add]; simp
  rw [Real.tanh_eq_sinh_div_cosh, Real.sinh_eq, Real.cosh_eq, e1]
  have hx := Real.exp_pos (1 / 2 * a)
  have hy := Real.exp_pos (-(1 / 2 * a))
  generalize Real.exp (1 / 2 * a) = x at *
  generalize Real.exp (-(1 / 2 * a)) = y at *
  have h1 : x + y ≠ 0 := by positivity
  have h2 : 1 + y * y ≠ 0 := by positivity
  field_simp
  linear_combination (2 * a * y) * e2

/-- The two forms of the gate's nonlinearity agree at a real number. -/
theorem silu_eq (a : EReal) (h : ∃ r : ℝ, a = r) :
    ((Ideal.ofBits .f32 0x3F000000#32 : EReal) * a + (Ideal.ofBits .f32 0x3F000000#32 : EReal) * a * Ideal.tanh ((Ideal.ofBits .f32 0x3F000000#32 : EReal) * a))
      = a * Ideal.div (Ideal.ofBits .f32 0x3F800000#32) ((Ideal.ofBits .f32 0x3F800000#32 : EReal) + Ideal.exp (-a)) := by
  obtain ⟨r, rfl⟩ := h
  rw [half_word, one_word, ← EReal.coe_neg, Ideal.exp_coe, ← EReal.coe_add, ← EReal.coe_mul, Ideal.tanh_coe]
  rw [Ideal.div_coe (by positivity), ← EReal.coe_mul, ← EReal.coe_mul, ← EReal.coe_add]
  rw [real_eq r, one_mul, EReal.coe_mul]

/-- A finite sum of products of reals is real. -/
theorem dot_real {n : ℕ} (f g : Fin n → EReal) (hf : ∀ k, f k ≠ ⊤ ∧ f k ≠ ⊥) (hg : ∀ k, g k ≠ ⊤ ∧ g k ≠ ⊥) :
    ∃ r : ℝ, ∑ k, f k * g k = r := by
  refine ⟨∑ k, (f k).toReal * (g k).toReal, ?_⟩
  rw [← Cert.AttnSoft.sum_coe]
  refine Finset.sum_congr rfl fun k _ => ?_
  rw [EReal.coe_mul, EReal.coe_toReal (hf k).1 (hf k).2, EReal.coe_toReal (hg k).1 (hg k).2]

end Cert.Silu

end
-- ==== Proof.GateVal.lean ====
module

public import proofs.«01_k».proof.Proof.Gen.GateUpIdeal.Value
public import proofs.«01_k».proof.Proof.Gen.GateUpRefIdeal.Read
public import proofs.«01_k».proof.Proof.Gen.GateUp.Frame
public import proofs.«01_k».proof.Defs
public import proofs.«01_k».proof.Proof.Silu
public import proofs.«01_k».proof.Proof.AttnValue
public import Idealize.ShloMosaic.Lib.Claim
public import Idealize.ShloMosaic.Lib.Pipeline.ValueKit

@[expose] public section

set_option maxRecDepth 16384

noncomputable section

namespace Cert.GateVal

open Cert.GateUpIdeal Cert.GateUpIdeal.Gen
open Idealize.ShloMosaic Idealize.ShloMosaic.TcCoe Idealize.ShloMosaic.Tactic
open Idealize.SL.Sem

variable (m : (ℓ : Loc nD τ sig) → Buf (Elt Ideal) ℓ)

/-- The windows' block indices at every grid point. -/
theorem idx : ∀ t : Fin cfg0.N, win0_0.index t = ![t.val / 16, 0] ∧ win0_1.index t = ![0, t.val % 16] ∧ win0_2.index t = ![0, t.val % 16 + 16]
    ∧ win0_3.index t = ![1, t.val, 0] ∧ win0_4.index t = ![t.val / 16, t.val % 16] ∧ win0_5.index t = ![t.val, 0] :=
  (by decide +kernel : ∀ t : Fin grid0.N, _)

abbrev REF (X : FVec Ideal S16384x4096 .bf16) (W : FVec Ideal S4096x16384 .bf16) : FVec Ideal S16384x8192 .bf16 :=
  Cert.GateUpRefIdeal.Read.val_main_v7 (F := Ideal) X W

abbrev CAST (W : FVec Ideal S2x8192x4096 .f32) : FVec Ideal S8192x4096 .bf16 :=
  Cert.GateUpRefIdeal.Read.val_main_v10 (F := Ideal) W

/-- A gate column's products, in the block of a point and in the whole array. -/
theorem gate (c : Dev nD) (t : Fin cfg0.N) (y : S1024x512.Idx) :
    (matmul (F := Ideal) (φ₁ := .bf16) (φ₂ := .bf16) dot_S1024x4096_S4096x512_S1024x512_1_0_0_1_n_n none (iblk m c 0 t : Vec Ideal S1024x4096 .bf16) (iblk m c 1 t : Vec Ideal S4096x512 .bf16) (constant S1024x512 .f32 0x00000000#32) y : EReal)
      = Cert.GateUpRefIdeal.Read.val_main_v3 (F := Ideal) (m ((c : Thread nD τ).loc main_arg0)) (m ((c : Thread nD τ).loc main_arg1)) (((cfg0.win 4).blk t).view.emb y) := by
  unfold Cert.GateUpRefIdeal.Read.val_main_v3 Cert.GateUpRefIdeal.Read.val_main_v2 Cert.GateUpRefIdeal.Read.val_main_v1 Cert.GateUpRefIdeal.Read.val_main_v0
  pointwise
  blk_point [iblk, V, idx t]

/-- An up column's products, in the block of a point and in the whole array. -/
theorem up (c : Dev nD) (t : Fin cfg0.N) (y : S1024x512.Idx) :
    (matmul (F := Ideal) (φ₁ := .bf16) (φ₂ := .bf16) dot_S1024x4096_S4096x512_S1024x512_1_0_0_1_n_n none (iblk m c 0 t : Vec Ideal S1024x4096 .bf16) (iblk m c 2 t : Vec Ideal S4096x512 .bf16) (constant S1024x512 .f32 0x00000000#32) y : EReal)
      = Cert.GateUpRefIdeal.Read.val_main_v4 (F := Ideal) (m ((c : Thread nD τ).loc main_arg0)) (m ((c : Thread nD τ).loc main_arg1)) (((cfg0.win 4).blk t).view.emb y) := by
  unfold Cert.GateUpRefIdeal.Read.val_main_v4 Cert.GateUpRefIdeal.Read.val_main_v2 Cert.GateUpRefIdeal.Read.val_main_v1 Cert.GateUpRefIdeal.Read.val_main_v0
  pointwise
  blk_point [iblk, V, idx t]

/-- What the two arrays must be: real in the entries the gate reads. -/
def Fin' (X : FVec Ideal S16384x4096 .bf16) (W : FVec Ideal S4096x16384 .bf16) : Prop :=
  (∀ i, X i ≠ ⊤ ∧ X i ≠ ⊥) ∧ ∀ (k : Fin 4096) (j : Fin 16384), j.val < 8192 → W (ix2 k j) ≠ ⊤ ∧ W (ix2 k j) ≠ ⊥

theorem gate_real (X : FVec Ideal S16384x4096 .bf16) (W : FVec Ideal S4096x16384 .bf16) (h : Fin' X W) (i : S16384x8192.Idx) :
    ∃ r : ℝ, Cert.GateUpRefIdeal.Read.val_main_v3 (F := Ideal) X W i = r := by
  rw [Cert.GateUpRefIdeal.Read.val_main_v3_apply, Cert.GateUpRefIdeal.Read.val_main_v2_apply]
  refine Cert.Silu.dot_real (fun k => X (Cert.GateUpRefIdeal.Read.lidx_main_v2 (Cert.GateUpRefIdeal.Read.idx_main_v3 i) k)) (fun k => W (Cert.GateUpRefIdeal.Read.ridx_main_v2 (Cert.GateUpRefIdeal.Read.idx_main_v3 i) k)) (fun k => h.1 _) (fun k => ?_)
  have h1 : (i 1).val < 8192 := (i 1).isLt
  have e : Cert.GateUpRefIdeal.Read.ridx_main_v2 (Cert.GateUpRefIdeal.Read.idx_main_v3 i) k = ix2 k (⟨(i 1).val, by omega⟩ : Fin 16384) := by
    funext a
    fin_cases a <;> (apply Fin.ext; simp [Cert.GateUpRefIdeal.Read.ridx_main_v2, Cert.GateUpRefIdeal.Read.idx_main_v3, ix2])
  show W _ ≠ ⊤ ∧ W _ ≠ ⊥
  rw [e]
  exact h.2 k _ h1

theorem point (c : Dev nD) (t : Fin cfg0.N) (y : S1024x512.Idx)
    (h : Fin' (m ((c : Thread nD τ).loc main_arg0)) (m ((c : Thread nD τ).loc main_arg1))) :
    k0_pay2 (F := Ideal) (iblk m c 0 t) (iblk m c 1 t) (iblk m c 2 t) y = REF (m ((c : Thread nD τ).loc main_arg0)) (m ((c : Thread nD τ).loc main_arg1)) (((cfg0.win 4).blk t).view.emb y) := by
  have hg := gate m c t y
  have hb := up m c t y
  have hr := gate_real _ _ h (((cfg0.win 4).blk t).view.emb y)
  have hs := Cert.Silu.silu_eq _ hr
  refine Eq.trans (b := (_ : EReal) * _) ?_ (congrArg (fun z : EReal => z * Cert.GateUpRefIdeal.Read.val_main_v4 (F := Ideal) (m ((c : Thread nD τ).loc main_arg0)) (m ((c : Thread nD τ).loc main_arg1)) (((cfg0.win 4).blk t).view.emb y)) hs)
  rw [← hg, ← hb]
  rfl

theorem final (c : Dev nD) (h : Fin' (m ((c : Thread nD τ).loc main_arg0)) (m ((c : Thread nD τ).loc main_arg1))) :
    (dats (F := Ideal) m 0 c).arrAt 4 cfg0.N = REF (m ((c : Thread nD τ).loc main_arg0)) (m ((c : Thread nD τ).loc main_arg1)) := by
  refine (dats m 0 c).arrAt_eq_of_covers 4 _ (by decide +kernel) fun t _ y => ?_
  blk_simp
  rw [after0_4]; frame_out
  exact point m c t y h

theorem cast_point (c : Dev nD) (t : Fin cfg0.N) (y : S32x4096.Idx) :
    k0_pay1 (F := Ideal) (iblk m c 3 t) y = CAST (m ((c : Thread nD τ).loc main_arg2)) (((cfg0.win 5).blk t).view.emb y) := by
  unfold CAST Cert.GateUpRefIdeal.Read.val_main_v10 Cert.GateUpRefIdeal.Read.val_main_v9 Cert.GateUpRefIdeal.Read.val_main_v8
  pointwise [k0_pay1]
  blk_point [iblk, V, idx t]

theorem cast_final (c : Dev nD) :
    (dats (F := Ideal) m 0 c).arrAt 5 cfg0.N = CAST (m ((c : Thread nD τ).loc main_arg2)) := by
  refine (dats m 0 c).arrAt_eq_of_covers 5 _ (by decide +kernel) fun t _ y => ?_
  blk_simp
  rw [after0_5]; frame_out
  exact cast_point m c t y

/-- The stated shape facts of the precondition. -/
instance preFacts : Cert.Pre_finite_u_and_gate_columns.Facts where
  bitsLt_bf16_f32 := by decide
  bcast_S_S16384x4096 := by decide
  slices_S4096x16384_S4096x8192_0_0 := by decide
  bcast_S_S4096x8192 := by decide
  reducesTo_S16384x4096_S_d0_1 := by decide
  h_S_ := by decide
  reducesTo_S4096x8192_S_d0_1 := by decide

/-- What the precondition says of the arrays. -/
theorem pre_read (X : FVec Ideal S16384x4096 .bf16) (W : FVec Ideal S4096x16384 .bf16) (D : FVec Ideal S2x8192x4096 .f32)
    (h : Cert.Pre_finite_u_and_gate_columns.fn (F := Ideal) X W D = fun _ => 1#1) : Fin' X W := by
  have h' := congrFun h (fun a => a.elim0)
  unfold Cert.Pre_finite_u_and_gate_columns.fn at h'
  dsimp only at h'
  have hh := IntOp.andi_eq_one.1 h'
  constructor
  · intro i
    have b := Cert.AttnValue.lt_of_cmp _ _ (Host.reduce_andi_all _ _ _ _ _ hh.1 i)
    have c : (Host.absf (extf (F := Ideal) .f32 X Cert.Pre_finite_u_and_gate_columns.Facts.bitsLt_bf16_f32) i : EReal) = max (X i) (-(X i)) := by
      pointwise
      rfl
    have c' : (broadcastInDim Cert.Pre_finite_u_and_gate_columns.S16384x4096 ![] Cert.Pre_finite_u_and_gate_columns.Facts.bcast_S_S16384x4096 (constant (F := Ideal) Cert.Pre_finite_u_and_gate_columns.S_ .f32 0x7F800000#32) i : EReal) = ⊤ := by
      pointwise
      exact Cert.AttnValue.inf_word
    rw [c, c', max_lt_iff] at b
    refine ⟨b.1.ne, fun q => ?_⟩
    rw [q, EReal.neg_bot] at b
    exact b.2.ne rfl
  · intro k j hj
    have b := Cert.AttnValue.lt_of_cmp _ _ (Host.reduce_andi_all _ _ _ _ _ hh.2 (ix2 k ⟨j.val, hj⟩ : Cert.Pre_finite_u_and_gate_columns.S4096x8192.Idx))
    have c : (Host.absf (extf (F := Ideal) .f32 (extractStridedSlice Cert.Pre_finite_u_and_gate_columns.S4096x8192 ![0, 0] W Cert.Pre_finite_u_and_gate_columns.Facts.slices_S4096x16384_S4096x8192_0_0) Cert.Pre_finite_u_and_gate_columns.Facts.bitsLt_bf16_f32) (ix2 k ⟨j.val, hj⟩ : Cert.Pre_finite_u_and_gate_columns.S4096x8192.Idx) : EReal) = max (W (ix2 k j)) (-(W (ix2 k j))) := by
      pointwise
      rfl
    have c' : (broadcastInDim Cert.Pre_finite_u_and_gate_columns.S4096x8192 ![] Cert.Pre_finite_u_and_gate_columns.Facts.bcast_S_S4096x8192 (constant (F := Ideal) Cert.Pre_finite_u_and_gate_columns.S_ .f32 0x7F800000#32) (ix2 k ⟨j.val, hj⟩ : Cert.Pre_finite_u_and_gate_columns.S4096x8192.Idx) : EReal) = ⊤ := by
      pointwise
      exact Cert.AttnValue.inf_word
    rw [c, c', max_lt_iff] at b
    refine ⟨b.1.ne, fun q => ?_⟩
    rw [q, EReal.neg_bot] at b
    exact b.2.ne rfl

theorem frame_kernel : Cert.quiescent_GateUp := fun m ρ _ => Cert.GateUp.Gen.frame m ρ

theorem frame_ideal : Cert.quiescent_GateUpIdeal := fun m ρ _ => Cert.GateUpIdeal.Gen.frame m ρ

theorem frame_ideal_pre : Cert.quiescent_GateUpIdeal_pre_finite_u_and_gate_columns := fun m ρ _ => Cert.GateUpIdeal.Gen.frame m ρ

theorem frame_reference : Cert.quiescent_GateUpRefIdeal := fun m ρ _ =>
  (θ_run _ _ _).mono (fun r h => ⟨fun c => (h c).2.2, Idealize.ShloMosaic.sem_eq_zero_of_no_sems (by decide) r.2⟩)
    (Cert.GateUpRefIdeal.Value.run m ρ)

theorem frame_reference_pre : Cert.quiescent_GateUpRefIdeal_pre_finite_u_and_gate_columns := fun m g _ => frame_reference m g trivial

theorem algebraic : Cert.algebraic_GateUpIdeal_GateUpRefIdeal_pre_finite_u_and_gate_columns := by
  intro m g m' g' hpre hagree
  refine ⟨fun c => REF (m ((c : Thread nD τ).loc main_arg0)) (m ((c : Thread nD τ).loc main_arg1)), fun c => CAST (m ((c : Thread nD τ).loc main_arg2)), ?_, ?_⟩
  · exact (θ_run _ _ _).mono (fun r h c => ⟨(h c).1.trans (final m c (pre_read _ _ _ (hpre c))), (h c).2.1.trans (cast_final m c), (h c).2.2⟩) (Cert.GateUpIdeal.Value.run_blocks m g)
  · refine (θ_run _ _ _).mono (fun r h c => ⟨(h c).1.trans ?_, (h c).2.1.trans ?_, (h c).2.2⟩) (Cert.GateUpRefIdeal.Value.run m' g')
    · rw [(hagree c).1, (hagree c).2.1]
      exact Cert.GateUpRefIdeal.Read.val_main_v7_eq _ _
    · rw [(hagree c).2.2]
      exact Cert.GateUpRefIdeal.Read.val_main_v10_eq _

end Cert.GateVal

end
-- ==== Proof.DownVal.lean ====
module

public import proofs.«01_k».proof.Proof.Gen.DownIdeal.Frame
public import proofs.«01_k».proof.Proof.Gen.DownRefIdeal.Read
public import proofs.«01_k».proof.Proof.Gen.Down.Frame
public import proofs.«01_k».proof.Proof.AttnValue
public import proofs.«01_k».proof.Proof.Silu
public import proofs.«01_k».proof.Defs
public import Idealize.ShloMosaic.Lib.Claim
public import Idealize.ShloMosaic.Lib.Pipeline.ValueKit

@[expose] public section

set_option maxRecDepth 16384

noncomputable section

namespace Cert.DownVal

open Cert.DownIdeal Cert.DownIdeal.Gen
open Idealize.ShloMosaic Idealize.ShloMosaic.TcCoe Idealize.ShloMosaic.Tactic
open Idealize.SL.Sem Idealize.SL.BI
open Idealize.ShloMosaic.Pipeline (Dat)

/-- The word of one half. -/
abbrev hw : EReal := Ideal.ofBits .f32 0x3F000000#32

/-- What one call adds to the residual stream: the gated product over one half of the contraction. -/
def step (o : Fin 2) (X : FVec Ideal S16384x8192 .bf16) (W : FVec Ideal S8192x4096 .bf16) (H : FVec Ideal S16384x4096 .f32) (G : FVec Ideal S2x1x4096 .f32) (i : Fin 16384) (j : Fin 4096) : EReal :=
  H (ix2 i j) + (hw * G (ix3 (⟨i.val / 8192, by omega⟩ : Fin 2) (0 : Fin 1) j)) * ∑ k : Fin 4096, X (ix2 i (⟨o.val * 4096 + k.val, by omega⟩ : Fin 8192)) * W (ix2 (⟨o.val * 4096 + k.val, by omega⟩ : Fin 8192) j)

def stepv (o : Fin 2) (X : FVec Ideal S16384x8192 .bf16) (W : FVec Ideal S8192x4096 .bf16) (H : FVec Ideal S16384x4096 .f32) (G : FVec Ideal S2x1x4096 .f32) : FVec Ideal S16384x4096 .f32 :=
  fun i => step o X W H G (i 0) (i 1)

theorem eta2 {a b : ℕ} (y : (⟨2, ![a, b]⟩ : Shape).Idx) : y = ix2 (n0 := a) (n1 := b) (y 0) (y 1) := by
  funext k
  fin_cases k <;> rfl

theorem eta3 {a b d : ℕ} (y : (⟨3, ![a, b, d]⟩ : Shape).Idx) : y = ix3 (n0 := a) (n1 := b) (n2 := d) (y 0) (y 1) (y 2) := by
  funext k
  fin_cases k <;> rfl

section Values

variable (V : (c : Dev nD) → (b : Ref sig .tc) → Buf (Elt Ideal) ((c : Thread nD τ).loc b))

/-- The windows' block indices at every grid point of call 0. -/
theorem idx0 : ∀ t : Fin cfg0.N, win0_0.index t = ![t.val / 4, 0] ∧ win0_1.index t = ![0, t.val % 4] ∧ win0_2.index t = ![t.val / 4, t.val % 4]
    ∧ win0_3.index t = ![t.val / 32, 0, t.val % 4] ∧ win0_4.index t = ![t.val / 4, t.val % 4] :=
  (by decide +kernel : ∀ t : Fin grid0.N, _)

/-- The body's value at an index of its block, in call 0. -/
theorem pay0 (x : FVec Ideal S1024x4096 .bf16) (w : FVec Ideal S4096x1024 .bf16) (h : FVec Ideal S1024x1024 .f32) (g : FVec Ideal S1x1x1024 .f32) (y : S1024x1024.Idx) :
    (k0_pay1 (F := Ideal) x w h g y : EReal) = h y + (hw * g (ix3 0 0 (y 1))) * ∑ k : Fin 4096, x (ix2 (y 0) k) * w (ix2 k (y 1)) := by
  pointwise [k0_pay1]

theorem blk0_0 (c : Dev nD) (t : Fin cfg0.N) (r : Fin 1024) (k : Fin 4096) :
    (iblk0 V c 0 t : Vec Ideal S1024x4096 .bf16) (ix2 r k) = (V c main_arg0 : FVec Ideal S16384x8192 .bf16) (ix2 (⟨t.val / 4 * 1024 + r.val, by have h : t.val < 64 := t.isLt; omega⟩ : Fin 16384) (⟨0 * 4096 + k.val, by omega⟩ : Fin 8192)) := by
  blk_point [iblk0, idx0 t]

theorem blk0_1 (c : Dev nD) (t : Fin cfg0.N) (k : Fin 4096) (j : Fin 1024) :
    (iblk0 V c 1 t : Vec Ideal S4096x1024 .bf16) (ix2 k j) = (V c main_arg1 : FVec Ideal S8192x4096 .bf16) (ix2 (⟨0 * 4096 + k.val, by omega⟩ : Fin 8192) (⟨t.val % 4 * 1024 + j.val, by omega⟩ : Fin 4096)) := by
  blk_point [iblk0, idx0 t]

theorem blk0_2 (c : Dev nD) (t : Fin cfg0.N) (r : Fin 1024) (j : Fin 1024) :
    (iblk0 V c 2 t : Vec Ideal S1024x1024 .f32) (ix2 r j) = (V c main_arg2 : FVec Ideal S16384x4096 .f32) (ix2 (⟨t.val / 4 * 1024 + r.val, by have h : t.val < 64 := t.isLt; omega⟩ : Fin 16384) (⟨t.val % 4 * 1024 + j.val, by omega⟩ : Fin 4096)) := by
  blk_point [iblk0, idx0 t]

theorem blk0_3 (c : Dev nD) (t : Fin cfg0.N) (j : Fin 1024) :
    (iblk0 V c 3 t : Vec Ideal S1x1x1024 .f32) (ix3 0 0 j) = (V c main_v1 : FVec Ideal S2x1x4096 .f32) (ix3 (⟨t.val / 32, by have h : t.val < 64 := t.isLt; omega⟩ : Fin 2) (0 : Fin 1) (⟨t.val % 4 * 1024 + j.val, by omega⟩ : Fin 4096)) := by
  blk_point [iblk0, idx0 t]

theorem emb0 (t : Fin cfg0.N) (r j : Fin 1024) :
    ((cfg0.win 4).blk t).view.emb (ix2 r j : S1024x1024.Idx) = (ix2 (⟨t.val / 4 * 1024 + r.val, by have h : t.val < 64 := t.isLt; omega⟩ : Fin 16384) (⟨t.val % 4 * 1024 + j.val, by omega⟩ : Fin 4096) : S16384x4096.Idx) := by
  blk_point [idx0 t]

theorem point0 (c : Dev nD) (t : Fin cfg0.N) (y : S1024x1024.Idx) :
    k0_pay1 (F := Ideal) (iblk0 V c 0 t) (iblk0 V c 1 t) (iblk0 V c 2 t) (iblk0 V c 3 t) y
      = stepv 0 (V c main_arg0) (V c main_arg1) (V c main_arg2) (V c main_v1) (((cfg0.win 4).blk t).view.emb y) := by
  obtain ⟨r, j, rfl⟩ : ∃ r j : Fin 1024, y = ix2 r j := ⟨y 0, y 1, eta2 y⟩
  rw [emb0]
  refine (pay0 _ _ _ _ _).trans ?_
  have h : t.val < 64 := t.isLt
  refine congrArg₂ (fun a b : EReal => a + b) (blk0_2 V c t r j) (congrArg₂ (fun a b : EReal => a * b) (congrArg (fun a : EReal => hw * a) ?_) (Finset.sum_congr rfl fun k _ => congrArg₂ (fun a b : EReal => a * b) (blk0_0 V c t r k) (blk0_1 V c t k j)))
  refine (blk0_3 V c t j).trans ?_
  have e : (⟨t.val / 32, by omega⟩ : Fin 2) = ⟨(t.val / 4 * 1024 + r.val) / 8192, by omega⟩ := Fin.ext (by show t.val / 32 = (t.val / 4 * 1024 + r.val) / 8192; omega)
  rw [e]
  rfl

theorem final0 (c : Dev nD) :
    (dat0 (F := Ideal) V c).arrAt 4 cfg0.N = stepv 0 (V c main_arg0) (V c main_arg1) (V c main_arg2) (V c main_v1) := by
  refine (dat0 V c).arrAt_eq_of_covers 4 _ (by decide +kernel) fun t _ y => ?_
  blk_simp
  rw [after0_4]; frame_out
  exact point0 V c t y

/-- The windows' block indices at every grid point of call 1. -/
theorem idx1 : ∀ t : Fin cfg1.N, win1_0.index t = ![t.val / 4, 1] ∧ win1_1.index t = ![1, t.val % 4] ∧ win1_2.index t = ![t.val / 4, t.val % 4]
    ∧ win1_3.index t = ![t.val / 32, 0, t.val % 4] ∧ win1_4.index t = ![t.val / 4, t.val % 4] :=
  (by decide +kernel : ∀ t : Fin grid1.N, _)

/-- The body's value at an index of its block, in call 1. -/
theorem pay1 (x : FVec Ideal S1024x4096 .bf16) (w : FVec Ideal S4096x1024 .bf16) (h : FVec Ideal S1024x1024 .f32) (g : FVec Ideal S1x1x1024 .f32) (y : S1024x1024.Idx) :
    (k1_pay1 (F := Ideal) x w h g y : EReal) = h y + (hw * g (ix3 0 0 (y 1))) * ∑ k : Fin 4096, x (ix2 (y 0) k) * w (ix2 k (y 1)) := by
  pointwise [k1_pay1]

theorem blk1_0 (c : Dev nD) (t : Fin cfg1.N) (r : Fin 1024) (k : Fin 4096) :
    (iblk1 V c 0 t : Vec Ideal S1024x4096 .bf16) (ix2 r k) = (V c main_arg0 : FVec Ideal S16384x8192 .bf16) (ix2 (⟨t.val / 4 * 1024 + r.val, by have h : t.val < 64 := t.isLt; omega⟩ : Fin 16384) (⟨1 * 4096 + k.val, by omega⟩ : Fin 8192)) := by
  blk_point [iblk1, idx1 t]

theorem blk1_1 (c : Dev nD) (t : Fin cfg1.N) (k : Fin 4096) (j : Fin 1024) :
    (iblk1 V c 1 t : Vec Ideal S4096x1024 .bf16) (ix2 k j) = (V c main_arg1 : FVec Ideal S8192x4096 .bf16) (ix2 (⟨1 * 4096 + k.val, by omega⟩ : Fin 8192) (⟨t.val % 4 * 1024 + j.val, by omega⟩ : Fin 4096)) := by
  blk_point [iblk1, idx1 t]

theorem blk1_2 (c : Dev nD) (t : Fin cfg1.N) (r : Fin 1024) (j : Fin 1024) :
    (iblk1 V c 2 t : Vec Ideal S1024x1024 .f32) (ix2 r j) = (V c main_v2 : FVec Ideal S16384x4096 .f32) (ix2 (⟨t.val / 4 * 1024 + r.val, by have h : t.val < 64 := t.isLt; omega⟩ : Fin 16384) (⟨t.val % 4 * 1024 + j.val, by omega⟩ : Fin 4096)) := by
  blk_point [iblk1, idx1 t]

theorem blk1_3 (c : Dev nD) (t : Fin cfg1.N) (j : Fin 1024) :
    (iblk1 V c 3 t : Vec Ideal S1x1x1024 .f32) (ix3 0 0 j) = (V c main_v1 : FVec Ideal S2x1x4096 .f32) (ix3 (⟨t.val / 32, by have h : t.val < 64 := t.isLt; omega⟩ : Fin 2) (0 : Fin 1) (⟨t.val % 4 * 1024 + j.val, by omega⟩ : Fin 4096)) := by
  blk_point [iblk1, idx1 t]

theorem emb1 (t : Fin cfg1.N) (r j : Fin 1024) :
    ((cfg1.win 4).blk t).view.emb (ix2 r j : S1024x1024.Idx) = (ix2 (⟨t.val / 4 * 1024 + r.val, by have h : t.val < 64 := t.isLt; omega⟩ : Fin 16384) (⟨t.val % 4 * 1024 + j.val, by omega⟩ : Fin 4096) : S16384x4096.Idx) := by
  blk_point [idx1 t]

theorem point1 (c : Dev nD) (t : Fin cfg1.N) (y : S1024x1024.Idx) :
    k1_pay1 (F := Ideal) (iblk1 V c 0 t) (iblk1 V c 1 t) (iblk1 V c 2 t) (iblk1 V c 3 t) y
      = stepv 1 (V c main_arg0) (V c main_arg1) (V c main_v2) (V c main_v1) (((cfg1.win 4).blk t).view.emb y) := by
  obtain ⟨r, j, rfl⟩ : ∃ r j : Fin 1024, y = ix2 r j := ⟨y 0, y 1, eta2 y⟩
  rw [emb1]
  refine (pay1 _ _ _ _ _).trans ?_
  have h : t.val < 64 := t.isLt
  refine congrArg₂ (fun a b : EReal => a + b) (blk1_2 V c t r j) (congrArg₂ (fun a b : EReal => a * b) (congrArg (fun a : EReal => hw * a) ?_) (Finset.sum_congr rfl fun k _ => congrArg₂ (fun a b : EReal => a * b) (blk1_0 V c t r k) (blk1_1 V c t k j)))
  refine (blk1_3 V c t j).trans ?_
  have e : (⟨t.val / 32, by omega⟩ : Fin 2) = ⟨(t.val / 4 * 1024 + r.val) / 8192, by omega⟩ := Fin.ext (by show t.val / 32 = (t.val / 4 * 1024 + r.val) / 8192; omega)
  rw [e]
  rfl

theorem final1 (c : Dev nD) :
    (dat1 (F := Ideal) V c).arrAt 4 cfg1.N = stepv 1 (V c main_arg0) (V c main_arg1) (V c main_v2) (V c main_v1) := by
  refine (dat1 V c).arrAt_eq_of_covers 4 _ (by decide +kernel) fun t _ y => ?_
  blk_simp
  rw [after1_4]; frame_out
  exact point1 V c t y

end Values

variable (m : (ℓ : Loc nD τ sig) → Buf (Elt Ideal) ℓ) (ρ : Dev nD → PrngReg)

/-- The gate rows the host lays out for the calls. -/
theorem gate_rows (c : Dev nD) (b : Fin 2) (j : Fin 4096) :
    (W1 m ρ c (Proc.devRef .tc main_v1) : FVec Ideal S2x1x4096 .f32) (ix3 b (0 : Fin 1) j) = (m ((c : Thread nD τ).loc main_arg3) : FVec Ideal S8x36864 .f32) (ix2 (⟨b.val, by omega⟩ : Fin 8) (⟨32768 + j.val, by omega⟩ : Fin 36864)) := by
  show (StableHlo.after hostOps0 (W0 m ρ c) (Proc.devRef .tc main_v1) : FVec Ideal S2x1x4096 .f32) (ix3 b (0 : Fin 1) j) = _
  entry_read
  pointwise

/-- The gate rows as an array. -/
abbrev G (c : Dev nD) : FVec Ideal S2x1x4096 .f32 := W1 m ρ c (Proc.devRef .tc main_v1)

/-- What the first call leaves. -/
theorem first (c : Dev nD) : V2 m ρ c main_v2
    = stepv 0 (m ((c : Thread nD τ).loc main_arg0)) (m ((c : Thread nD τ).loc main_arg1)) (m ((c : Thread nD τ).loc main_arg2)) (G m ρ c) := by
  refine (W2_arr m ρ c 4).trans ((final0 (V1 m ρ) c).trans ?_)
  rw [show V1 m ρ c main_arg0 = m ((c : Thread nD τ).loc main_arg0) from W1_args m ρ c main_arg0 (by decide),
    show V1 m ρ c main_arg1 = m ((c : Thread nD τ).loc main_arg1) from W1_args m ρ c main_arg1 (by decide),
    show V1 m ρ c main_arg2 = m ((c : Thread nD τ).loc main_arg2) from W1_args m ρ c main_arg2 (by decide)]

/-- What the second call leaves. -/
theorem second (c : Dev nD) : W3 m ρ c (Proc.devRef .tc main_v3)
    = stepv 1 (m ((c : Thread nD τ).loc main_arg0)) (m ((c : Thread nD τ).loc main_arg1))
        (stepv 0 (m ((c : Thread nD τ).loc main_arg0)) (m ((c : Thread nD τ).loc main_arg1)) (m ((c : Thread nD τ).loc main_arg2)) (G m ρ c)) (G m ρ c) := by
  refine (W3_arr m ρ c 4).trans ((final1 (V2 m ρ) c).trans ?_)
  rw [first m ρ c, show V2 m ρ c main_arg0 = m ((c : Thread nD τ).loc main_arg0) from W2_args m ρ c main_arg0 (by decide),
    show V2 m ρ c main_arg1 = m ((c : Thread nD τ).loc main_arg1) from W2_args m ρ c main_arg1 (by decide),
    show V2 m ρ c main_v1 = G m ρ c from W2_of m ρ c main_v1 (by decide)]

/-- The result's array, index by index. -/
theorem result (c : Dev nD) (b : Fin 2) (s : Fin 8192) (j : Fin 4096) :
    (W4 m ρ c (Proc.devRef .tc main_v4) : FVec Ideal S2x8192x4096 .f32) (ix3 b s j)
      = (W3 m ρ c (Proc.devRef .tc main_v3) : FVec Ideal S16384x4096 .f32) (ix2 (⟨b.val * 8192 + s.val, by omega⟩ : Fin 16384) j) := by
  show (StableHlo.after hostOps2 (W3 m ρ c) (Proc.devRef .tc main_v4) : FVec Ideal S2x8192x4096 .f32) (ix3 b s j) = _
  entry_read
  pointwise

abbrev REF (X : FVec Ideal S16384x8192 .bf16) (W : FVec Ideal S8192x4096 .bf16) (H : FVec Ideal S16384x4096 .f32) (M : FVec Ideal S8x36864 .f32) : FVec Ideal S2x8192x4096 .f32 :=
  Cert.DownRefIdeal.Read.val_main_v14 (F := Ideal) X W H M

/-- The reference at an index: the residual plus half the gate times the product. -/
theorem ref_apply (X : FVec Ideal S16384x8192 .bf16) (W : FVec Ideal S8192x4096 .bf16) (H : FVec Ideal S16384x4096 .f32) (M : FVec Ideal S8x36864 .f32) (b : Fin 2) (s : Fin 8192) (j : Fin 4096) :
    (REF X W H M (ix3 b s j) : EReal) = H (ix2 (⟨b.val * 8192 + s.val, by omega⟩ : Fin 16384) j) + (hw * M (ix2 (⟨b.val, by omega⟩ : Fin 8) (⟨32768 + j.val, by omega⟩ : Fin 36864))) * ∑ k : Fin 8192, X (ix2 (⟨b.val * 8192 + s.val, by omega⟩ : Fin 16384) k) * W (ix2 k j) := by
  have e8 : Cert.DownRefIdeal.Read.idx_main_v8 (ix3 b s j) = ix2 (⟨b.val * 8192 + s.val, by omega⟩ : Fin 16384) j := by
    have h0 := b.isLt
    have h1 := s.isLt
    have h2 := j.isLt
    funext a
    fin_cases a <;> (apply Fin.ext; simp [Cert.DownRefIdeal.Read.idx_main_v8, ix2, ix3]) <;> omega
  unfold REF
  rw [Cert.DownRefIdeal.Read.val_main_v14_apply, Cert.DownRefIdeal.Read.val_main_v13_apply, Cert.DownRefIdeal.Read.val_main_v8_apply, Cert.DownRefIdeal.Read.val_main_v7_apply, e8,
    show Cert.DownRefIdeal.Read.idx_main_v7 (ix3 b s j) = ix2 (⟨b.val * 8192 + s.val, by omega⟩ : Fin 16384) j from e8,
    Cert.DownRefIdeal.Read.val_main_v6_apply, Cert.DownRefIdeal.Read.val_main_v12_apply, Cert.DownRefIdeal.Read.val_main_v11_apply, Cert.DownRefIdeal.Read.val_main_v10_apply, Cert.DownRefIdeal.Read.val_main_cst_apply, Cert.DownRefIdeal.Read.val_main_v9_apply, Cert.DownRefIdeal.Read.val_main_v3_apply, Cert.DownRefIdeal.Read.val_main_v2_apply, Cert.DownRefIdeal.Read.val_main_v1_apply, Cert.DownRefIdeal.Read.val_main_v0_apply]
  have eM : Cert.DownRefIdeal.Read.idx_main_v0 (Cert.DownRefIdeal.Read.idx_main_v1 (Cert.DownRefIdeal.Read.idx_main_v2 (Cert.DownRefIdeal.Read.idx_main_v3 (Cert.DownRefIdeal.Read.idx_main_v9 (Cert.DownRefIdeal.Read.idx_main_v12 (ix3 b s j)))))) = ix2 (⟨b.val, by omega⟩ : Fin 8) (⟨32768 + j.val, by omega⟩ : Fin 36864) := by
    have h0 := b.isLt
    have h1 := j.isLt
    funext a
    fin_cases a <;> (apply Fin.ext; simp [Cert.DownRefIdeal.Read.idx_main_v0, Cert.DownRefIdeal.Read.idx_main_v1, Cert.DownRefIdeal.Read.idx_main_v2, Cert.DownRefIdeal.Read.idx_main_v3, Cert.DownRefIdeal.Read.idx_main_v9, Cert.DownRefIdeal.Read.idx_main_v12, ix2, ix3]) <;> omega
  rw [eM]
  have eL : ∀ (i : Fin 16384) (k : Fin 8192), Cert.DownRefIdeal.Read.lidx_main_v6 (ix2 i j) k = ix2 i k := fun i k => by
    funext a
    fin_cases a <;> (apply Fin.ext; simp [Cert.DownRefIdeal.Read.lidx_main_v6, ix2])
  have eR : ∀ (i : Fin 16384) (k : Fin 8192), Cert.DownRefIdeal.Read.ridx_main_v6 (ix2 i j) k = ix2 k j := fun i k => by
    funext a
    fin_cases a <;> (apply Fin.ext; simp [Cert.DownRefIdeal.Read.ridx_main_v6, ix2])
  simp only [eL, eR]
  rfl

/-- What the arrays must be: real in the entries the product and the gate read. -/
def Fin' (X : FVec Ideal S16384x8192 .bf16) (W : FVec Ideal S8192x4096 .bf16) (M : FVec Ideal S8x36864 .f32) : Prop :=
  (∀ i, X i ≠ ⊤ ∧ X i ≠ ⊥) ∧ (∀ i, W i ≠ ⊤ ∧ W i ≠ ⊥)
    ∧ ∀ (b : Fin 2) (j : Fin 4096), M (ix2 (⟨b.val, by omega⟩ : Fin 8) (⟨32768 + j.val, by omega⟩ : Fin 36864)) ≠ ⊤ ∧ M (ix2 (⟨b.val, by omega⟩ : Fin 8) (⟨32768 + j.val, by omega⟩ : Fin 36864)) ≠ ⊥

/-- A sum over the whole contraction is the sum over its two halves. -/
theorem halves (f : Fin 8192 → EReal) :
    ∑ k, f k = (∑ k : Fin 4096, f (⟨0 * 4096 + k.val, by omega⟩)) + ∑ k : Fin 4096, f (⟨1 * 4096 + k.val, by omega⟩) := by
  refine (Fin.sum_univ_add (a := 4096) (b := 4096) f).trans ?_
  refine congrArg₂ (fun a b : EReal => a + b) (Finset.sum_congr rfl fun k _ => congrArg f (Fin.ext ?_)) (Finset.sum_congr rfl fun k _ => congrArg f (Fin.ext ?_))
  · show k.val = 0 * 4096 + k.val
    omega
  · show 4096 + k.val = 1 * 4096 + k.val
    omega

/-- Adding two real multiples one after the other is adding the multiple of the sum. -/
theorem join (h q a b : EReal) (hq : ∃ r : ℝ, q = r) (ha : ∃ r : ℝ, a = r) (hb : ∃ r : ℝ, b = r) :
    h + q * a + q * b = h + q * (a + b) := by
  obtain ⟨q, rfl⟩ := hq
  obtain ⟨a, rfl⟩ := ha
  obtain ⟨b, rfl⟩ := hb
  rw [add_assoc, ← EReal.coe_mul, ← EReal.coe_mul, ← EReal.coe_add, ← EReal.coe_add, ← EReal.coe_mul, mul_add]

theorem half_word : hw = ((1 / 2 : ℝ) : EReal) := Cert.Silu.half_word

theorem value (c : Dev nD) (h : Fin' (m ((c : Thread nD τ).loc main_arg0)) (m ((c : Thread nD τ).loc main_arg1)) (m ((c : Thread nD τ).loc main_arg3))) :
    W4 m ρ c (Proc.devRef .tc main_v4) = REF (m ((c : Thread nD τ).loc main_arg0)) (m ((c : Thread nD τ).loc main_arg1)) (m ((c : Thread nD τ).loc main_arg2)) (m ((c : Thread nD τ).loc main_arg3)) := by
  funext y
  obtain ⟨b, s, j, rfl⟩ : ∃ (b : Fin 2) (s : Fin 8192) (j : Fin 4096), y = ix3 b s j := ⟨y 0, y 1, y 2, eta3 y⟩
  refine (result m ρ c b s j).trans ((congrFun (second m ρ c) _).trans ((ref_apply _ _ _ _ b s j).trans ?_).symm)
  have hg : G m ρ c (ix3 (⟨(b.val * 8192 + s.val) / 8192, by omega⟩ : Fin 2) (0 : Fin 1) j) = (m ((c : Thread nD τ).loc main_arg3) : FVec Ideal S8x36864 .f32) (ix2 (⟨b.val, by omega⟩ : Fin 8) (⟨32768 + j.val, by omega⟩ : Fin 36864)) := by
    have e : (⟨(b.val * 8192 + s.val) / 8192, by omega⟩ : Fin 2) = b := Fin.ext (by show (b.val * 8192 + s.val) / 8192 = b.val; omega)
    rw [e]
    exact gate_rows m ρ c b j
  refine Eq.trans ?_ (show _ = step 1 _ _ (stepv 0 _ _ _ (G m ρ c)) (G m ρ c) (⟨b.val * 8192 + s.val, by omega⟩ : Fin 16384) j from rfl)
  unfold step
  show _ = step 0 _ _ _ (G m ρ c) (⟨b.val * 8192 + s.val, by omega⟩ : Fin 16384) j + _
  unfold step
  rw [hg, halves]
  refine (join _ _ _ _ ?_ ?_ ?_).symm
  · rw [half_word]
    have hr := h.2.2 b j
    exact ⟨1 / 2 * EReal.toReal _, by rw [EReal.coe_mul, EReal.coe_toReal hr.1 hr.2]⟩
  · exact Cert.Silu.dot_real _ _ (fun k => h.1 _) (fun k => h.2.1 _)
  · exact Cert.Silu.dot_real _ _ (fun k => h.1 _) (fun k => h.2.1 _)

section Run

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- The program run from any memory: the result's array is what the last host operation leaves, the arguments as launched. -/
theorem run : θ_run defs (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Run

/-- The stated shape facts of the precondition. -/
instance preFacts : Cert.Pre_finite_act_weights_and_gate.Facts where
  bitsLt_bf16_f32 := by decide
  bcast_S_S16384x8192 := by decide
  bcast_S_S8192x4096 := by decide
  slices_S8x36864_S2x4096_0_32768 := by decide
  bcast_S_S2x4096 := by decide
  reducesTo_S16384x8192_S_d0_1 := by decide
  h_S_ := by decide
  reducesTo_S8192x4096_S_d0_1 := by decide
  reducesTo_S2x4096_S_d0_1 := by decide

/-- What the precondition says of the arrays. -/
theorem pre_read (X : FVec Ideal S16384x8192 .bf16) (W : FVec Ideal S8192x4096 .bf16) (H : FVec Ideal S16384x4096 .f32) (M : FVec Ideal S8x36864 .f32)
    (h : Cert.Pre_finite_act_weights_and_gate.fn (F := Ideal) X W H M = fun _ => 1#1) : Fin' X W M := by
  have h' := congrFun h (fun a => a.elim0)
  unfold Cert.Pre_finite_act_weights_and_gate.fn at h'
  dsimp only at h'
  have hh := IntOp.andi_eq_one.1 h'
  have hh1 := IntOp.andi_eq_one.1 hh.1
  refine ⟨fun i => ?_, fun i => ?_, fun r j => ?_⟩
  · have b := Cert.AttnValue.lt_of_cmp _ _ (Host.reduce_andi_all _ _ _ _ _ hh1.1 i)
    have c : (Host.absf (extf (F := Ideal) .f32 X Cert.Pre_finite_act_weights_and_gate.Facts.bitsLt_bf16_f32) i : EReal) = max (X i) (-(X i)) := by
      pointwise
      rfl
    have c' : (broadcastInDim Cert.Pre_finite_act_weights_and_gate.S16384x8192 ![] Cert.Pre_finite_act_weights_and_gate.Facts.bcast_S_S16384x8192 (constant (F := Ideal) Cert.Pre_finite_act_weights_and_gate.S_ .f32 0x7F800000#32) i : EReal) = ⊤ := by
      pointwise
      exact Cert.AttnValue.inf_word
    rw [c, c', max_lt_iff] at b
    refine ⟨b.1.ne, fun q => ?_⟩
    rw [q, EReal.neg_bot] at b
    exact b.2.ne rfl
  · have b := Cert.AttnValue.lt_of_cmp _ _ (Host.reduce_andi_all _ _ _ _ _ hh1.2 i)
    have c : (Host.absf (extf (F := Ideal) .f32 W Cert.Pre_finite_act_weights_and_gate.Facts.bitsLt_bf16_f32) i : EReal) = max (W i) (-(W i)) := by
      pointwise
      rfl
    have c' : (broadcastInDim Cert.Pre_finite_act_weights_and_gate.S8192x4096 ![] Cert.Pre_finite_act_weights_and_gate.Facts.bcast_S_S8192x4096 (constant (F := Ideal) Cert.Pre_finite_act_weights_and_gate.S_ .f32 0x7F800000#32) i : EReal) = ⊤ := by
      pointwise
      exact Cert.AttnValue.inf_word
    rw [c, c', max_lt_iff] at b
    refine ⟨b.1.ne, fun q => ?_⟩
    rw [q, EReal.neg_bot] at b
    exact b.2.ne rfl
  · have b := Cert.AttnValue.lt_of_cmp _ _ (Host.reduce_andi_all _ _ _ _ _ hh.2 (ix2 r j : Cert.Pre_finite_act_weights_and_gate.S2x4096.Idx))
    have c : (Host.absf (extractStridedSlice Cert.Pre_finite_act_weights_and_gate.S2x4096 ![0, 32768] M Cert.Pre_finite_act_weights_and_gate.Facts.slices_S8x36864_S2x4096_0_32768) (ix2 r j : Cert.Pre_finite_act_weights_and_gate.S2x4096.Idx) : EReal) = max ((M (ix2 (⟨r.val, by omega⟩ : Fin 8) (⟨32768 + j.val, by omega⟩ : Fin 36864)) : EReal)) (-((M (ix2 (⟨r.val, by omega⟩ : Fin 8) (⟨32768 + j.val, by omega⟩ : Fin 36864)) : EReal))) := by
      pointwise
      rfl
    have c' : (broadcastInDim Cert.Pre_finite_act_weights_and_gate.S2x4096 ![] Cert.Pre_finite_act_weights_and_gate.Facts.bcast_S_S2x4096 (constant (F := Ideal) Cert.Pre_finite_act_weights_and_gate.S_ .f32 0x7F800000#32) (ix2 r j : Cert.Pre_finite_act_weights_and_gate.S2x4096.Idx) : EReal) = ⊤ := by
      pointwise
      exact Cert.AttnValue.inf_word
    rw [c, c', max_lt_iff] at b
    refine ⟨b.1.ne, fun q => ?_⟩
    rw [q, EReal.neg_bot] at b
    exact b.2.ne rfl

theorem frame_kernel : Cert.quiescent_Down := fun m ρ _ => Cert.Down.Gen.frame m ρ

theorem frame_ideal : Cert.quiescent_DownIdeal := fun m ρ _ => Cert.DownIdeal.Gen.frame m ρ

theorem frame_ideal_pre : Cert.quiescent_DownIdeal_pre_finite_act_weights_and_gate := fun m ρ _ => Cert.DownIdeal.Gen.frame m ρ

theorem frame_reference : Cert.quiescent_DownRefIdeal := fun m ρ _ =>
  (θ_run _ _ _).mono (fun r h => ⟨fun c => (h c).2, Idealize.ShloMosaic.sem_eq_zero_of_no_sems (by decide) r.2⟩)
    (Cert.DownRefIdeal.Value.run m ρ)

theorem frame_reference_pre : Cert.quiescent_DownRefIdeal_pre_finite_act_weights_and_gate := fun m g _ => frame_reference m g trivial

theorem algebraic : Cert.algebraic_DownIdeal_DownRefIdeal_pre_finite_act_weights_and_gate := by
  intro m g m' g' hpre hagree
  refine ⟨fun c => REF (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (value m g c (pre_read _ _ _ _ (hpre c))), (h c).2⟩) (run m g)
  · refine (θ_run _ _ _).mono (fun r h c => ⟨(h c).1.trans ?_, (h c).2⟩) (Cert.DownRefIdeal.Value.run m' g')
    rw [(hagree c).1, (hagree c).2.1, (hagree c).2.2.1, (hagree c).2.2.2]
    exact Cert.DownRefIdeal.Read.val_main_v14_eq _ _ _ _

end Cert.DownVal

end
-- ==== Proof.OutVal.lean ====
module

public import proofs.«01_k».proof.Proof.Gen.OutIdeal.Value
public import proofs.«01_k».proof.Proof.Gen.OutRefIdeal.Read
public import proofs.«01_k».proof.Proof.Gen.Out.Frame
public import proofs.«01_k».proof.Defs
public import Idealize.ShloMosaic.Lib.Claim
public import Idealize.ShloMosaic.Lib.Pipeline.ValueKit

@[expose] public section

set_option maxRecDepth 16384

noncomputable section

namespace Cert.OutVal

open Cert.OutIdeal Cert.OutIdeal.Gen
open Idealize.ShloMosaic Idealize.ShloMosaic.TcCoe Idealize.ShloMosaic.Tactic
open Idealize.SL.Sem

variable (m : (ℓ : Loc nD τ sig) → Buf (Elt Ideal) ℓ)

/-- The windows' block indices at every grid point. -/
theorem idx : ∀ t : Fin cfg0.N, win0_0.index t = ![t.val / 4, 0] ∧ win0_1.index t = ![0, t.val % 4] ∧ win0_2.index t = ![t.val / 4, t.val % 4]
    ∧ win0_3.index t = ![t.val / 32, 0, t.val % 4] ∧ win0_4.index t = ![t.val / 4, t.val % 4] :=
  (by decide +kernel : ∀ t : Fin grid0.N, _)

abbrev REF (X : FVec Ideal S16384x4096 .bf16) (W : FVec Ideal S4096x4096 .bf16) (H : FVec Ideal S16384x4096 .f32) (M : FVec Ideal S8x36864 .f32) : FVec Ideal S16384x4096 .f32 :=
  Cert.OutRefIdeal.Read.val_main_v13 (F := Ideal) X W H M

/-- The reference at an index: the residual plus the gate times the product. -/
theorem ref_apply (X : FVec Ideal S16384x4096 .bf16) (W : FVec Ideal S4096x4096 .bf16) (H : FVec Ideal S16384x4096 .f32) (M : FVec Ideal S8x36864 .f32) (i : Fin 16384) (j : Fin 4096) :
    (REF X W H M (ix2 i j) : EReal) = H (ix2 i j) + M (ix2 (⟨i.val / 8192, by omega⟩ : Fin 8) (⟨20480 + j.val, by omega⟩ : Fin 36864)) * ∑ k : Fin 4096, X (ix2 i k) * W (ix2 k j) := by
  have e13 : Cert.OutRefIdeal.Read.idx_main_v13 (ix2 i j) = ix3 (⟨i.val / 8192, by omega⟩ : Fin 2) (⟨i.val % 8192, by omega⟩ : Fin 8192) j := by
    have h0 := i.isLt
    have h1 := j.isLt
    funext a
    fin_cases a <;> (apply Fin.ext; simp [Cert.OutRefIdeal.Read.idx_main_v13, ix2, ix3]) <;> omega
  have e8 : Cert.OutRefIdeal.Read.idx_main_v8 (ix3 (⟨i.val / 8192, by omega⟩ : Fin 2) (⟨i.val % 8192, by omega⟩ : Fin 8192) j) = ix2 i j := by
    have h0 := i.isLt
    have h1 := j.isLt
    funext a
    fin_cases a <;> (apply Fin.ext; simp [Cert.OutRefIdeal.Read.idx_main_v8, ix2, ix3]) <;> omega
  unfold REF
  rw [Cert.OutRefIdeal.Read.val_main_v13_apply, e13, Cert.OutRefIdeal.Read.val_main_v12_apply, Cert.OutRefIdeal.Read.val_main_v11_apply,
    Cert.OutRefIdeal.Read.val_main_v8_apply, Cert.OutRefIdeal.Read.val_main_v7_apply, e8,
    show Cert.OutRefIdeal.Read.idx_main_v7 (ix3 (⟨i.val / 8192, by omega⟩ : Fin 2) (⟨i.val % 8192, by omega⟩ : Fin 8192) j) = ix2 i j from e8,
    Cert.OutRefIdeal.Read.val_main_v6_apply, Cert.OutRefIdeal.Read.val_main_v10_apply, Cert.OutRefIdeal.Read.val_main_v9_apply, Cert.OutRefIdeal.Read.val_main_v3_apply, Cert.OutRefIdeal.Read.val_main_v2_apply, Cert.OutRefIdeal.Read.val_main_v1_apply, Cert.OutRefIdeal.Read.val_main_v0_apply]
  have eM : Cert.OutRefIdeal.Read.idx_main_v0 (Cert.OutRefIdeal.Read.idx_main_v1 (Cert.OutRefIdeal.Read.idx_main_v2 (Cert.OutRefIdeal.Read.idx_main_v3 (Cert.OutRefIdeal.Read.idx_main_v9 (Cert.OutRefIdeal.Read.idx_main_v10 (ix3 (⟨i.val / 8192, by omega⟩ : Fin 2) (⟨i.val % 8192, by omega⟩ : Fin 8192) j)))))) = ix2 (⟨i.val / 8192, by omega⟩ : Fin 8) (⟨20480 + j.val, by omega⟩ : Fin 36864) := by
    have h0 := i.isLt
    have h1 := j.isLt
    funext a
    fin_cases a <;> (apply Fin.ext; simp [Cert.OutRefIdeal.Read.idx_main_v0, Cert.OutRefIdeal.Read.idx_main_v1, Cert.OutRefIdeal.Read.idx_main_v2, Cert.OutRefIdeal.Read.idx_main_v3, Cert.OutRefIdeal.Read.idx_main_v9, Cert.OutRefIdeal.Read.idx_main_v10, ix2, ix3]) <;> omega
  rw [eM]
  have eL : ∀ k : Fin 4096, Cert.OutRefIdeal.Read.lidx_main_v6 (ix2 i j) k = ix2 i k := fun k => by
    funext a
    fin_cases a <;> (apply Fin.ext; simp [Cert.OutRefIdeal.Read.lidx_main_v6, ix2])
  have eR : ∀ k : Fin 4096, Cert.OutRefIdeal.Read.ridx_main_v6 (ix2 i j) k = ix2 k j := fun k => by
    funext a
    fin_cases a <;> (apply Fin.ext; simp [Cert.OutRefIdeal.Read.ridx_main_v6, ix2])
  simp only [eL, eR]
  rfl

/-- The gate rows the host lays out for the call. -/
theorem V_v1 (c : Dev nD) (b : Fin 2) (j : Fin 4096) :
    (V m c main_v1 : FVec Ideal S2x1x4096 .f32) (ix3 b 0 j) = (m ((c : Thread nD τ).loc main_arg3) : FVec Ideal S8x36864 .f32) (ix2 (⟨b.val, by omega⟩ : Fin 8) (⟨20480 + j.val, by omega⟩ : Fin 36864)) := by
  entry_read
  pointwise

theorem one_word : (Ideal.ofBits .f32 0x3F800000#32 : EReal) = 1 := by
  simp [Ideal.ofBits, Ideal.ieee]
  rw [← EReal.coe_mul, ← EReal.coe_one]; congr 1; norm_num

/-- The body's value at an index of its block. -/
theorem pay (x : FVec Ideal S1024x4096 .bf16) (w : FVec Ideal S4096x1024 .bf16) (h : FVec Ideal S1024x1024 .f32) (g : FVec Ideal S1x1x1024 .f32) (y : S1024x1024.Idx) :
    (k0_pay1 (F := Ideal) x w h g y : EReal) = h y + g (ix3 0 0 (y 1)) * ∑ k : Fin 4096, x (ix2 (y 0) k) * w (ix2 k (y 1)) := by
  have e : (k0_pay1 (F := Ideal) x w h g y : EReal) = h y + ((Ideal.ofBits .f32 0x3F800000#32 : EReal) * g (ix3 0 0 (y 1))) * ∑ k : Fin 4096, x (ix2 (y 0) k) * w (ix2 k (y 1)) := by
    pointwise [k0_pay1]
  rw [e, one_word, one_mul]

theorem blk0 (c : Dev nD) (t : Fin cfg0.N) (r : Fin 1024) (k : Fin 4096) :
    (iblk m c 0 t : Vec Ideal S1024x4096 .bf16) (ix2 r k) = (m ((c : Thread nD τ).loc main_arg0) : FVec Ideal S16384x4096 .bf16) (ix2 (⟨t.val / 4 * 1024 + r.val, by have h : t.val < 64 := t.isLt; omega⟩ : Fin 16384) k) := by
  rw [← V_main_arg0 m c]
  blk_point [iblk, idx t]

theorem blk1 (c : Dev nD) (t : Fin cfg0.N) (k : Fin 4096) (j : Fin 1024) :
    (iblk m c 1 t : Vec Ideal S4096x1024 .bf16) (ix2 k j) = (m ((c : Thread nD τ).loc main_arg1) : FVec Ideal S4096x4096 .bf16) (ix2 k (⟨t.val % 4 * 1024 + j.val, by omega⟩ : Fin 4096)) := by
  rw [← V_main_arg1 m c]
  blk_point [iblk, idx t]

theorem blk2 (c : Dev nD) (t : Fin cfg0.N) (r : Fin 1024) (j : Fin 1024) :
    (iblk m c 2 t : Vec Ideal S1024x1024 .f32) (ix2 r j) = (m ((c : Thread nD τ).loc main_arg2) : FVec Ideal S16384x4096 .f32) (ix2 (⟨t.val / 4 * 1024 + r.val, by have h : t.val < 64 := t.isLt; omega⟩ : Fin 16384) (⟨t.val % 4 * 1024 + j.val, by omega⟩ : Fin 4096)) := by
  rw [← V_main_arg2 m c]
  blk_point [iblk, idx t]

theorem blk3 (c : Dev nD) (t : Fin cfg0.N) (j : Fin 1024) :
    (iblk m c 3 t : Vec Ideal S1x1x1024 .f32) (ix3 0 0 j) = (m ((c : Thread nD τ).loc main_arg3) : FVec Ideal S8x36864 .f32) (ix2 (⟨t.val / 32, by have h : t.val < 64 := t.isLt; omega⟩ : Fin 8) (⟨20480 + (t.val % 4 * 1024 + j.val), by omega⟩ : Fin 36864)) := by
  have h : t.val < 64 := t.isLt
  rw [← V_v1 m c (⟨t.val / 32, by omega⟩ : Fin 2) (⟨t.val % 4 * 1024 + j.val, by omega⟩ : Fin 4096)]
  blk_point [iblk, idx t]

theorem emb (t : Fin cfg0.N) (r j : Fin 1024) :
    ((cfg0.win 4).blk t).view.emb (ix2 r j : S1024x1024.Idx) = (ix2 (⟨t.val / 4 * 1024 + r.val, by have h : t.val < 64 := t.isLt; omega⟩ : Fin 16384) (⟨t.val % 4 * 1024 + j.val, by omega⟩ : Fin 4096) : S16384x4096.Idx) := by
  blk_point [idx t]

theorem eta2 {a b : ℕ} (y : (⟨2, ![a, b]⟩ : Shape).Idx) : y = ix2 (n0 := a) (n1 := b) (y 0) (y 1) := by
  funext k
  fin_cases k <;> rfl

theorem point (c : Dev nD) (t : Fin cfg0.N) (y : S1024x1024.Idx) :
    k0_pay1 (F := Ideal) (iblk m c 0 t) (iblk m c 1 t) (iblk m c 2 t) (iblk m c 3 t) y
      = REF (m ((c : Thread nD τ).loc main_arg0)) (m ((c : Thread nD τ).loc main_arg1)) (m ((c : Thread nD τ).loc main_arg2)) (m ((c : Thread nD τ).loc main_arg3)) (((cfg0.win 4).blk t).view.emb y) := by
  obtain ⟨r, j, rfl⟩ : ∃ r j : Fin 1024, y = ix2 r j := ⟨y 0, y 1, eta2 y⟩
  rw [emb]
  refine (pay _ _ _ _ _).trans ((ref_apply _ _ _ _ _ _).trans ?_).symm
  have h : t.val < 64 := t.isLt
  refine congrArg₂ (fun a b : EReal => a + b) (blk2 m c t r j).symm (congrArg₂ (fun a b : EReal => a * b) ?_ (Finset.sum_congr rfl fun k _ => congrArg₂ (fun a b : EReal => a * b) (blk0 m c t r k).symm (blk1 m c t k j).symm))
  refine Eq.trans ?_ (blk3 m c t j).symm
  exact congrArg _ (congrArg₂ ix2 (Fin.ext (by show (t.val / 4 * 1024 + r.val) / 8192 = t.val / 32; omega)) rfl)

theorem final (c : Dev nD) :
    (dats (F := Ideal) m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

theorem frame_kernel : Cert.quiescent_Out := fun m ρ _ => Cert.Out.Gen.frame m ρ

theorem frame_ideal : Cert.quiescent_OutIdeal := fun m ρ _ => Cert.OutIdeal.Gen.frame m ρ

theorem frame_reference : Cert.quiescent_OutRefIdeal := fun m ρ _ =>
  (θ_run _ _ _).mono (fun r h => ⟨fun c => (h c).2, Idealize.ShloMosaic.sem_eq_zero_of_no_sems (by decide) r.2⟩)
    (Cert.OutRefIdeal.Value.run m ρ)

theorem algebraic : Cert.algebraic_OutIdeal_OutRefIdeal := by
  intro m g m' g' _ hagree
  refine ⟨fun c => REF (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final m c), (h c).2⟩) (Cert.OutIdeal.Value.run_blocks m g)
  · refine (θ_run _ _ _).mono (fun r h c => ⟨(h c).1.trans ?_, (h c).2⟩) (Cert.OutRefIdeal.Value.run m' g')
    rw [(hagree c).1, (hagree c).2.1, (hagree c).2.2.1, (hagree c).2.2.2]
    exact Cert.OutRefIdeal.Read.val_main_v13_eq _ _ _ _

end Cert.OutVal

end
-- ==== Proof.ProjQ.lean ====
module

public import proofs.«01_k».proof.Proof.Gen.HgrnQIdeal.Value
public import proofs.«01_k».proof.Proof.Gen.HgrnQRefIdeal.Read
public import proofs.«01_k».proof.Proof.Gen.HgrnQ.Frame
public import proofs.«01_k».proof.Defs
public import proofs.«01_k».proof.Proof.Silu
public import proofs.«01_k».proof.Proof.AttnValue
public import Idealize.ShloMosaic.Lib.Claim
public import Idealize.ShloMosaic.Lib.Pipeline.ValueKit

@[expose] public section

set_option maxRecDepth 16384

noncomputable section

namespace Cert.ProjQ

open Cert.HgrnQIdeal Cert.HgrnQIdeal.Gen
open Idealize.ShloMosaic Idealize.ShloMosaic.TcCoe Idealize.ShloMosaic.Tactic
open Idealize.SL.Sem

variable (m : (ℓ : Loc nD τ sig) → Buf (Elt Ideal) ℓ)

/-- The windows' block indices at every grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

abbrev REF (X : FVec Ideal S16384x4096 .bf16) (W : FVec Ideal S4096x16384 .bf16) : FVec Ideal S16384x4096 .bf16 :=
  Cert.HgrnQRefIdeal.Read.val_main_v8 (F := Ideal) X W

/-- A query column's products, in the block of a point and in the whole array. -/
theorem gate (c : Dev nD) (t : Fin cfg0.N) (y : S1024x1024.Idx) :
    (matmul (F := Ideal) (φ₁ := .bf16) (φ₂ := .bf16) dot_S1024x4096_S4096x1024_S1024x1024_1_0_0_1_n_n none (iblk m c 0 t : Vec Ideal S1024x4096 .bf16) (iblk m c 1 t : Vec Ideal S4096x1024 .bf16) (constant S1024x1024 .f32 0x00000000#32) y : EReal)
      = Cert.HgrnQRefIdeal.Read.val_main_v3 (F := Ideal) (m ((c : Thread nD τ).loc main_arg0)) (m ((c : Thread nD τ).loc main_arg1)) (((cfg0.win 2).blk t).view.emb y) := by
  unfold Cert.HgrnQRefIdeal.Read.val_main_v3 Cert.HgrnQRefIdeal.Read.val_main_v2 Cert.HgrnQRefIdeal.Read.val_main_v1 Cert.HgrnQRefIdeal.Read.val_main_v0
  pointwise
  blk_point [iblk, V, idx t]

/-- What the two arrays must be: real in the entries the query reads. -/
def Fin' (X : FVec Ideal S16384x4096 .bf16) (W : FVec Ideal S4096x16384 .bf16) : Prop :=
  (∀ i, X i ≠ ⊤ ∧ X i ≠ ⊥) ∧ ∀ (k : Fin 4096) (j : Fin 16384), j.val < 4096 → W (ix2 k j) ≠ ⊤ ∧ W (ix2 k j) ≠ ⊥

theorem gate_real (X : FVec Ideal S16384x4096 .bf16) (W : FVec Ideal S4096x16384 .bf16) (h : Fin' X W) (i : S16384x4096.Idx) :
    ∃ r : ℝ, Cert.HgrnQRefIdeal.Read.val_main_v3 (F := Ideal) X W i = r := by
  rw [Cert.HgrnQRefIdeal.Read.val_main_v3_apply, Cert.HgrnQRefIdeal.Read.val_main_v2_apply]
  refine Cert.Silu.dot_real (fun k => X (Cert.HgrnQRefIdeal.Read.lidx_main_v2 (Cert.HgrnQRefIdeal.Read.idx_main_v3 i) k)) (fun k => W (Cert.HgrnQRefIdeal.Read.ridx_main_v2 (Cert.HgrnQRefIdeal.Read.idx_main_v3 i) k)) (fun k => h.1 _) (fun k => ?_)
  have h1 : (i 1).val < 4096 := (i 1).isLt
  have e : Cert.HgrnQRefIdeal.Read.ridx_main_v2 (Cert.HgrnQRefIdeal.Read.idx_main_v3 i) k = ix2 k (⟨(i 1).val, by omega⟩ : Fin 16384) := by
    funext a
    fin_cases a <;> (apply Fin.ext; simp [Cert.HgrnQRefIdeal.Read.ridx_main_v2, Cert.HgrnQRefIdeal.Read.idx_main_v3, ix2])
  show W _ ≠ ⊤ ∧ W _ ≠ ⊥
  rw [e]
  exact h.2 k _ h1

theorem point (c : Dev nD) (t : Fin cfg0.N) (y : S1024x1024.Idx)
    (h : Fin' (m ((c : Thread nD τ).loc main_arg0)) (m ((c : Thread nD τ).loc main_arg1))) :
    k0_pay1 (F := Ideal) (iblk m c 0 t) (iblk m c 1 t) y = REF (m ((c : Thread nD τ).loc main_arg0)) (m ((c : Thread nD τ).loc main_arg1)) (((cfg0.win 2).blk t).view.emb y) := by
  have hg := gate m c t y
  have hr := gate_real _ _ h (((cfg0.win 2).blk t).view.emb y)
  have hs := Cert.Silu.silu_eq _ hr
  refine Eq.trans ?_ hs
  rw [← hg]
  rfl

theorem final (c : Dev nD) (h : Fin' (m ((c : Thread nD τ).loc main_arg0)) (m ((c : Thread nD τ).loc main_arg1))) :
    (dats (F := Ideal) m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y h

/-- The stated shape facts of the precondition. -/
instance preFacts : Cert.Pre_finite_u_and_q_columns.Facts where
  bitsLt_bf16_f32 := by decide
  bcast_S_S16384x4096 := by decide
  slices_S4096x16384_S4096x4096_0_0 := by decide
  bcast_S_S4096x4096 := by decide
  reducesTo_S16384x4096_S_d0_1 := by decide
  h_S_ := by decide
  reducesTo_S4096x4096_S_d0_1 := by decide

/-- What the precondition says of the arrays. -/
theorem pre_read (X : FVec Ideal S16384x4096 .bf16) (W : FVec Ideal S4096x16384 .bf16)
    (h : Cert.Pre_finite_u_and_q_columns.fn (F := Ideal) X W = fun _ => 1#1) : Fin' X W := by
  have h' := congrFun h (fun a => a.elim0)
  unfold Cert.Pre_finite_u_and_q_columns.fn at h'
  dsimp only at h'
  have hh := IntOp.andi_eq_one.1 h'
  constructor
  · intro i
    have b := Cert.AttnValue.lt_of_cmp _ _ (Host.reduce_andi_all _ _ _ _ _ hh.1 i)
    have c : (Host.absf (extf (F := Ideal) .f32 X Cert.Pre_finite_u_and_q_columns.Facts.bitsLt_bf16_f32) i : EReal) = max (X i) (-(X i)) := by
      pointwise
      rfl
    have c' : (broadcastInDim Cert.Pre_finite_u_and_q_columns.S16384x4096 ![] Cert.Pre_finite_u_and_q_columns.Facts.bcast_S_S16384x4096 (constant (F := Ideal) Cert.Pre_finite_u_and_q_columns.S_ .f32 0x7F800000#32) i : EReal) = ⊤ := by
      pointwise
      exact Cert.AttnValue.inf_word
    rw [c, c', max_lt_iff] at b
    refine ⟨b.1.ne, fun q => ?_⟩
    rw [q, EReal.neg_bot] at b
    exact b.2.ne rfl
  · intro k j hj
    have b := Cert.AttnValue.lt_of_cmp _ _ (Host.reduce_andi_all _ _ _ _ _ hh.2 (ix2 k ⟨j.val, hj⟩ : Cert.Pre_finite_u_and_q_columns.S4096x4096.Idx))
    have c : (Host.absf (extf (F := Ideal) .f32 (extractStridedSlice Cert.Pre_finite_u_and_q_columns.S4096x4096 ![0, 0] W Cert.Pre_finite_u_and_q_columns.Facts.slices_S4096x16384_S4096x4096_0_0) Cert.Pre_finite_u_and_q_columns.Facts.bitsLt_bf16_f32) (ix2 k ⟨j.val, hj⟩ : Cert.Pre_finite_u_and_q_columns.S4096x4096.Idx) : EReal) = max (W (ix2 k j)) (-(W (ix2 k j))) := by
      pointwise
      rfl
    have c' : (broadcastInDim Cert.Pre_finite_u_and_q_columns.S4096x4096 ![] Cert.Pre_finite_u_and_q_columns.Facts.bcast_S_S4096x4096 (constant (F := Ideal) Cert.Pre_finite_u_and_q_columns.S_ .f32 0x7F800000#32) (ix2 k ⟨j.val, hj⟩ : Cert.Pre_finite_u_and_q_columns.S4096x4096.Idx) : EReal) = ⊤ := by
      pointwise
      exact Cert.AttnValue.inf_word
    rw [c, c', max_lt_iff] at b
    refine ⟨b.1.ne, fun q => ?_⟩
    rw [q, EReal.neg_bot] at b
    exact b.2.ne rfl

theorem frame_kernel : Cert.quiescent_HgrnQ := fun m ρ _ => Cert.HgrnQ.Gen.frame m ρ

theorem frame_ideal : Cert.quiescent_HgrnQIdeal := fun m ρ _ => Cert.HgrnQIdeal.Gen.frame m ρ

theorem frame_ideal_pre : Cert.quiescent_HgrnQIdeal_pre_finite_u_and_q_columns := fun m ρ _ => Cert.HgrnQIdeal.Gen.frame m ρ

theorem frame_reference : Cert.quiescent_HgrnQRefIdeal := fun m ρ _ =>
  (θ_run _ _ _).mono (fun r h => ⟨fun c => (h c).2, Idealize.ShloMosaic.sem_eq_zero_of_no_sems (by decide) r.2⟩)
    (Cert.HgrnQRefIdeal.Value.run m ρ)

theorem frame_reference_pre : Cert.quiescent_HgrnQRefIdeal_pre_finite_u_and_q_columns := fun m g _ => frame_reference m g trivial

theorem algebraic : Cert.algebraic_HgrnQIdeal_HgrnQRefIdeal_pre_finite_u_and_q_columns := by
  intro m g m' g' hpre hagree
  refine ⟨fun c => REF (m ((c : Thread nD τ).loc main_arg0)) (m ((c : Thread nD τ).loc main_arg1)), ?_, ?_⟩
  · exact (θ_run _ _ _).mono (fun r h c => ⟨(h c).1.trans (final m c (pre_read _ _ (hpre c))), (h c).2⟩) (Cert.HgrnQIdeal.Value.run_blocks m g)
  · refine (θ_run _ _ _).mono (fun r h c => ⟨(h c).1.trans ?_, (h c).2⟩) (Cert.HgrnQRefIdeal.Value.run m' g')
    rw [(hagree c).1, (hagree c).2]
    exact Cert.HgrnQRefIdeal.Read.val_main_v8_eq _ _

end Cert.ProjQ

end
-- ==== Proof.ProjF.lean ====
module

public import proofs.«01_k».proof.Proof.Gen.HgrnFIdeal.Value
public import proofs.«01_k».proof.Proof.Gen.HgrnFRefIdeal.Read
public import proofs.«01_k».proof.Proof.Gen.HgrnF.Frame
public import proofs.«01_k».proof.Defs
public import Idealize.ShloMosaic.Lib.Claim
public import Idealize.ShloMosaic.Lib.Pipeline.ValueKit

@[expose] public section

set_option maxRecDepth 16384

noncomputable section

namespace Cert.ProjF

open Cert.HgrnFIdeal Cert.HgrnFIdeal.Gen
open Idealize.ShloMosaic Idealize.ShloMosaic.TcCoe Idealize.ShloMosaic.Tactic
open Idealize.SL.Sem

variable (m : (ℓ : Loc nD τ sig) → Buf (Elt Ideal) ℓ)

/-- The windows' block indices at every grid point. -/
theorem idx : ∀ t : Fin cfg0.N, win0_0.index t = ![t.val / 4, 0] ∧ win0_1.index t = ![0, t.val % 4 + 4] ∧ win0_2.index t = ![t.val / 4, t.val % 4] :=
  (by decide +kernel : ∀ t : Fin grid0.N, _)

/-- The reference's term over the two arrays. -/
abbrev REF (X : FVec Ideal S16384x4096 .bf16) (W : FVec Ideal S4096x16384 .bf16) : FVec Ideal S16384x4096 .f32 :=
  Cert.HgrnFRefIdeal.Read.val_main_v4 (F := Ideal) X W

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  unfold REF Cert.HgrnFRefIdeal.Read.val_main_v4 Cert.HgrnFRefIdeal.Read.val_main_v2 Cert.HgrnFRefIdeal.Read.val_main_v1 Cert.HgrnFRefIdeal.Read.val_main_v0
  pointwise [k0_pay1]
  blk_point [iblk, V, idx t]

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_HgrnF := fun m ρ _ =>
  Cert.HgrnF.Gen.frame m ρ

theorem frame_ideal : Cert.quiescent_HgrnFIdeal := fun m ρ _ => Cert.HgrnFIdeal.Gen.frame m ρ

theorem frame_reference : Cert.quiescent_HgrnFRefIdeal := fun m ρ _ =>
  (θ_run _ _ _).mono (fun r h => ⟨fun c => (h c).2, Idealize.ShloMosaic.sem_eq_zero_of_no_sems (by decide) r.2⟩)
    (Cert.HgrnFRefIdeal.Value.run m ρ)

theorem algebraic : Cert.algebraic_HgrnFIdeal_HgrnFRefIdeal := by
  intro m g m' g' _ hagree
  refine ⟨fun c => REF (m ((c : Thread nD τ).loc main_arg0)) (m ((c : Thread nD τ).loc main_arg1)), ?_, ?_⟩
  · exact (θ_run _ _ _).mono (fun r h c => ⟨(h c).1.trans (final m c), (h c).2⟩) (Cert.HgrnFIdeal.Value.run_blocks m g)
  · refine (θ_run _ _ _).mono (fun r h c => ⟨(h c).1.trans ?_, (h c).2⟩) (Cert.HgrnFRefIdeal.Value.run m' g')
    rw [(hagree c).1, (hagree c).2]
    exact Cert.HgrnFRefIdeal.Read.val_main_v4_eq _ _

end Cert.ProjF

end
-- ==== Proof.ProjI.lean ====
module

public import proofs.«01_k».proof.Proof.Gen.HgrnIIdeal.Value
public import proofs.«01_k».proof.Proof.Gen.HgrnIRefIdeal.Read
public import proofs.«01_k».proof.Proof.Gen.HgrnI.Frame
public import proofs.«01_k».proof.Defs
public import Idealize.ShloMosaic.Lib.Claim
public import Idealize.ShloMosaic.Lib.Pipeline.ValueKit

@[expose] public section

set_option maxRecDepth 16384

noncomputable section

namespace Cert.ProjI

open Cert.HgrnIIdeal Cert.HgrnIIdeal.Gen
open Idealize.ShloMosaic Idealize.ShloMosaic.TcCoe Idealize.ShloMosaic.Tactic
open Idealize.SL.Sem

variable (m : (ℓ : Loc nD τ sig) → Buf (Elt Ideal) ℓ)

/-- The windows' block indices at every grid point. -/
theorem idx : ∀ t : Fin cfg0.N, win0_0.index t = ![t.val / 4, 0] ∧ win0_1.index t = ![0, t.val % 4 + 8] ∧ win0_2.index t = ![t.val / 4, t.val % 4] :=
  (by decide +kernel : ∀ t : Fin grid0.N, _)

/-- The reference's term over the two arrays. -/
abbrev REF (X : FVec Ideal S16384x4096 .bf16) (W : FVec Ideal S4096x16384 .bf16) : FVec Ideal S16384x4096 .bf16 :=
  Cert.HgrnIRefIdeal.Read.val_main_v7 (F := Ideal) X W

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  unfold REF Cert.HgrnIRefIdeal.Read.val_main_v7 Cert.HgrnIRefIdeal.Read.val_main_v5 Cert.HgrnIRefIdeal.Read.val_main_v2 Cert.HgrnIRefIdeal.Read.val_main_v1 Cert.HgrnIRefIdeal.Read.val_main_v0
  pointwise [k0_pay1]
  blk_point [iblk, V, idx t]

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_HgrnI := fun m ρ _ =>
  Cert.HgrnI.Gen.frame m ρ

theorem frame_ideal : Cert.quiescent_HgrnIIdeal := fun m ρ _ => Cert.HgrnIIdeal.Gen.frame m ρ

theorem frame_reference : Cert.quiescent_HgrnIRefIdeal := fun m ρ _ =>
  (θ_run _ _ _).mono (fun r h => ⟨fun c => (h c).2, Idealize.ShloMosaic.sem_eq_zero_of_no_sems (by decide) r.2⟩)
    (Cert.HgrnIRefIdeal.Value.run m ρ)

theorem algebraic : Cert.algebraic_HgrnIIdeal_HgrnIRefIdeal := by
  intro m g m' g' _ hagree
  refine ⟨fun c => REF (m ((c : Thread nD τ).loc main_arg0)) (m ((c : Thread nD τ).loc main_arg1)), ?_, ?_⟩
  · exact (θ_run _ _ _).mono (fun r h c => ⟨(h c).1.trans (final m c), (h c).2⟩) (Cert.HgrnIIdeal.Value.run_blocks m g)
  · refine (θ_run _ _ _).mono (fun r h c => ⟨(h c).1.trans ?_, (h c).2⟩) (Cert.HgrnIRefIdeal.Value.run m' g')
    rw [(hagree c).1, (hagree c).2]
    exact Cert.HgrnIRefIdeal.Read.val_main_v7_eq _ _

end Cert.ProjI

end
-- ==== Proof.ProjG.lean ====
module

public import proofs.«01_k».proof.Proof.Gen.HgrnGIdeal.Value
public import proofs.«01_k».proof.Proof.Gen.HgrnGRefIdeal.Read
public import proofs.«01_k».proof.Proof.Gen.HgrnG.Frame
public import proofs.«01_k».proof.Defs
public import Idealize.ShloMosaic.Lib.Claim
public import Idealize.ShloMosaic.Lib.Pipeline.ValueKit

@[expose] public section

set_option maxRecDepth 16384

noncomputable section

namespace Cert.ProjG

open Cert.HgrnGIdeal Cert.HgrnGIdeal.Gen
open Idealize.ShloMosaic Idealize.ShloMosaic.TcCoe Idealize.ShloMosaic.Tactic
open Idealize.SL.Sem

variable (m : (ℓ : Loc nD τ sig) → Buf (Elt Ideal) ℓ)

/-- The windows' block indices at every grid point. -/
theorem idx : ∀ t : Fin cfg0.N, win0_0.index t = ![t.val / 4, 0] ∧ win0_1.index t = ![0, t.val % 4 + 12] ∧ win0_2.index t = ![t.val / 4, t.val % 4] :=
  (by decide +kernel : ∀ t : Fin grid0.N, _)

/-- The reference's term over the two arrays. -/
abbrev REF (X : FVec Ideal S16384x4096 .bf16) (W : FVec Ideal S4096x16384 .bf16) : FVec Ideal S16384x4096 .bf16 :=
  Cert.HgrnGRefIdeal.Read.val_main_v7 (F := Ideal) X W

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  unfold REF Cert.HgrnGRefIdeal.Read.val_main_v7 Cert.HgrnGRefIdeal.Read.val_main_v6 Cert.HgrnGRefIdeal.Read.val_main_v2 Cert.HgrnGRefIdeal.Read.val_main_v1 Cert.HgrnGRefIdeal.Read.val_main_v0
  pointwise [k0_pay1]
  blk_point [iblk, V, idx t]

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

theorem frame_kernel : Cert.quiescent_HgrnG := fun m ρ _ =>
  Cert.HgrnG.Gen.frame m ρ

theorem frame_ideal : Cert.quiescent_HgrnGIdeal := fun m ρ _ => Cert.HgrnGIdeal.Gen.frame m ρ

theorem frame_reference : Cert.quiescent_HgrnGRefIdeal := fun m ρ _ =>
  (θ_run _ _ _).mono (fun r h => ⟨fun c => (h c).2, Idealize.ShloMosaic.sem_eq_zero_of_no_sems (by decide) r.2⟩)
    (Cert.HgrnGRefIdeal.Value.run m ρ)

theorem algebraic : Cert.algebraic_HgrnGIdeal_HgrnGRefIdeal := by
  intro m g m' g' _ hagree
  refine ⟨fun c => REF (m ((c : Thread nD τ).loc main_arg0)) (m ((c : Thread nD τ).loc main_arg1)), ?_, ?_⟩
  · exact (θ_run _ _ _).mono (fun r h c => ⟨(h c).1.trans (final m c), (h c).2⟩) (Cert.HgrnGIdeal.Value.run_blocks m g)
  · refine (θ_run _ _ _).mono (fun r h c => ⟨(h c).1.trans ?_, (h c).2⟩) (Cert.HgrnGRefIdeal.Value.run m' g')
    rw [(hagree c).1, (hagree c).2]
    exact Cert.HgrnGRefIdeal.Read.val_main_v7_eq _ _

end Cert.ProjG

end
-- ==== Proof.QkvVal.lean ====
module

public import proofs.«01_k».proof.Proof.Gen.QkvIdeal.Value
public import proofs.«01_k».proof.Proof.Gen.QkvRefIdeal.Read
public import proofs.«01_k».proof.Proof.Gen.Qkv.Frame
public import proofs.«01_k».proof.Defs
public import Idealize.ShloMosaic.Lib.Claim
public import Idealize.ShloMosaic.Lib.Pipeline.ValueKit

@[expose] public section

set_option maxRecDepth 16384

noncomputable section

namespace Cert.QkvVal

open Cert.QkvIdeal Cert.QkvIdeal.Gen
open Idealize.ShloMosaic Idealize.ShloMosaic.TcCoe Idealize.ShloMosaic.Tactic
open Idealize.SL.Sem

variable (m : (ℓ : Loc nD τ sig) → Buf (Elt Ideal) ℓ)

theorem eta2 {a b : ℕ} (y : (⟨2, ![a, b]⟩ : Shape).Idx) : y = ix2 (n0 := a) (n1 := b) (y 0) (y 1) := by
  funext k
  fin_cases k <;> rfl

/-- One entry of a normalised head: the entry, over the root of the head's mean square, times its gain. -/
def hv (a : Fin 128 → EReal) (g : EReal) (l : Fin 128) : EReal :=
  a l * Ideal.rsqrt (Ideal.div (∑ k : Fin 128, a k * a k) (Ideal.ofBits .f32 0x43000000#32) + Ideal.ofBits .f32 0x358637BD#32) * g

/-- The word of the inverse square root of the head size. -/
abbrev sc : EReal := Ideal.ofBits .f32 0x3DB504F3#32

/-- One entry of the product of a block of rows with a block of columns. -/
abbrev bdot (X : FVec Ideal S1024x4096 .bf16) (W : FVec Ideal S4096x1024 .bf16) (r j : Fin 1024) : EReal :=
  ∑ q : Fin 4096, X (ix2 r q) * W (ix2 q j)

/-- A gain with the queries' scale. -/
abbrev qsc (Q : FVec Ideal S128 .f32) (l : Fin 128) : EReal := Q (ix1 l) * sc

/-- The windows' block indices at every grid point. -/
theorem idx : ∀ t : Fin cfg0.N, win0_0.index t = ![t.val / 6, 0] ∧ win0_1.index t = ![0, t.val % 6]
    ∧ win0_2.index t = ![t.val % 6, 0, 0] ∧ win0_3.index t = ![t.val / 6, t.val % 6] :=
  (by decide +kernel : ∀ t : Fin grid0.N, _)

set_option maxHeartbeats 1000000 in
/-- What the body leaves at a point whose columns are normalised. -/
theorem outA (c : Dev nD) (t : Fin cfg0.N) (hA : t.val % 6 ≤ 4) (hB : ¬t.val % 6 = 5) (y : S1024x1024.Idx) :
    (outsAt0 m c t.val t.isLt y : EReal) = hv (fun k => bdot (iblk m c 0 t) (iblk m c 1 t) (y 0) (⟨(y 1).val / 128 * 128 + k.val, by have h : (y 1).val < 1024 := (y 1).isLt; omega⟩ : Fin 1024))
      ((iblk m c 2 t : FVec Ideal S1x1x128 .f32) (ix3 0 0 (⟨(y 1).val % 128, by omega⟩ : Fin 128))) ⟨(y 1).val % 128, by omega⟩ := by
  rw [outsAt0_A m c t hA hB]; frame_out
  unfold hv bdot
  dsimp only
  clear hA hB
  canon_tiles x h
  all_goals open_payloads
  all_goals pointwise
  all_goals have r : (y 0 : Fin 1024) = x 0 := Fin.ext h0
  all_goals have q : (y 1).val % 128 = (x 1).val := by omega
  case piece0 =>
    have p : (y 1).val / 128 * 128 = 896 := by omega
    simp only [r, p, q]
    rfl
  case piece1 =>
    have p : (y 1).val / 128 * 128 = 768 := by omega
    simp only [r, p, q]
    rfl
  case piece2 =>
    have p : (y 1).val / 128 * 128 = 640 := by omega
    simp only [r, p, q]
    rfl
  case piece3 =>
    have p : (y 1).val / 128 * 128 = 512 := by omega
    simp only [r, p, q]
    rfl
  case piece4 =>
    have p : (y 1).val / 128 * 128 = 384 := by omega
    simp only [r, p, q]
    rfl
  case piece5 =>
    have p : (y 1).val / 128 * 128 = 256 := by omega
    simp only [r, p, q]
    rfl
  case piece6 =>
    have p : (y 1).val / 128 * 128 = 128 := by omega
    simp only [r, p, q]
    rfl
  case piece7 =>
    have p : (y 1).val / 128 * 128 = 0 := by omega
    simp only [r, p, q, Nat.zero_add]
    rfl

/-- What the body leaves at a point whose columns are not. -/
theorem outB (c : Dev nD) (t : Fin cfg0.N) (hA : ¬t.val % 6 ≤ 4) (hB : t.val % 6 = 5) (y : S1024x1024.Idx) :
    (outsAt0 m c t.val t.isLt y : EReal) = bdot (iblk m c 0 t) (iblk m c 1 t) (y 0) (y 1) := by
  rw [outsAt0_B m c t hA hB]; frame_out
  pointwise [k0_pay5, k0_pay1]

theorem blk0 (c : Dev nD) (t : Fin cfg0.N) (r : Fin 1024) (k : Fin 4096) :
    (iblk m c 0 t : Vec Ideal S1024x4096 .bf16) (ix2 r k) = (m ((c : Thread nD τ).loc main_arg0) : FVec Ideal S16384x4096 .bf16) (ix2 (⟨t.val / 6 * 1024 + r.val, by have h : t.val < 96 := t.isLt; omega⟩ : Fin 16384) k) := by
  rw [← V_main_arg0 m c]
  blk_point [iblk, idx t]

theorem blk1 (c : Dev nD) (t : Fin cfg0.N) (k : Fin 4096) (j : Fin 1024) :
    (iblk m c 1 t : Vec Ideal S4096x1024 .bf16) (ix2 k j) = (m ((c : Thread nD τ).loc main_arg1) : FVec Ideal S4096x6144 .bf16) (ix2 k (⟨t.val % 6 * 1024 + j.val, by omega⟩ : Fin 6144)) := by
  rw [← V_main_arg1 m c]
  blk_point [iblk, idx t]

theorem blk2 (c : Dev nD) (t : Fin cfg0.N) (l : Fin 128) :
    (iblk m c 2 t : Vec Ideal S1x1x128 .f32) (ix3 0 0 l) = (V m c main_v11 : FVec Ideal S6x1x128 .f32) (ix3 (⟨t.val % 6, by omega⟩ : Fin 6) (0 : Fin 1) l) := by
  blk_point [iblk, idx t]

theorem V5 (c : Dev nD) (l : Fin 128) : (V m c main_v5 : FVec Ideal S1x1x128 .f32) (ix3 (0 : Fin 1) (0 : Fin 1) l) = qsc (m ((c : Thread nD τ).loc main_arg2)) l := by
  entry_read
  pointwise

theorem V6 (c : Dev nD) (l : Fin 128) : (V m c main_v6 : FVec Ideal S1x1x128 .f32) (ix3 (0 : Fin 1) (0 : Fin 1) l) = qsc (m ((c : Thread nD τ).loc main_arg2)) l := by
  entry_read
  pointwise

theorem V7 (c : Dev nD) (l : Fin 128) : (V m c main_v7 : FVec Ideal S1x1x128 .f32) (ix3 (0 : Fin 1) (0 : Fin 1) l) = qsc (m ((c : Thread nD τ).loc main_arg2)) l := by
  entry_read
  pointwise

theorem V8 (c : Dev nD) (l : Fin 128) : (V m c main_v8 : FVec Ideal S1x1x128 .f32) (ix3 (0 : Fin 1) (0 : Fin 1) l) = qsc (m ((c : Thread nD τ).loc main_arg2)) l := by
  entry_read
  pointwise

theorem V9 (c : Dev nD) (l : Fin 128) : (V m c main_v9 : FVec Ideal S1x1x128 .f32) (ix3 (0 : Fin 1) (0 : Fin 1) l) = (m ((c : Thread nD τ).loc main_arg3) : FVec Ideal S128 .f32) (ix1 l) := by
  entry_read
  pointwise

/-- The host's last step: the six rows of gains one after another. -/
abbrev lastOp : HloOp τ sig (Elt Ideal) :=
  StableHlo.nary ![main_v5, main_v6, main_v7, main_v8, main_v9, main_v10] main_v11 (fun u => (concatenate S6x1x128 0 [⟨S1x1x128, (u 0 : (⟨S1x1x128, .f32⟩ : BufTy).Contents (Elt Ideal))⟩, ⟨S1x1x128, (u 1 : (⟨S1x1x128, .f32⟩ : BufTy).Contents (Elt Ideal))⟩, ⟨S1x1x128, (u 2 : (⟨S1x1x128, .f32⟩ : BufTy).Contents (Elt Ideal))⟩, ⟨S1x1x128, (u 3 : (⟨S1x1x128, .f32⟩ : BufTy).Contents (Elt Ideal))⟩, ⟨S1x1x128, (u 4 : (⟨S1x1x128, .f32⟩ : BufTy).Contents (Elt Ideal))⟩, ⟨S1x1x128, (u 5 : (⟨S1x1x128, .f32⟩ : BufTy).Contents (Elt Ideal))⟩] concatenates_S1x1x128_S1x1x128_S1x1x128_S1x1x128_S1x1x128_S1x1x128_S6x1x128_d0 : (⟨S6x1x128, .f32⟩ : BufTy).Contents (Elt Ideal)))

theorem cat_apply (u5 u6 u7 u8 u9 u10 : FVec Ideal S1x1x128 .f32) (b : Fin 6) (l : Fin 128) (A B : EReal) (hb : b.val < 5)
    (h5 : u5 (ix3 (0 : Fin 1) (0 : Fin 1) l) = A) (h6 : u6 (ix3 (0 : Fin 1) (0 : Fin 1) l) = A) (h7 : u7 (ix3 (0 : Fin 1) (0 : Fin 1) l) = A)
    (h8 : u8 (ix3 (0 : Fin 1) (0 : Fin 1) l) = A) (h9 : u9 (ix3 (0 : Fin 1) (0 : Fin 1) l) = B) :
    (concatenate S6x1x128 0 [⟨S1x1x128, u5⟩, ⟨S1x1x128, u6⟩, ⟨S1x1x128, u7⟩, ⟨S1x1x128, u8⟩, ⟨S1x1x128, u9⟩, ⟨S1x1x128, u10⟩] concatenates_S1x1x128_S1x1x128_S1x1x128_S1x1x128_S1x1x128_S1x1x128_S6x1x128_d0 : FVec Ideal S6x1x128 .f32) (ix3 b (0 : Fin 1) l)
      = if b.val < 4 then A else B := by
  obtain ⟨b, hb'⟩ := b
  have hb : b < 5 := hb
  have hc : b = 0 ∨ b = 1 ∨ b = 2 ∨ b = 3 ∨ b = 4 := by omega
  rcases hc with rfl | rfl | rfl | rfl | rfl
  · rw [if_pos (by simp)]; refine Eq.trans ?_ h5; pointwise
  · rw [if_pos (by simp)]; refine Eq.trans ?_ h6; pointwise
  · rw [if_pos (by simp)]; refine Eq.trans ?_ h7; pointwise
  · rw [if_pos (by simp)]; refine Eq.trans ?_ h8; pointwise
  · rw [if_neg (by simp)]; refine Eq.trans ?_ h9; pointwise

theorem last_apply (W : Valuation τ sig (Elt Ideal)) (b : Fin 6) (l : Fin 128) (A B : EReal) (hb : b.val < 5)
    (h5 : (lastOp.result W (Proc.devRef .tc main_v5) : FVec Ideal S1x1x128 .f32) (ix3 (0 : Fin 1) (0 : Fin 1) l) = A)
    (h6 : (lastOp.result W (Proc.devRef .tc main_v6) : FVec Ideal S1x1x128 .f32) (ix3 (0 : Fin 1) (0 : Fin 1) l) = A)
    (h7 : (lastOp.result W (Proc.devRef .tc main_v7) : FVec Ideal S1x1x128 .f32) (ix3 (0 : Fin 1) (0 : Fin 1) l) = A)
    (h8 : (lastOp.result W (Proc.devRef .tc main_v8) : FVec Ideal S1x1x128 .f32) (ix3 (0 : Fin 1) (0 : Fin 1) l) = A)
    (h9 : (lastOp.result W (Proc.devRef .tc main_v9) : FVec Ideal S1x1x128 .f32) (ix3 (0 : Fin 1) (0 : Fin 1) l) = B) :
    (lastOp.result W (Proc.devRef .tc main_v11) : FVec Ideal S6x1x128 .f32) (ix3 b (0 : Fin 1) l) = if b.val < 4 then A else B := by
  have n : ∀ {r : Ref sig .tc}, r ≠ main_v11 → lastOp.result W (Proc.devRef .tc r) = W (Proc.devRef .tc r) := fun h =>
    StableHlo.nary_result_ne _ _ _ _ _ W h
  have e : lastOp.result W (Proc.devRef .tc main_v11) = _ := StableHlo.nary_result _ _ _ _ _ W
  refine (congrFun e _).trans (cat_apply _ _ _ _ _ _ b l A B hb ?_ ?_ ?_ ?_ ?_)
  · exact (congrFun (n (r := main_v5) (by decide)) _).symm.trans h5
  · exact (congrFun (n (r := main_v6) (by decide)) _).symm.trans h6
  · exact (congrFun (n (r := main_v7) (by decide)) _).symm.trans h7
  · exact (congrFun (n (r := main_v8) (by decide)) _).symm.trans h8
  · exact (congrFun (n (r := main_v9) (by decide)) _).symm.trans h9

/-- The gains the host lays out, row by row. -/
theorem gain (c : Dev nD) (b : Fin 6) (l : Fin 128) (hb : b.val < 5) :
    (V m c main_v11 : FVec Ideal S6x1x128 .f32) (ix3 b (0 : Fin 1) l) = if b.val < 4 then qsc (m ((c : Thread nD τ).loc main_arg2)) l else (m ((c : Thread nD τ).loc main_arg3) : FVec Ideal S128 .f32) (ix1 l) :=
  last_apply _ b l _ _ hb (V5 m c l) (V6 m c l) (V7 m c l) (V8 m c l) (V9 m c l)

theorem emb (t : Fin cfg0.N) (r j : Fin 1024) :
    ((cfg0.win 3).blk t).view.emb (ix2 r j : S1024x1024.Idx) = (ix2 (⟨t.val / 6 * 1024 + r.val, by have h : t.val < 96 := t.isLt; omega⟩ : Fin 16384) (⟨t.val % 6 * 1024 + j.val, by omega⟩ : Fin 6144) : S16384x6144.Idx) := by
  blk_point [idx t]

abbrev REF (X : FVec Ideal S16384x4096 .bf16) (W : FVec Ideal S4096x6144 .bf16) (Q K : FVec Ideal S128 .f32) : FVec Ideal S16384x6144 .bf16 :=
  Cert.QkvRefIdeal.Read.val_main_v39 (F := Ideal) X W Q K

/-- The reference's product. -/
abbrev D (X : FVec Ideal S16384x4096 .bf16) (W : FVec Ideal S4096x6144 .bf16) (i : Fin 16384) (j : Fin 6144) : EReal :=
  Cert.QkvRefIdeal.Read.val_main_v2 (F := Ideal) X W (ix2 i j)

/-- A row of one head of the product. -/
abbrev row (X : FVec Ideal S16384x4096 .bf16) (W : FVec Ideal S4096x6144 .bf16) (i : Fin 16384) (j : Fin 6144) (k : Fin 128) : EReal :=
  D X W i (⟨j.val / 128 * 128 + k.val, by omega⟩ : Fin 6144)

theorem ref_dot (X : FVec Ideal S16384x4096 .bf16) (W : FVec Ideal S4096x6144 .bf16) (i : Fin 16384) (j : Fin 6144) :
    D X W i j = ∑ q : Fin 4096, X (ix2 i q) * W (ix2 q j) := by
  unfold D
  pointwise [Cert.QkvRefIdeal.Read.val_main_v2, Cert.QkvRefIdeal.Read.val_main_v1, Cert.QkvRefIdeal.Read.val_main_v0]

theorem ref_q (X : FVec Ideal S16384x4096 .bf16) (W : FVec Ideal S4096x6144 .bf16) (Q : FVec Ideal S128 .f32) (i : Fin 16384) (j : Fin 4096) :
    (Cert.QkvRefIdeal.Read.val_main_v36 (F := Ideal) X W Q (ix2 i j) : EReal) = hv (row X W i (⟨j.val, by omega⟩ : Fin 6144)) (Q (ix1 (⟨j.val % 128, by omega⟩ : Fin 128))) (⟨j.val % 128, by omega⟩ : Fin 128) * sc := by
  unfold hv row D
  pointwise [Cert.QkvRefIdeal.Read.val_main_v39, Cert.QkvRefIdeal.Read.val_main_v38, Cert.QkvRefIdeal.Read.val_main_v36, Cert.QkvRefIdeal.Read.val_main_v37, Cert.QkvRefIdeal.Read.val_main_v5, Cert.QkvRefIdeal.Read.val_main_v4, Cert.QkvRefIdeal.Read.val_main_v3, Cert.QkvRefIdeal.Read.val_main_v21, Cert.QkvRefIdeal.Read.val_main_v20, Cert.QkvRefIdeal.Read.val_main_v19, Cert.QkvRefIdeal.Read.val_main_v18, Cert.QkvRefIdeal.Read.val_main_v17, Cert.QkvRefIdeal.Read.val_main_v16, Cert.QkvRefIdeal.Read.val_main_v15, Cert.QkvRefIdeal.Read.val_main_v14, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v35, Cert.QkvRefIdeal.Read.val_main_v34, Cert.QkvRefIdeal.Read.val_main_v33, Cert.QkvRefIdeal.Read.val_main_v32, Cert.QkvRefIdeal.Read.val_main_v31, Cert.QkvRefIdeal.Read.val_main_v30, Cert.QkvRefIdeal.Read.val_main_v29, Cert.QkvRefIdeal.Read.val_main_v28, Cert.QkvRefIdeal.Read.val_main_v27, Cert.QkvRefIdeal.Read.val_main_v26, Cert.QkvRefIdeal.Read.val_main_v25, Cert.QkvRefIdeal.Read.val_main_v24, Cert.QkvRefIdeal.Read.val_main_v23, Cert.QkvRefIdeal.Read.val_main_v22, Cert.QkvRefIdeal.Read.val_main_cst, Cert.QkvRefIdeal.Read.val_main_cst_0, Cert.QkvRefIdeal.Read.val_main_cst_1, Cert.QkvRefIdeal.Read.val_main_cst_2, Cert.QkvRefIdeal.Read.val_main_cst_3, Cert.QkvRefIdeal.Read.val_main_cst_4, Cert.QkvRefIdeal.Read.val_main_cst_5]
  have e : (⟨j.val / 128 * 128 + j.val % 128, by omega⟩ : Fin 6144) = ⟨j.val, by omega⟩ := Fin.ext (by show j.val / 128 * 128 + j.val % 128 = j.val; omega)
  rw [e]

theorem ref_k (X : FVec Ideal S16384x4096 .bf16) (W : FVec Ideal S4096x6144 .bf16) (K : FVec Ideal S128 .f32) (i : Fin 16384) (j : Fin 1024) :
    (Cert.QkvRefIdeal.Read.val_main_v37 (F := Ideal) X W K (ix2 i j) : EReal) = hv (row X W i (⟨4096 + j.val, by omega⟩ : Fin 6144)) (K (ix1 (⟨j.val % 128, by omega⟩ : Fin 128))) (⟨j.val % 128, by omega⟩ : Fin 128) := by
  unfold hv row D
  pointwise [Cert.QkvRefIdeal.Read.val_main_v39, Cert.QkvRefIdeal.Read.val_main_v38, Cert.QkvRefIdeal.Read.val_main_v36, Cert.QkvRefIdeal.Read.val_main_v37, Cert.QkvRefIdeal.Read.val_main_v5, Cert.QkvRefIdeal.Read.val_main_v4, Cert.QkvRefIdeal.Read.val_main_v3, Cert.QkvRefIdeal.Read.val_main_v21, Cert.QkvRefIdeal.Read.val_main_v20, Cert.QkvRefIdeal.Read.val_main_v19, Cert.QkvRefIdeal.Read.val_main_v18, Cert.QkvRefIdeal.Read.val_main_v17, Cert.QkvRefIdeal.Read.val_main_v16, Cert.QkvRefIdeal.Read.val_main_v15, Cert.QkvRefIdeal.Read.val_main_v14, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v35, Cert.QkvRefIdeal.Read.val_main_v34, Cert.QkvRefIdeal.Read.val_main_v33, Cert.QkvRefIdeal.Read.val_main_v32, Cert.QkvRefIdeal.Read.val_main_v31, Cert.QkvRefIdeal.Read.val_main_v30, Cert.QkvRefIdeal.Read.val_main_v29, Cert.QkvRefIdeal.Read.val_main_v28, Cert.QkvRefIdeal.Read.val_main_v27, Cert.QkvRefIdeal.Read.val_main_v26, Cert.QkvRefIdeal.Read.val_main_v25, Cert.QkvRefIdeal.Read.val_main_v24, Cert.QkvRefIdeal.Read.val_main_v23, Cert.QkvRefIdeal.Read.val_main_v22, Cert.QkvRefIdeal.Read.val_main_cst, Cert.QkvRefIdeal.Read.val_main_cst_0, Cert.QkvRefIdeal.Read.val_main_cst_1, Cert.QkvRefIdeal.Read.val_main_cst_2, Cert.QkvRefIdeal.Read.val_main_cst_3, Cert.QkvRefIdeal.Read.val_main_cst_4, Cert.QkvRefIdeal.Read.val_main_cst_5]
  have e : (⟨(4096 + j.val) / 128 * 128 + j.val % 128, by omega⟩ : Fin 6144) = ⟨4096 + j.val, by omega⟩ := Fin.ext (by show (4096 + j.val) / 128 * 128 + j.val % 128 = 4096 + j.val; omega)
  have e' : ∀ x : Fin 128, (⟨(4096 + j.val) / 128 * 128 + x.val, by omega⟩ : Fin 6144) = ⟨4096 + (j.val / 128 * 128 + x.val), by omega⟩ := fun x => Fin.ext (by show (4096 + j.val) / 128 * 128 + x.val = 4096 + (j.val / 128 * 128 + x.val); omega)
  simp only [e, e']

theorem ref_v (X : FVec Ideal S16384x4096 .bf16) (W : FVec Ideal S4096x6144 .bf16) (i : Fin 16384) (j : Fin 1024) :
    (Cert.QkvRefIdeal.Read.val_main_v5 (F := Ideal) X W (ix2 i j) : EReal) = D X W i (⟨5120 + j.val, by omega⟩ : Fin 6144) := by
  unfold D
  pointwise [Cert.QkvRefIdeal.Read.val_main_v39, Cert.QkvRefIdeal.Read.val_main_v38, Cert.QkvRefIdeal.Read.val_main_v36, Cert.QkvRefIdeal.Read.val_main_v37, Cert.QkvRefIdeal.Read.val_main_v5, Cert.QkvRefIdeal.Read.val_main_v4, Cert.QkvRefIdeal.Read.val_main_v3, Cert.QkvRefIdeal.Read.val_main_v21, Cert.QkvRefIdeal.Read.val_main_v20, Cert.QkvRefIdeal.Read.val_main_v19, Cert.QkvRefIdeal.Read.val_main_v18, Cert.QkvRefIdeal.Read.val_main_v17, Cert.QkvRefIdeal.Read.val_main_v16, Cert.QkvRefIdeal.Read.val_main_v15, Cert.QkvRefIdeal.Read.val_main_v14, Cert.QkvRefIdeal.Read.val_main_v13, Cert.QkvRefIdeal.Read.val_main_v12, Cert.QkvRefIdeal.Read.val_main_v11, Cert.QkvRefIdeal.Read.val_main_v10, Cert.QkvRefIdeal.Read.val_main_v9, Cert.QkvRefIdeal.Read.val_main_v8, Cert.QkvRefIdeal.Read.val_main_v7, Cert.QkvRefIdeal.Read.val_main_v6, Cert.QkvRefIdeal.Read.val_main_v35, Cert.QkvRefIdeal.Read.val_main_v34, Cert.QkvRefIdeal.Read.val_main_v33, Cert.QkvRefIdeal.Read.val_main_v32, Cert.QkvRefIdeal.Read.val_main_v31, Cert.QkvRefIdeal.Read.val_main_v30, Cert.QkvRefIdeal.Read.val_main_v29, Cert.QkvRefIdeal.Read.val_main_v28, Cert.QkvRefIdeal.Read.val_main_v27, Cert.QkvRefIdeal.Read.val_main_v26, Cert.QkvRefIdeal.Read.val_main_v25, Cert.QkvRefIdeal.Read.val_main_v24, Cert.QkvRefIdeal.Read.val_main_v23, Cert.QkvRefIdeal.Read.val_main_v22, Cert.QkvRefIdeal.Read.val_main_cst, Cert.QkvRefIdeal.Read.val_main_cst_0, Cert.QkvRefIdeal.Read.val_main_cst_1, Cert.QkvRefIdeal.Read.val_main_cst_2, Cert.QkvRefIdeal.Read.val_main_cst_3, Cert.QkvRefIdeal.Read.val_main_cst_4, Cert.QkvRefIdeal.Read.val_main_cst_5]

theorem ref_cat (X : FVec Ideal S16384x4096 .bf16) (W : FVec Ideal S4096x6144 .bf16) (Q K : FVec Ideal S128 .f32) (i : Fin 16384) (j : Fin 6144) :
    (REF X W Q K (ix2 i j) : EReal) = if h : j.val < 4096 then Cert.QkvRefIdeal.Read.val_main_v36 (F := Ideal) X W Q (ix2 i (⟨j.val, h⟩ : Fin 4096))
      else if h' : j.val - 4096 < 1024 then Cert.QkvRefIdeal.Read.val_main_v37 (F := Ideal) X W K (ix2 i (⟨j.val - 4096, h'⟩ : Fin 1024))
        else Cert.QkvRefIdeal.Read.val_main_v5 (F := Ideal) X W (ix2 i (⟨j.val - 4096 - 1024, by omega⟩ : Fin 1024)) := by
  unfold REF Cert.QkvRefIdeal.Read.val_main_v39 Cert.QkvRefIdeal.Read.val_main_v38
  pointwise

/-- The reference at a normalised column: the gain is the queries' with their scale, or the keys'. -/
theorem ref_norm (X : FVec Ideal S16384x4096 .bf16) (W : FVec Ideal S4096x6144 .bf16) (Q K : FVec Ideal S128 .f32) (i : Fin 16384) (j : Fin 6144) (hj : j.val < 5120) :
    (REF X W Q K (ix2 i j) : EReal) = hv (row X W i j) (if j.val / 1024 < 4 then qsc Q (⟨j.val % 128, by omega⟩ : Fin 128) else K (ix1 (⟨j.val % 128, by omega⟩ : Fin 128))) (⟨j.val % 128, by omega⟩ : Fin 128) := by
  rw [ref_cat]
  by_cases h : j.val < 4096
  · rw [dif_pos h, if_pos (by omega), ref_q]
    exact mul_assoc _ _ _
  · rw [dif_neg h, if_neg (by omega), dif_pos (by omega), ref_k]
    have e : (⟨4096 + (j.val - 4096), by omega⟩ : Fin 6144) = j := Fin.ext (by show 4096 + (j.val - 4096) = j.val; omega)
    have e' : (⟨(j.val - 4096) % 128, by omega⟩ : Fin 128) = ⟨j.val % 128, by omega⟩ := Fin.ext (by show (j.val - 4096) % 128 = j.val % 128; omega)
    simp only [e, e']

/-- The reference at a column that is not normalised. -/
theorem ref_plain (X : FVec Ideal S16384x4096 .bf16) (W : FVec Ideal S4096x6144 .bf16) (Q K : FVec Ideal S128 .f32) (i : Fin 16384) (j : Fin 6144) (hj : 5120 ≤ j.val) :
    (REF X W Q K (ix2 i j) : EReal) = D X W i j := by
  rw [ref_cat, dif_neg (by omega), dif_neg (by omega), ref_v]
  exact congrArg (D X W i) (Fin.ext (by show 5120 + (j.val - 4096 - 1024) = j.val; omega))

theorem bdot_eq (c : Dev nD) (t : Fin cfg0.N) (r j : Fin 1024) :
    bdot (iblk m c 0 t) (iblk m c 1 t) r j = D (m ((c : Thread nD τ).loc main_arg0)) (m ((c : Thread nD τ).loc main_arg1)) (⟨t.val / 6 * 1024 + r.val, by have h : t.val < 96 := t.isLt; omega⟩ : Fin 16384) (⟨t.val % 6 * 1024 + j.val, by omega⟩ : Fin 6144) := by
  rw [ref_dot]
  exact Finset.sum_congr rfl fun k _ => congrArg₂ (fun a b : EReal => a * b) (blk0 m c t r k) (blk1 m c t k j)

theorem point (c : Dev nD) (t : Fin cfg0.N) (y : S1024x1024.Idx) :
    (outsAt0 m c t.val t.isLt y : EReal)
      = REF (m ((c : Thread nD τ).loc main_arg0)) (m ((c : Thread nD τ).loc main_arg1)) (m ((c : Thread nD τ).loc main_arg2)) (m ((c : Thread nD τ).loc main_arg3)) (((cfg0.win 3).blk t).view.emb y) := by
  obtain ⟨r, j, rfl⟩ : ∃ r j : Fin 1024, y = ix2 r j := ⟨y 0, y 1, eta2 y⟩
  rw [emb]
  by_cases hB : t.val % 6 = 5
  · refine (outB m c t (by omega) hB _).trans ((bdot_eq m c t r j).trans (ref_plain _ _ _ _ _ _ ?_).symm)
    show 5120 ≤ t.val % 6 * 1024 + j.val
    omega
  · refine (outA m c t (by omega) hB _).trans (Eq.trans ?_ (ref_norm _ _ _ _ _ _ ?_).symm)
    · have e : (t.val % 6 * 1024 + j.val) / 1024 = t.val % 6 := by omega
      have e' : (t.val % 6 * 1024 + j.val) % 128 = j.val % 128 := by omega
      have e'' : (t.val % 6 * 1024 + j.val) / 128 * 128 = t.val % 6 * 1024 + j.val / 128 * 128 := by omega
      have g := (blk2 m c t (⟨j.val % 128, by omega⟩ : Fin 128)).trans (gain m c (⟨t.val % 6, by omega⟩ : Fin 6) (⟨j.val % 128, by omega⟩ : Fin 128) (by show t.val % 6 < 5; omega))
      simp only [e, e']
      refine (congrArg₂ (fun (a : Fin 128 → EReal) (g : EReal) => hv a g (⟨j.val % 128, by omega⟩ : Fin 128)) (funext fun k => ?_) g)
      refine (bdot_eq m c t r _).trans (congrArg (D _ _ _) (Fin.ext ?_))
      show t.val % 6 * 1024 + (j.val / 128 * 128 + k.val) = (t.val % 6 * 1024 + j.val) / 128 * 128 + k.val
      omega
    · show t.val % 6 * 1024 + j.val < 5120
      omega

theorem final (c : Dev nD) :
    (dats (F := Ideal) m 0 c).arrAt 3 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  exact point m c t y

theorem frame_kernel : Cert.quiescent_Qkv := fun m ρ _ => Cert.Qkv.Gen.frame m ρ

theorem frame_ideal : Cert.quiescent_QkvIdeal := fun m ρ _ => Cert.QkvIdeal.Gen.frame m ρ

theorem frame_reference : Cert.quiescent_QkvRefIdeal := fun m ρ _ =>
  (θ_run _ _ _).mono (fun r h => ⟨fun c => (h c).2, Idealize.ShloMosaic.sem_eq_zero_of_no_sems (by decide) r.2⟩)
    (Cert.QkvRefIdeal.Value.run m ρ)

theorem algebraic : Cert.algebraic_QkvIdeal_QkvRefIdeal := by
  intro m g m' g' _ hagree
  refine ⟨fun c => REF (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final m c), (h c).2⟩) (Cert.QkvIdeal.Value.run_blocks m g)
  · refine (θ_run _ _ _).mono (fun r h c => ⟨(h c).1.trans ?_, (h c).2⟩) (Cert.QkvRefIdeal.Value.run m' g')
    exact (Cert.QkvRefIdeal.Read.val_main_v39_eq m' c).trans (by rw [(hagree c).1, (hagree c).2.1, (hagree c).2.2.1, (hagree c).2.2.2])

end Cert.QkvVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpRefIdeal.Read
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.HgrnQIdeal
public import proofs.«01_k».proof.Proof.Gen.HgrnQIdeal.Skeleton
public import proofs.«01_k».proof.Proof.Gen.HgrnQIdeal.Launch
public import proofs.«01_k».proof.Proof.Gen.HgrnQIdeal.Points
public import proofs.«01_k».proof.Proof.Gen.HgrnQIdeal.Frame
public import proofs.«01_k».proof.Proof.Gen.HgrnQIdeal.Value
public import proofs.«01_k».proof.Proof.Gen.HgrnQRefIdeal.Read
public import proofs.«01_k».proof.Proof.Gen.HgrnQ
public import proofs.«01_k».proof.Proof.Gen.HgrnQ.Skeleton
public import proofs.«01_k».proof.Proof.Gen.HgrnQ.Launch
public import proofs.«01_k».proof.Proof.Gen.HgrnQ.Points
public import proofs.«01_k».proof.Proof.Gen.HgrnQ.Frame
public import proofs.«01_k».proof.Proof.Gen.HgrnFIdeal
public import proofs.«01_k».proof.Proof.Gen.HgrnFIdeal.Skeleton
public import proofs.«01_k».proof.Proof.Gen.HgrnFIdeal.Launch
public import proofs.«01_k».proof.Proof.Gen.HgrnFIdeal.Points
public import proofs.«01_k».proof.Proof.Gen.HgrnFIdeal.Frame
public import proofs.«01_k».proof.Proof.Gen.HgrnFIdeal.Value
public import proofs.«01_k».proof.Proof.Gen.HgrnFRefIdeal.Read
public import proofs.«01_k».proof.Proof.Gen.HgrnF
public import proofs.«01_k».proof.Proof.Gen.HgrnF.Skeleton
public import proofs.«01_k».proof.Proof.Gen.HgrnF.Launch
public import proofs.«01_k».proof.Proof.Gen.HgrnF.Points
public import proofs.«01_k».proof.Proof.Gen.HgrnF.Frame
public import proofs.«01_k».proof.Proof.Gen.HgrnIIdeal
public import proofs.«01_k».proof.Proof.Gen.HgrnIIdeal.Skeleton
public import proofs.«01_k».proof.Proof.Gen.HgrnIIdeal.Launch
public import proofs.«01_k».proof.Proof.Gen.HgrnIIdeal.Points
public import proofs.«01_k».proof.Proof.Gen.HgrnIIdeal.Frame
public import proofs.«01_k».proof.Proof.Gen.HgrnIIdeal.Value
public import proofs.«01_k».proof.Proof.Gen.HgrnIRefIdeal.Read
public import proofs.«01_k».proof.Proof.Gen.HgrnI
public import proofs.«01_k».proof.Proof.Gen.HgrnI.Skeleton
public import proofs.«01_k».proof.Proof.Gen.HgrnI.Launch
public import proofs.«01_k».proof.Proof.Gen.HgrnI.Points
public import proofs.«01_k».proof.Proof.Gen.HgrnI.Frame
public import proofs.«01_k».proof.Proof.Gen.HgrnGIdeal
public import proofs.«01_k».proof.Proof.Gen.HgrnGIdeal.Skeleton
public import proofs.«01_k».proof.Proof.Gen.HgrnGIdeal.Launch
public import proofs.«01_k».proof.Proof.Gen.HgrnGIdeal.Points
public import proofs.«01_k».proof.Proof.Gen.HgrnGIdeal.Frame
public import proofs.«01_k».proof.Proof.Gen.HgrnGIdeal.Value
public import proofs.«01_k».proof.Proof.Gen.HgrnGRefIdeal.Read
public import proofs.«01_k».proof.Proof.Gen.HgrnG
public import proofs.«01_k».proof.Proof.Gen.HgrnG.Skeleton
public import proofs.«01_k».proof.Proof.Gen.HgrnG.Launch
public import proofs.«01_k».proof.Proof.Gen.HgrnG.Points
public import proofs.«01_k».proof.Proof.Gen.HgrnG.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.AttnClaim
public import proofs.«01_k».proof.Proof.GateVal
public import proofs.«01_k».proof.Proof.DownVal
public import proofs.«01_k».proof.Proof.OutVal
public import proofs.«01_k».proof.Proof.ProjQ
public import proofs.«01_k».proof.Proof.ProjF
public import proofs.«01_k».proof.Proof.ProjI
public import proofs.«01_k».proof.Proof.ProjG
public import proofs.«01_k».proof.Proof.QkvVal

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.GateUp.Gen.facts,
    Cert.GateUpIdeal.Gen.facts,
    Cert.GateUpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.HgrnQ.Gen.facts,
    Cert.HgrnQIdeal.Gen.facts,
    Cert.HgrnQRefIdeal.Gen.facts,
    Cert.HgrnF.Gen.facts,
    Cert.HgrnFIdeal.Gen.facts,
    Cert.HgrnFRefIdeal.Gen.facts,
    Cert.HgrnI.Gen.facts,
    Cert.HgrnIIdeal.Gen.facts,
    Cert.HgrnIRefIdeal.Gen.facts,
    Cert.HgrnG.Gen.facts,
    Cert.HgrnGIdeal.Gen.facts,
    Cert.HgrnGRefIdeal.Gen.facts,
    Cert.Qkv.Gen.facts,
    Cert.QkvIdeal.Gen.facts,
    Cert.QkvRefIdeal.Gen.facts,
    Cert.AttnClaim.preFacts,
    Cert.GateVal.preFacts,
    Cert.DownVal.preFacts,
    Cert.ProjQ.preFacts,
    Cert.AttnClaim.frame_kernel,
    Cert.AttnClaim.frame_ideal,
    Cert.AttnClaim.frame_ideal_pre,
    Cert.AttnClaim.frame_reference,
    Cert.AttnClaim.frame_reference_pre,
    Cert.GateVal.frame_kernel,
    Cert.GateVal.frame_ideal,
    Cert.GateVal.frame_ideal_pre,
    Cert.GateVal.frame_reference,
    Cert.GateVal.frame_reference_pre,
    Cert.DownVal.frame_kernel,
    Cert.DownVal.frame_ideal,
    Cert.DownVal.frame_ideal_pre,
    Cert.DownVal.frame_reference,
    Cert.DownVal.frame_reference_pre,
    Cert.OutVal.frame_kernel,
    Cert.OutVal.frame_ideal,
    Cert.OutVal.frame_reference,
    Cert.ProjQ.frame_kernel,
    Cert.ProjQ.frame_ideal,
    Cert.ProjQ.frame_ideal_pre,
    Cert.ProjQ.frame_reference,
    Cert.ProjQ.frame_reference_pre,
    Cert.ProjF.frame_kernel,
    Cert.ProjF.frame_ideal,
    Cert.ProjF.frame_reference,
    Cert.ProjI.frame_kernel,
    Cert.ProjI.frame_ideal,
    Cert.ProjI.frame_reference,
    Cert.ProjG.frame_kernel,
    Cert.ProjG.frame_ideal,
    Cert.ProjG.frame_reference,
    Cert.QkvVal.frame_kernel,
    Cert.QkvVal.frame_ideal,
    Cert.QkvVal.frame_reference,
    trivial,
    Cert.AttnClaim.algebraic,
    trivial,
    Cert.GateVal.algebraic,
    trivial,
    Cert.DownVal.algebraic,
    trivial,
    Cert.OutVal.algebraic,
    trivial,
    Cert.ProjQ.algebraic,
    trivial,
    Cert.ProjF.algebraic,
    trivial,
    Cert.ProjI.algebraic,
    trivial,
    Cert.ProjG.algebraic,
    trivial,
    Cert.QkvVal.algebraic⟩

end Cert.Proof

end
